-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23)
      ∧ r.2.mem ((c.tc : Thread Cert.Kernel10.nD Cert.Kernel10.τ).loc Cert.Kernel10.main_arg24) = m ((c.tc : Thread Cert.Kernel10.nD Cert.Kernel10.τ).loc Cert.Kernel10.main_arg24)
      ∧ r.2.mem ((c.tc : Thread Cert.Kernel10.nD Cert.Kernel10.τ).loc Cert.Kernel10.main_arg25) = m ((c.tc : Thread Cert.Kernel10.nD Cert.Kernel10.τ).loc Cert.Kernel10.main_arg25)
      ∧ r.2.mem ((c.tc : Thread Cert.Kernel10.nD Cert.Kernel10.τ).loc Cert.Kernel10.main_arg26) = m ((c.tc : Thread Cert.Kernel10.nD Cert.Kernel10.τ).loc Cert.Kernel10.main_arg26)
      ∧ r.2.mem ((c.tc : Thread Cert.Kernel10.nD Cert.Kernel10.τ).loc Cert.Kernel10.main_arg27) = m ((c.tc : Thread Cert.Kernel10.nD Cert.Kernel10.τ).loc Cert.Kernel10.main_arg27)
      ∧ r.2.mem ((c.tc : Thread Cert.Kernel10.nD Cert.Kernel10.τ).loc Cert.Kernel10.main_arg28) = m ((c.tc : Thread Cert.Kernel10.nD Cert.Kernel10.τ).loc Cert.Kernel10.main_arg28)
      ∧ r.2.mem ((c.tc : Thread Cert.Kernel10.nD Cert.Kernel10.τ).loc Cert.Kernel10.main_arg29) = m ((c.tc : Thread Cert.Kernel10.nD Cert.Kernel10.τ).loc Cert.Kernel10.main_arg29)
      ∧ r.2.mem ((c.tc : Thread Cert.Kernel10.nD Cert.Kernel10.τ).loc Cert.Kernel10.main_arg30) = m ((c.tc : Thread Cert.Kernel10.nD Cert.Kernel10.τ).loc Cert.Kernel10.main_arg30)
      ∧ r.2.mem ((c.tc : Thread Cert.Kernel10.nD Cert.Kernel10.τ).loc Cert.Kernel10.main_arg31) = m ((c.tc : Thread Cert.Kernel10.nD Cert.Kernel10.τ).loc Cert.Kernel10.main_arg31)
      ∧ r.2.mem ((c.tc : Thread Cert.Kernel10.nD Cert.Kernel10.τ).loc Cert.Kernel10.main_arg32) = m ((c.tc : Thread Cert.Kernel10.nD Cert.Kernel10.τ).loc Cert.Kernel10.main_arg32)
      ∧ r.2.mem ((c.tc : Thread Cert.Kernel10.nD Cert.Kernel10.τ).loc Cert.Kernel10.main_arg33) = m ((c.tc : Thread Cert.Kernel10.nD Cert.Kernel10.τ).loc Cert.Kernel10.main_arg33)
      ∧ r.2.mem ((c.tc : Thread Cert.Kernel10.nD Cert.Kernel10.τ).loc Cert.Kernel10.main_arg34) = m ((c.tc : Thread Cert.Kernel10.nD Cert.Kernel10.τ).loc Cert.Kernel10.main_arg34)
      ∧ r.2.mem ((c.tc : Thread Cert.Kernel10.nD Cert.Kernel10.τ).loc Cert.Kernel10.main_arg35) = m ((c.tc : Thread Cert.Kernel10.nD Cert.Kernel10.τ).loc Cert.Kernel10.main_arg35)
      ∧ r.2.mem ((c.tc : Thread Cert.Kernel10.nD Cert.Kernel10.τ).loc Cert.Kernel10.main_arg36) = m ((c.tc : Thread Cert.Kernel10.nD Cert.Kernel10.τ).loc Cert.Kernel10.main_arg36)
      ∧ r.2.mem ((c.tc : Thread Cert.Kernel10.nD Cert.Kernel10.τ).loc Cert.Kernel10.main_arg37) = m ((c.tc : Thread Cert.Kernel10.nD Cert.Kernel10.τ).loc Cert.Kernel10.main_arg37)
      ∧ r.2.mem ((c.tc : Thread Cert.Kernel10.nD Cert.Kernel10.τ).loc Cert.Kernel10.main_arg38) = m ((c.tc : Thread Cert.Kernel10.nD Cert.Kernel10.τ).loc Cert.Kernel10.main_arg38)
      ∧ r.2.mem ((c.tc : Thread Cert.Kernel10.nD Cert.Kernel10.τ).loc Cert.Kernel10.main_arg39) = m ((c.tc : Thread Cert.Kernel10.nD Cert.Kernel10.τ).loc Cert.Kernel10.main_arg39)
      ∧ r.2.mem ((c.tc : Thread Cert.Kernel10.nD Cert.Kernel10.τ).loc Cert.Kernel10.main_arg40) = m ((c.tc : Thread Cert.Kernel10.nD Cert.Kernel10.τ).loc Cert.Kernel10.main_arg40)
      ∧ r.2.mem ((c.tc : Thread Cert.Kernel10.nD Cert.Kernel10.τ).loc Cert.Kernel10.main_arg41) = m ((c.tc : Thread Cert.Kernel10.nD Cert.Kernel10.τ).loc Cert.Kernel10.main_arg41)
      ∧ r.2.mem ((c.tc : Thread Cert.Kernel10.nD Cert.Kernel10.τ).loc Cert.Kernel10.main_arg42) = m ((c.tc : Thread Cert.Kernel10.nD Cert.Kernel10.τ).loc Cert.Kernel10.main_arg42)
      ∧ r.2.mem ((c.tc : Thread Cert.Kernel10.nD Cert.Kernel10.τ).loc Cert.Kernel10.main_arg43) = m ((c.tc : Thread Cert.Kernel10.nD Cert.Kernel10.τ).loc Cert.Kernel10.main_arg43)
      ∧ r.2.mem ((c.tc : Thread Cert.Kernel10.nD Cert.Kernel10.τ).loc Cert.Kernel10.main_arg44) = m ((c.tc : Thread Cert.Kernel10.nD Cert.Kernel10.τ).loc Cert.Kernel10.main_arg44)
      ∧ r.2.mem ((c.tc : Thread Cert.Kernel10.nD Cert.Kernel10.τ).loc Cert.Kernel10.main_arg45) = m ((c.tc : Thread Cert.Kernel10.nD Cert.Kernel10.τ).loc Cert.Kernel10.main_arg45)
      ∧ r.2.mem ((c.tc : Thread Cert.Kernel10.nD Cert.Kernel10.τ).loc Cert.Kernel10.main_arg46) = m ((c.tc : Thread Cert.Kernel10.nD Cert.Kernel10.τ).loc Cert.Kernel10.main_arg46)
      ∧ r.2.mem ((c.tc : Thread Cert.Kernel10.nD Cert.Kernel10.τ).loc Cert.Kernel10.main_arg47) = m ((c.tc : Thread Cert.Kernel10.nD Cert.Kernel10.τ).loc Cert.Kernel10.main_arg47)
      ∧ r.2.mem ((c.tc : Thread Cert.Kernel10.nD Cert.Kernel10.τ).loc Cert.Kernel10.main_arg48) = m ((c.tc : Thread Cert.Kernel10.nD Cert.Kernel10.τ).loc Cert.Kernel10.main_arg48)
      ∧ r.2.mem ((c.tc : Thread Cert.Kernel10.nD Cert.Kernel10.τ).loc Cert.Kernel10.main_arg49) = m ((c.tc : Thread Cert.Kernel10.nD Cert.Kernel10.τ).loc Cert.Kernel10.main_arg49)
      ∧ r.2.mem ((c.tc : Thread Cert.Kernel10.nD Cert.Kernel10.τ).loc Cert.Kernel10.main_arg50) = m ((c.tc : Thread Cert.Kernel10.nD Cert.Kernel10.τ).loc Cert.Kernel10.main_arg50)
      ∧ r.2.mem ((c.tc : Thread Cert.Kernel10.nD Cert.Kernel10.τ).loc Cert.Kernel10.main_arg51) = m ((c.tc : Thread Cert.Kernel10.nD Cert.Kernel10.τ).loc Cert.Kernel10.main_arg51)
      ∧ r.2.mem ((c.tc : Thread Cert.Kernel10.nD Cert.Kernel10.τ).loc Cert.Kernel10.main_arg52) = m ((c.tc : Thread Cert.Kernel10.nD Cert.Kernel10.τ).loc Cert.Kernel10.main_arg52)
      ∧ r.2.mem ((c.tc : Thread Cert.Kernel10.nD Cert.Kernel10.τ).loc Cert.Kernel10.main_arg53) = m ((c.tc : Thread Cert.Kernel10.nD Cert.Kernel10.τ).loc Cert.Kernel10.main_arg53)
      ∧ r.2.mem ((c.tc : Thread Cert.Kernel10.nD Cert.Kernel10.τ).loc Cert.Kernel10.main_arg54) = m ((c.tc : Thread Cert.Kernel10.nD Cert.Kernel10.τ).loc Cert.Kernel10.main_arg54)
      ∧ r.2.mem ((c.tc : Thread Cert.Kernel10.nD Cert.Kernel10.τ).loc Cert.Kernel10.main_arg55) = m ((c.tc : Thread Cert.Kernel10.nD Cert.Kernel10.τ).loc Cert.Kernel10.main_arg55))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
      ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
      ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
      ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
      ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
      ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
      ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
      ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
      ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
      ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
      ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
      ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
      ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
      ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36)
      ∧ r.2.mem ((c.tc : Thread Cert.Kernel10Ideal.nD Cert.Kernel10Ideal.τ).loc Cert.Kernel10Ideal.main_arg37) = m ((c.tc : Thread Cert.Kernel10Ideal.nD Cert.Kernel10Ideal.τ).loc Cert.Kernel10Ideal.main_arg37)
      ∧ r.2.mem ((c.tc : Thread Cert.Kernel10Ideal.nD Cert.Kernel10Ideal.τ).loc Cert.Kernel10Ideal.main_arg38) = m ((c.tc : Thread Cert.Kernel10Ideal.nD Cert.Kernel10Ideal.τ).loc Cert.Kernel10Ideal.main_arg38)
      ∧ r.2.mem ((c.tc : Thread Cert.Kernel10Ideal.nD Cert.Kernel10Ideal.τ).loc Cert.Kernel10Ideal.main_arg39) = m ((c.tc : Thread Cert.Kernel10Ideal.nD Cert.Kernel10Ideal.τ).loc Cert.Kernel10Ideal.main_arg39)
      ∧ r.2.mem ((c.tc : Thread Cert.Kernel10Ideal.nD Cert.Kernel10Ideal.τ).loc Cert.Kernel10Ideal.main_arg40) = m ((c.tc : Thread Cert.Kernel10Ideal.nD Cert.Kernel10Ideal.τ).loc Cert.Kernel10Ideal.main_arg40)
      ∧ r.2.mem ((c.tc : Thread Cert.Kernel10Ideal.nD Cert.Kernel10Ideal.τ).loc Cert.Kernel10Ideal.main_arg41) = m ((c.tc : Thread Cert.Kernel10Ideal.nD Cert.Kernel10Ideal.τ).loc Cert.Kernel10Ideal.main_arg41)
      ∧ r.2.mem ((c.tc : Thread Cert.Kernel10Ideal.nD Cert.Kernel10Ideal.τ).loc Cert.Kernel10Ideal.main_arg42) = m ((c.tc : Thread Cert.Kernel10Ideal.nD Cert.Kernel10Ideal.τ).loc Cert.Kernel10Ideal.main_arg42)
      ∧ r.2.mem ((c.tc : Thread Cert.Kernel10Ideal.nD Cert.Kernel10Ideal.τ).loc Cert.Kernel10Ideal.main_arg43) = m ((c.tc : Thread Cert.Kernel10Ideal.nD Cert.Kernel10Ideal.τ).loc Cert.Kernel10Ideal.main_arg43)
      ∧ r.2.mem ((c.tc : Thread Cert.Kernel10Ideal.nD Cert.Kernel10Ideal.τ).loc Cert.Kernel10Ideal.main_arg44) = m ((c.tc : Thread Cert.Kernel10Ideal.nD Cert.Kernel10Ideal.τ).loc Cert.Kernel10Ideal.main_arg44)
      ∧ r.2.mem ((c.tc : Thread Cert.Kernel10Ideal.nD Cert.Kernel10Ideal.τ).loc Cert.Kernel10Ideal.main_arg45) = m ((c.tc : Thread Cert.Kernel10Ideal.nD Cert.Kernel10Ideal.τ).loc Cert.Kernel10Ideal.main_arg45)
      ∧ r.2.mem ((c.tc : Thread Cert.Kernel10Ideal.nD Cert.Kernel10Ideal.τ).loc Cert.Kernel10Ideal.main_arg46) = m ((c.tc : Thread Cert.Kernel10Ideal.nD Cert.Kernel10Ideal.τ).loc Cert.Kernel10Ideal.main_arg46)
      ∧ r.2.mem ((c.tc : Thread Cert.Kernel10Ideal.nD Cert.Kernel10Ideal.τ).loc Cert.Kernel10Ideal.main_arg47) = m ((c.tc : Thread Cert.Kernel10Ideal.nD Cert.Kernel10Ideal.τ).loc Cert.Kernel10Ideal.main_arg47)
      ∧ r.2.mem ((c.tc : Thread Cert.Kernel10Ideal.nD Cert.Kernel10Ideal.τ).loc Cert.Kernel10Ideal.main_arg48) = m ((c.tc : Thread Cert.Kernel10Ideal.nD Cert.Kernel10Ideal.τ).loc Cert.Kernel10Ideal.main_arg48)
      ∧ r.2.mem ((c.tc : Thread Cert.Kernel10Ideal.nD Cert.Kernel10Ideal.τ).loc Cert.Kernel10Ideal.main_arg49) = m ((c.tc : Thread Cert.Kernel10Ideal.nD Cert.Kernel10Ideal.τ).loc Cert.Kernel10Ideal.main_arg49)
      ∧ r.2.mem ((c.tc : Thread Cert.Kernel10Ideal.nD Cert.Kernel10Ideal.τ).loc Cert.Kernel10Ideal.main_arg50) = m ((c.tc : Thread Cert.Kernel10Ideal.nD Cert.Kernel10Ideal.τ).loc Cert.Kernel10Ideal.main_arg50)
      ∧ r.2.mem ((c.tc : Thread Cert.Kernel10Ideal.nD Cert.Kernel10Ideal.τ).loc Cert.Kernel10Ideal.main_arg51) = m ((c.tc : Thread Cert.Kernel10Ideal.nD Cert.Kernel10Ideal.τ).loc Cert.Kernel10Ideal.main_arg51)
      ∧ r.2.mem ((c.tc : Thread Cert.Kernel10Ideal.nD Cert.Kernel10Ideal.τ).loc Cert.Kernel10Ideal.main_arg52) = m ((c.tc : Thread Cert.Kernel10Ideal.nD Cert.Kernel10Ideal.τ).loc Cert.Kernel10Ideal.main_arg52)
      ∧ r.2.mem ((c.tc : Thread Cert.Kernel10Ideal.nD Cert.Kernel10Ideal.τ).loc Cert.Kernel10Ideal.main_arg53) = m ((c.tc : Thread Cert.Kernel10Ideal.nD Cert.Kernel10Ideal.τ).loc Cert.Kernel10Ideal.main_arg53)
      ∧ r.2.mem ((c.tc : Thread Cert.Kernel10Ideal.nD Cert.Kernel10Ideal.τ).loc Cert.Kernel10Ideal.main_arg54) = m ((c.tc : Thread Cert.Kernel10Ideal.nD Cert.Kernel10Ideal.τ).loc Cert.Kernel10Ideal.main_arg54)
      ∧ r.2.mem ((c.tc : Thread Cert.Kernel10Ideal.nD Cert.Kernel10Ideal.τ).loc Cert.Kernel10Ideal.main_arg55) = m ((c.tc : Thread Cert.Kernel10Ideal.nD Cert.Kernel10Ideal.τ).loc Cert.Kernel10Ideal.main_arg55))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23)
      ∧ r.2.mem ((c.tc : Thread Cert.Reference10Ideal.nD Cert.Reference10Ideal.τ).loc Cert.Reference10Ideal.main_arg24) = m ((c.tc : Thread Cert.Reference10Ideal.nD Cert.Reference10Ideal.τ).loc Cert.Reference10Ideal.main_arg24)
      ∧ r.2.mem ((c.tc : Thread Cert.Reference10Ideal.nD Cert.Reference10Ideal.τ).loc Cert.Reference10Ideal.main_arg25) = m ((c.tc : Thread Cert.Reference10Ideal.nD Cert.Reference10Ideal.τ).loc Cert.Reference10Ideal.main_arg25)
      ∧ r.2.mem ((c.tc : Thread Cert.Reference10Ideal.nD Cert.Reference10Ideal.τ).loc Cert.Reference10Ideal.main_arg26) = m ((c.tc : Thread Cert.Reference10Ideal.nD Cert.Reference10Ideal.τ).loc Cert.Reference10Ideal.main_arg26)
      ∧ r.2.mem ((c.tc : Thread Cert.Reference10Ideal.nD Cert.Reference10Ideal.τ).loc Cert.Reference10Ideal.main_arg27) = m ((c.tc : Thread Cert.Reference10Ideal.nD Cert.Reference10Ideal.τ).loc Cert.Reference10Ideal.main_arg27)
      ∧ r.2.mem ((c.tc : Thread Cert.Reference10Ideal.nD Cert.Reference10Ideal.τ).loc Cert.Reference10Ideal.main_arg28) = m ((c.tc : Thread Cert.Reference10Ideal.nD Cert.Reference10Ideal.τ).loc Cert.Reference10Ideal.main_arg28)
      ∧ r.2.mem ((c.tc : Thread Cert.Reference10Ideal.nD Cert.Reference10Ideal.τ).loc Cert.Reference10Ideal.main_arg29) = m ((c.tc : Thread Cert.Reference10Ideal.nD Cert.Reference10Ideal.τ).loc Cert.Reference10Ideal.main_arg29)
      ∧ r.2.mem ((c.tc : Thread Cert.Reference10Ideal.nD Cert.Reference10Ideal.τ).loc Cert.Reference10Ideal.main_arg30) = m ((c.tc : Thread Cert.Reference10Ideal.nD Cert.Reference10Ideal.τ).loc Cert.Reference10Ideal.main_arg30)
      ∧ r.2.mem ((c.tc : Thread Cert.Reference10Ideal.nD Cert.Reference10Ideal.τ).loc Cert.Reference10Ideal.main_arg31) = m ((c.tc : Thread Cert.Reference10Ideal.nD Cert.Reference10Ideal.τ).loc Cert.Reference10Ideal.main_arg31)
      ∧ r.2.mem ((c.tc : Thread Cert.Reference10Ideal.nD Cert.Reference10Ideal.τ).loc Cert.Reference10Ideal.main_arg32) = m ((c.tc : Thread Cert.Reference10Ideal.nD Cert.Reference10Ideal.τ).loc Cert.Reference10Ideal.main_arg32)
      ∧ r.2.mem ((c.tc : Thread Cert.Reference10Ideal.nD Cert.Reference10Ideal.τ).loc Cert.Reference10Ideal.main_arg33) = m ((c.tc : Thread Cert.Reference10Ideal.nD Cert.Reference10Ideal.τ).loc Cert.Reference10Ideal.main_arg33)
      ∧ r.2.mem ((c.tc : Thread Cert.Reference10Ideal.nD Cert.Reference10Ideal.τ).loc Cert.Reference10Ideal.main_arg34) = m ((c.tc : Thread Cert.Reference10Ideal.nD Cert.Reference10Ideal.τ).loc Cert.Reference10Ideal.main_arg34)
      ∧ r.2.mem ((c.tc : Thread Cert.Reference10Ideal.nD Cert.Reference10Ideal.τ).loc Cert.Reference10Ideal.main_arg35) = m ((c.tc : Thread Cert.Reference10Ideal.nD Cert.Reference10Ideal.τ).loc Cert.Reference10Ideal.main_arg35)
      ∧ r.2.mem ((c.tc : Thread Cert.Reference10Ideal.nD Cert.Reference10Ideal.τ).loc Cert.Reference10Ideal.main_arg36) = m ((c.tc : Thread Cert.Reference10Ideal.nD Cert.Reference10Ideal.τ).loc Cert.Reference10Ideal.main_arg36)
      ∧ r.2.mem ((c.tc : Thread Cert.Reference10Ideal.nD Cert.Reference10Ideal.τ).loc Cert.Reference10Ideal.main_arg37) = m ((c.tc : Thread Cert.Reference10Ideal.nD Cert.Reference10Ideal.τ).loc Cert.Reference10Ideal.main_arg37)
      ∧ r.2.mem ((c.tc : Thread Cert.Reference10Ideal.nD Cert.Reference10Ideal.τ).loc Cert.Reference10Ideal.main_arg38) = m ((c.tc : Thread Cert.Reference10Ideal.nD Cert.Reference10Ideal.τ).loc Cert.Reference10Ideal.main_arg38)
      ∧ r.2.mem ((c.tc : Thread Cert.Reference10Ideal.nD Cert.Reference10Ideal.τ).loc Cert.Reference10Ideal.main_arg39) = m ((c.tc : Thread Cert.Reference10Ideal.nD Cert.Reference10Ideal.τ).loc Cert.Reference10Ideal.main_arg39)
      ∧ r.2.mem ((c.tc : Thread Cert.Reference10Ideal.nD Cert.Reference10Ideal.τ).loc Cert.Reference10Ideal.main_arg40) = m ((c.tc : Thread Cert.Reference10Ideal.nD Cert.Reference10Ideal.τ).loc Cert.Reference10Ideal.main_arg40)
      ∧ r.2.mem ((c.tc : Thread Cert.Reference10Ideal.nD Cert.Reference10Ideal.τ).loc Cert.Reference10Ideal.main_arg41) = m ((c.tc : Thread Cert.Reference10Ideal.nD Cert.Reference10Ideal.τ).loc Cert.Reference10Ideal.main_arg41)
      ∧ r.2.mem ((c.tc : Thread Cert.Reference10Ideal.nD Cert.Reference10Ideal.τ).loc Cert.Reference10Ideal.main_arg42) = m ((c.tc : Thread Cert.Reference10Ideal.nD Cert.Reference10Ideal.τ).loc Cert.Reference10Ideal.main_arg42)
      ∧ r.2.mem ((c.tc : Thread Cert.Reference10Ideal.nD Cert.Reference10Ideal.τ).loc Cert.Reference10Ideal.main_arg43) = m ((c.tc : Thread Cert.Reference10Ideal.nD Cert.Reference10Ideal.τ).loc Cert.Reference10Ideal.main_arg43)
      ∧ r.2.mem ((c.tc : Thread Cert.Reference10Ideal.nD Cert.Reference10Ideal.τ).loc Cert.Reference10Ideal.main_arg44) = m ((c.tc : Thread Cert.Reference10Ideal.nD Cert.Reference10Ideal.τ).loc Cert.Reference10Ideal.main_arg44)
      ∧ r.2.mem ((c.tc : Thread Cert.Reference10Ideal.nD Cert.Reference10Ideal.τ).loc Cert.Reference10Ideal.main_arg45) = m ((c.tc : Thread Cert.Reference10Ideal.nD Cert.Reference10Ideal.τ).loc Cert.Reference10Ideal.main_arg45)
      ∧ r.2.mem ((c.tc : Thread Cert.Reference10Ideal.nD Cert.Reference10Ideal.τ).loc Cert.Reference10Ideal.main_arg46) = m ((c.tc : Thread Cert.Reference10Ideal.nD Cert.Reference10Ideal.τ).loc Cert.Reference10Ideal.main_arg46)
      ∧ r.2.mem ((c.tc : Thread Cert.Reference10Ideal.nD Cert.Reference10Ideal.τ).loc Cert.Reference10Ideal.main_arg47) = m ((c.tc : Thread Cert.Reference10Ideal.nD Cert.Reference10Ideal.τ).loc Cert.Reference10Ideal.main_arg47)
      ∧ r.2.mem ((c.tc : Thread Cert.Reference10Ideal.nD Cert.Reference10Ideal.τ).loc Cert.Reference10Ideal.main_arg48) = m ((c.tc : Thread Cert.Reference10Ideal.nD Cert.Reference10Ideal.τ).loc Cert.Reference10Ideal.main_arg48)
      ∧ r.2.mem ((c.tc : Thread Cert.Reference10Ideal.nD Cert.Reference10Ideal.τ).loc Cert.Reference10Ideal.main_arg49) = m ((c.tc : Thread Cert.Reference10Ideal.nD Cert.Reference10Ideal.τ).loc Cert.Reference10Ideal.main_arg49)
      ∧ r.2.mem ((c.tc : Thread Cert.Reference10Ideal.nD Cert.Reference10Ideal.τ).loc Cert.Reference10Ideal.main_arg50) = m ((c.tc : Thread Cert.Reference10Ideal.nD Cert.Reference10Ideal.τ).loc Cert.Reference10Ideal.main_arg50)
      ∧ r.2.mem ((c.tc : Thread Cert.Reference10Ideal.nD Cert.Reference10Ideal.τ).loc Cert.Reference10Ideal.main_arg51) = m ((c.tc : Thread Cert.Reference10Ideal.nD Cert.Reference10Ideal.τ).loc Cert.Reference10Ideal.main_arg51)
      ∧ r.2.mem ((c.tc : Thread Cert.Reference10Ideal.nD Cert.Reference10Ideal.τ).loc Cert.Reference10Ideal.main_arg52) = m ((c.tc : Thread Cert.Reference10Ideal.nD Cert.Reference10Ideal.τ).loc Cert.Reference10Ideal.main_arg52)
      ∧ r.2.mem ((c.tc : Thread Cert.Reference10Ideal.nD Cert.Reference10Ideal.τ).loc Cert.Reference10Ideal.main_arg53) = m ((c.tc : Thread Cert.Reference10Ideal.nD Cert.Reference10Ideal.τ).loc Cert.Reference10Ideal.main_arg53)
      ∧ r.2.mem ((c.tc : Thread Cert.Reference10Ideal.nD Cert.Reference10Ideal.τ).loc Cert.Reference10Ideal.main_arg54) = m ((c.tc : Thread Cert.Reference10Ideal.nD Cert.Reference10Ideal.τ).loc Cert.Reference10Ideal.main_arg54)
      ∧ r.2.mem ((c.tc : Thread Cert.Reference10Ideal.nD Cert.Reference10Ideal.τ).loc Cert.Reference10Ideal.main_arg55) = m ((c.tc : Thread Cert.Reference10Ideal.nD Cert.Reference10Ideal.τ).loc Cert.Reference10Ideal.main_arg55))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v88) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "c1" .f32 0x3FC48605#32 ((8388608 / 5463681 : ℝ) : EReal)
  ∧ IdealRules.named_const.Statement Cert.Kernel4Ideal.κ "c2" .f32 0x42C8E6D3#32 ((268435456 / 2672307 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "c1" .f32 0x3FC48605#32 ((8388608 / 5463681 : ℝ) : EReal)
  ∧ IdealRules.named_const.Statement Cert.Kernel5Ideal.κ "c2" .f32 0x42C8E6D3#32 ((268435456 / 2672307 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "c1" .f32 0x3FC48605#32 ((8388608 / 5463681 : ℝ) : EReal)
  ∧ IdealRules.named_const.Statement Cert.Kernel6Ideal.κ "c2" .f32 0x42C8E6D3#32 ((268435456 / 2672307 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "c1" .f32 0x3FC48605#32 ((8388608 / 5463681 : ℝ) : EReal)
  ∧ IdealRules.named_const.Statement Cert.Kernel7Ideal.κ "c2" .f32 0x42C8E6D3#32 ((268435456 / 2672307 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "c1" .f32 0x3FC48605#32 ((8388608 / 5463681 : ℝ) : EReal)
  ∧ IdealRules.named_const.Statement Cert.Kernel8Ideal.κ "c2" .f32 0x42C8E6D3#32 ((268435456 / 2672307 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "c1" .f32 0x3FC48605#32 ((8388608 / 5463681 : ℝ) : EReal)
  ∧ IdealRules.named_const.Statement Cert.Kernel9Ideal.κ "c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v30) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)
      ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24)
      ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25)
      ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26)
      ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27)
      ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28)
      ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29)
      ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30)
      ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31)
      ∧ m' ((c.tc : Thread Cert.Reference10Ideal.nD Cert.Reference10Ideal.τ).loc Cert.Reference10Ideal.main_arg32) = m ((c.tc : Thread Cert.Kernel10Ideal.nD Cert.Kernel10Ideal.τ).loc Cert.Kernel10Ideal.main_arg32)
      ∧ m' ((c.tc : Thread Cert.Reference10Ideal.nD Cert.Reference10Ideal.τ).loc Cert.Reference10Ideal.main_arg33) = m ((c.tc : Thread Cert.Kernel10Ideal.nD Cert.Kernel10Ideal.τ).loc Cert.Kernel10Ideal.main_arg33)
      ∧ m' ((c.tc : Thread Cert.Reference10Ideal.nD Cert.Reference10Ideal.τ).loc Cert.Reference10Ideal.main_arg34) = m ((c.tc : Thread Cert.Kernel10Ideal.nD Cert.Kernel10Ideal.τ).loc Cert.Kernel10Ideal.main_arg34)
      ∧ m' ((c.tc : Thread Cert.Reference10Ideal.nD Cert.Reference10Ideal.τ).loc Cert.Reference10Ideal.main_arg35) = m ((c.tc : Thread Cert.Kernel10Ideal.nD Cert.Kernel10Ideal.τ).loc Cert.Kernel10Ideal.main_arg35)
      ∧ m' ((c.tc : Thread Cert.Reference10Ideal.nD Cert.Reference10Ideal.τ).loc Cert.Reference10Ideal.main_arg36) = m ((c.tc : Thread Cert.Kernel10Ideal.nD Cert.Kernel10Ideal.τ).loc Cert.Kernel10Ideal.main_arg36)
      ∧ m' ((c.tc : Thread Cert.Reference10Ideal.nD Cert.Reference10Ideal.τ).loc Cert.Reference10Ideal.main_arg37) = m ((c.tc : Thread Cert.Kernel10Ideal.nD Cert.Kernel10Ideal.τ).loc Cert.Kernel10Ideal.main_arg37)
      ∧ m' ((c.tc : Thread Cert.Reference10Ideal.nD Cert.Reference10Ideal.τ).loc Cert.Reference10Ideal.main_arg38) = m ((c.tc : Thread Cert.Kernel10Ideal.nD Cert.Kernel10Ideal.τ).loc Cert.Kernel10Ideal.main_arg38)
      ∧ m' ((c.tc : Thread Cert.Reference10Ideal.nD Cert.Reference10Ideal.τ).loc Cert.Reference10Ideal.main_arg39) = m ((c.tc : Thread Cert.Kernel10Ideal.nD Cert.Kernel10Ideal.τ).loc Cert.Kernel10Ideal.main_arg39)
      ∧ m' ((c.tc : Thread Cert.Reference10Ideal.nD Cert.Reference10Ideal.τ).loc Cert.Reference10Ideal.main_arg40) = m ((c.tc : Thread Cert.Kernel10Ideal.nD Cert.Kernel10Ideal.τ).loc Cert.Kernel10Ideal.main_arg40)
      ∧ m' ((c.tc : Thread Cert.Reference10Ideal.nD Cert.Reference10Ideal.τ).loc Cert.Reference10Ideal.main_arg41) = m ((c.tc : Thread Cert.Kernel10Ideal.nD Cert.Kernel10Ideal.τ).loc Cert.Kernel10Ideal.main_arg41)
      ∧ m' ((c.tc : Thread Cert.Reference10Ideal.nD Cert.Reference10Ideal.τ).loc Cert.Reference10Ideal.main_arg42) = m ((c.tc : Thread Cert.Kernel10Ideal.nD Cert.Kernel10Ideal.τ).loc Cert.Kernel10Ideal.main_arg42)
      ∧ m' ((c.tc : Thread Cert.Reference10Ideal.nD Cert.Reference10Ideal.τ).loc Cert.Reference10Ideal.main_arg43) = m ((c.tc : Thread Cert.Kernel10Ideal.nD Cert.Kernel10Ideal.τ).loc Cert.Kernel10Ideal.main_arg43)
      ∧ m' ((c.tc : Thread Cert.Reference10Ideal.nD Cert.Reference10Ideal.τ).loc Cert.Reference10Ideal.main_arg44) = m ((c.tc : Thread Cert.Kernel10Ideal.nD Cert.Kernel10Ideal.τ).loc Cert.Kernel10Ideal.main_arg44)
      ∧ m' ((c.tc : Thread Cert.Reference10Ideal.nD Cert.Reference10Ideal.τ).loc Cert.Reference10Ideal.main_arg45) = m ((c.tc : Thread Cert.Kernel10Ideal.nD Cert.Kernel10Ideal.τ).loc Cert.Kernel10Ideal.main_arg45)
      ∧ m' ((c.tc : Thread Cert.Reference10Ideal.nD Cert.Reference10Ideal.τ).loc Cert.Reference10Ideal.main_arg46) = m ((c.tc : Thread Cert.Kernel10Ideal.nD Cert.Kernel10Ideal.τ).loc Cert.Kernel10Ideal.main_arg46)
      ∧ m' ((c.tc : Thread Cert.Reference10Ideal.nD Cert.Reference10Ideal.τ).loc Cert.Reference10Ideal.main_arg47) = m ((c.tc : Thread Cert.Kernel10Ideal.nD Cert.Kernel10Ideal.τ).loc Cert.Kernel10Ideal.main_arg47)
      ∧ m' ((c.tc : Thread Cert.Reference10Ideal.nD Cert.Reference10Ideal.τ).loc Cert.Reference10Ideal.main_arg48) = m ((c.tc : Thread Cert.Kernel10Ideal.nD Cert.Kernel10Ideal.τ).loc Cert.Kernel10Ideal.main_arg48)
      ∧ m' ((c.tc : Thread Cert.Reference10Ideal.nD Cert.Reference10Ideal.τ).loc Cert.Reference10Ideal.main_arg49) = m ((c.tc : Thread Cert.Kernel10Ideal.nD Cert.Kernel10Ideal.τ).loc Cert.Kernel10Ideal.main_arg49)
      ∧ m' ((c.tc : Thread Cert.Reference10Ideal.nD Cert.Reference10Ideal.τ).loc Cert.Reference10Ideal.main_arg50) = m ((c.tc : Thread Cert.Kernel10Ideal.nD Cert.Kernel10Ideal.τ).loc Cert.Kernel10Ideal.main_arg50)
      ∧ m' ((c.tc : Thread Cert.Reference10Ideal.nD Cert.Reference10Ideal.τ).loc Cert.Reference10Ideal.main_arg51) = m ((c.tc : Thread Cert.Kernel10Ideal.nD Cert.Kernel10Ideal.τ).loc Cert.Kernel10Ideal.main_arg51)
      ∧ m' ((c.tc : Thread Cert.Reference10Ideal.nD Cert.Reference10Ideal.τ).loc Cert.Reference10Ideal.main_arg52) = m ((c.tc : Thread Cert.Kernel10Ideal.nD Cert.Kernel10Ideal.τ).loc Cert.Kernel10Ideal.main_arg52)
      ∧ m' ((c.tc : Thread Cert.Reference10Ideal.nD Cert.Reference10Ideal.τ).loc Cert.Reference10Ideal.main_arg53) = m ((c.tc : Thread Cert.Kernel10Ideal.nD Cert.Kernel10Ideal.τ).loc Cert.Kernel10Ideal.main_arg53)
      ∧ m' ((c.tc : Thread Cert.Reference10Ideal.nD Cert.Reference10Ideal.τ).loc Cert.Reference10Ideal.main_arg54) = m ((c.tc : Thread Cert.Kernel10Ideal.nD Cert.Kernel10Ideal.τ).loc Cert.Kernel10Ideal.main_arg54)
      ∧ m' ((c.tc : Thread Cert.Reference10Ideal.nD Cert.Reference10Ideal.τ).loc Cert.Reference10Ideal.main_arg55) = m ((c.tc : Thread Cert.Kernel10Ideal.nD Cert.Kernel10Ideal.τ).loc Cert.Kernel10Ideal.main_arg55)) →
    ∃ (v0 : (c : Dev Cert.Kernel10Ideal.nD) → Buf (Elt Ideal) ((c.tc : Thread Cert.Kernel10Ideal.nD Cert.Kernel10Ideal.τ).loc Cert.Kernel10Ideal.main_v52_0)) (v1 : (c : Dev Cert.Kernel10Ideal.nD) → Buf (Elt Ideal) ((c.tc : Thread Cert.Kernel10Ideal.nD Cert.Kernel10Ideal.τ).loc Cert.Kernel10Ideal.main_v52_1)) (v2 : (c : Dev Cert.Kernel10Ideal.nD) → Buf (Elt Ideal) ((c.tc : Thread Cert.Kernel10Ideal.nD Cert.Kernel10Ideal.τ).loc Cert.Kernel10Ideal.main_v52_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v52_0) = v0 c
          ∧ r.2.mem ((c.tc : Thread Cert.Kernel10Ideal.nD Cert.Kernel10Ideal.τ).loc Cert.Kernel10Ideal.main_v52_1) = v1 c
          ∧ r.2.mem ((c.tc : Thread Cert.Kernel10Ideal.nD Cert.Kernel10Ideal.τ).loc Cert.Kernel10Ideal.main_v52_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
          ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
          ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
          ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
          ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
          ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
          ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
          ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
          ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
          ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
          ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
          ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
          ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
          ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36)
          ∧ r.2.mem ((c.tc : Thread Cert.Kernel10Ideal.nD Cert.Kernel10Ideal.τ).loc Cert.Kernel10Ideal.main_arg37) = m ((c.tc : Thread Cert.Kernel10Ideal.nD Cert.Kernel10Ideal.τ).loc Cert.Kernel10Ideal.main_arg37)
          ∧ r.2.mem ((c.tc : Thread Cert.Kernel10Ideal.nD Cert.Kernel10Ideal.τ).loc Cert.Kernel10Ideal.main_arg38) = m ((c.tc : Thread Cert.Kernel10Ideal.nD Cert.Kernel10Ideal.τ).loc Cert.Kernel10Ideal.main_arg38)
          ∧ r.2.mem ((c.tc : Thread Cert.Kernel10Ideal.nD Cert.Kernel10Ideal.τ).loc Cert.Kernel10Ideal.main_arg39) = m ((c.tc : Thread Cert.Kernel10Ideal.nD Cert.Kernel10Ideal.τ).loc Cert.Kernel10Ideal.main_arg39)
          ∧ r.2.mem ((c.tc : Thread Cert.Kernel10Ideal.nD Cert.Kernel10Ideal.τ).loc Cert.Kernel10Ideal.main_arg40) = m ((c.tc : Thread Cert.Kernel10Ideal.nD Cert.Kernel10Ideal.τ).loc Cert.Kernel10Ideal.main_arg40)
          ∧ r.2.mem ((c.tc : Thread Cert.Kernel10Ideal.nD Cert.Kernel10Ideal.τ).loc Cert.Kernel10Ideal.main_arg41) = m ((c.tc : Thread Cert.Kernel10Ideal.nD Cert.Kernel10Ideal.τ).loc Cert.Kernel10Ideal.main_arg41)
          ∧ r.2.mem ((c.tc : Thread Cert.Kernel10Ideal.nD Cert.Kernel10Ideal.τ).loc Cert.Kernel10Ideal.main_arg42) = m ((c.tc : Thread Cert.Kernel10Ideal.nD Cert.Kernel10Ideal.τ).loc Cert.Kernel10Ideal.main_arg42)
          ∧ r.2.mem ((c.tc : Thread Cert.Kernel10Ideal.nD Cert.Kernel10Ideal.τ).loc Cert.Kernel10Ideal.main_arg43) = m ((c.tc : Thread Cert.Kernel10Ideal.nD Cert.Kernel10Ideal.τ).loc Cert.Kernel10Ideal.main_arg43)
          ∧ r.2.mem ((c.tc : Thread Cert.Kernel10Ideal.nD Cert.Kernel10Ideal.τ).loc Cert.Kernel10Ideal.main_arg44) = m ((c.tc : Thread Cert.Kernel10Ideal.nD Cert.Kernel10Ideal.τ).loc Cert.Kernel10Ideal.main_arg44)
          ∧ r.2.mem ((c.tc : Thread Cert.Kernel10Ideal.nD Cert.Kernel10Ideal.τ).loc Cert.Kernel10Ideal.main_arg45) = m ((c.tc : Thread Cert.Kernel10Ideal.nD Cert.Kernel10Ideal.τ).loc Cert.Kernel10Ideal.main_arg45)
          ∧ r.2.mem ((c.tc : Thread Cert.Kernel10Ideal.nD Cert.Kernel10Ideal.τ).loc Cert.Kernel10Ideal.main_arg46) = m ((c.tc : Thread Cert.Kernel10Ideal.nD Cert.Kernel10Ideal.τ).loc Cert.Kernel10Ideal.main_arg46)
          ∧ r.2.mem ((c.tc : Thread Cert.Kernel10Ideal.nD Cert.Kernel10Ideal.τ).loc Cert.Kernel10Ideal.main_arg47) = m ((c.tc : Thread Cert.Kernel10Ideal.nD Cert.Kernel10Ideal.τ).loc Cert.Kernel10Ideal.main_arg47)
          ∧ r.2.mem ((c.tc : Thread Cert.Kernel10Ideal.nD Cert.Kernel10Ideal.τ).loc Cert.Kernel10Ideal.main_arg48) = m ((c.tc : Thread Cert.Kernel10Ideal.nD Cert.Kernel10Ideal.τ).loc Cert.Kernel10Ideal.main_arg48)
          ∧ r.2.mem ((c.tc : Thread Cert.Kernel10Ideal.nD Cert.Kernel10Ideal.τ).loc Cert.Kernel10Ideal.main_arg49) = m ((c.tc : Thread Cert.Kernel10Ideal.nD Cert.Kernel10Ideal.τ).loc Cert.Kernel10Ideal.main_arg49)
          ∧ r.2.mem ((c.tc : Thread Cert.Kernel10Ideal.nD Cert.Kernel10Ideal.τ).loc Cert.Kernel10Ideal.main_arg50) = m ((c.tc : Thread Cert.Kernel10Ideal.nD Cert.Kernel10Ideal.τ).loc Cert.Kernel10Ideal.main_arg50)
          ∧ r.2.mem ((c.tc : Thread Cert.Kernel10Ideal.nD Cert.Kernel10Ideal.τ).loc Cert.Kernel10Ideal.main_arg51) = m ((c.tc : Thread Cert.Kernel10Ideal.nD Cert.Kernel10Ideal.τ).loc Cert.Kernel10Ideal.main_arg51)
          ∧ r.2.mem ((c.tc : Thread Cert.Kernel10Ideal.nD Cert.Kernel10Ideal.τ).loc Cert.Kernel10Ideal.main_arg52) = m ((c.tc : Thread Cert.Kernel10Ideal.nD Cert.Kernel10Ideal.τ).loc Cert.Kernel10Ideal.main_arg52)
          ∧ r.2.mem ((c.tc : Thread Cert.Kernel10Ideal.nD Cert.Kernel10Ideal.τ).loc Cert.Kernel10Ideal.main_arg53) = m ((c.tc : Thread Cert.Kernel10Ideal.nD Cert.Kernel10Ideal.τ).loc Cert.Kernel10Ideal.main_arg53)
          ∧ r.2.mem ((c.tc : Thread Cert.Kernel10Ideal.nD Cert.Kernel10Ideal.τ).loc Cert.Kernel10Ideal.main_arg54) = m ((c.tc : Thread Cert.Kernel10Ideal.nD Cert.Kernel10Ideal.τ).loc Cert.Kernel10Ideal.main_arg54)
          ∧ r.2.mem ((c.tc : Thread Cert.Kernel10Ideal.nD Cert.Kernel10Ideal.τ).loc Cert.Kernel10Ideal.main_arg55) = m ((c.tc : Thread Cert.Kernel10Ideal.nD Cert.Kernel10Ideal.τ).loc Cert.Kernel10Ideal.main_arg55))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v75) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_v62) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27)
          ∧ r.2.mem ((c.tc : Thread Cert.Reference10Ideal.nD Cert.Reference10Ideal.τ).loc Cert.Reference10Ideal.main_arg28) = m' ((c.tc : Thread Cert.Reference10Ideal.nD Cert.Reference10Ideal.τ).loc Cert.Reference10Ideal.main_arg28)
          ∧ r.2.mem ((c.tc : Thread Cert.Reference10Ideal.nD Cert.Reference10Ideal.τ).loc Cert.Reference10Ideal.main_arg29) = m' ((c.tc : Thread Cert.Reference10Ideal.nD Cert.Reference10Ideal.τ).loc Cert.Reference10Ideal.main_arg29)
          ∧ r.2.mem ((c.tc : Thread Cert.Reference10Ideal.nD Cert.Reference10Ideal.τ).loc Cert.Reference10Ideal.main_arg30) = m' ((c.tc : Thread Cert.Reference10Ideal.nD Cert.Reference10Ideal.τ).loc Cert.Reference10Ideal.main_arg30)
          ∧ r.2.mem ((c.tc : Thread Cert.Reference10Ideal.nD Cert.Reference10Ideal.τ).loc Cert.Reference10Ideal.main_arg31) = m' ((c.tc : Thread Cert.Reference10Ideal.nD Cert.Reference10Ideal.τ).loc Cert.Reference10Ideal.main_arg31)
          ∧ r.2.mem ((c.tc : Thread Cert.Reference10Ideal.nD Cert.Reference10Ideal.τ).loc Cert.Reference10Ideal.main_arg32) = m' ((c.tc : Thread Cert.Reference10Ideal.nD Cert.Reference10Ideal.τ).loc Cert.Reference10Ideal.main_arg32)
          ∧ r.2.mem ((c.tc : Thread Cert.Reference10Ideal.nD Cert.Reference10Ideal.τ).loc Cert.Reference10Ideal.main_arg33) = m' ((c.tc : Thread Cert.Reference10Ideal.nD Cert.Reference10Ideal.τ).loc Cert.Reference10Ideal.main_arg33)
          ∧ r.2.mem ((c.tc : Thread Cert.Reference10Ideal.nD Cert.Reference10Ideal.τ).loc Cert.Reference10Ideal.main_arg34) = m' ((c.tc : Thread Cert.Reference10Ideal.nD Cert.Reference10Ideal.τ).loc Cert.Reference10Ideal.main_arg34)
          ∧ r.2.mem ((c.tc : Thread Cert.Reference10Ideal.nD Cert.Reference10Ideal.τ).loc Cert.Reference10Ideal.main_arg35) = m' ((c.tc : Thread Cert.Reference10Ideal.nD Cert.Reference10Ideal.τ).loc Cert.Reference10Ideal.main_arg35)
          ∧ r.2.mem ((c.tc : Thread Cert.Reference10Ideal.nD Cert.Reference10Ideal.τ).loc Cert.Reference10Ideal.main_arg36) = m' ((c.tc : Thread Cert.Reference10Ideal.nD Cert.Reference10Ideal.τ).loc Cert.Reference10Ideal.main_arg36)
          ∧ r.2.mem ((c.tc : Thread Cert.Reference10Ideal.nD Cert.Reference10Ideal.τ).loc Cert.Reference10Ideal.main_arg37) = m' ((c.tc : Thread Cert.Reference10Ideal.nD Cert.Reference10Ideal.τ).loc Cert.Reference10Ideal.main_arg37)
          ∧ r.2.mem ((c.tc : Thread Cert.Reference10Ideal.nD Cert.Reference10Ideal.τ).loc Cert.Reference10Ideal.main_arg38) = m' ((c.tc : Thread Cert.Reference10Ideal.nD Cert.Reference10Ideal.τ).loc Cert.Reference10Ideal.main_arg38)
          ∧ r.2.mem ((c.tc : Thread Cert.Reference10Ideal.nD Cert.Reference10Ideal.τ).loc Cert.Reference10Ideal.main_arg39) = m' ((c.tc : Thread Cert.Reference10Ideal.nD Cert.Reference10Ideal.τ).loc Cert.Reference10Ideal.main_arg39)
          ∧ r.2.mem ((c.tc : Thread Cert.Reference10Ideal.nD Cert.Reference10Ideal.τ).loc Cert.Reference10Ideal.main_arg40) = m' ((c.tc : Thread Cert.Reference10Ideal.nD Cert.Reference10Ideal.τ).loc Cert.Reference10Ideal.main_arg40)
          ∧ r.2.mem ((c.tc : Thread Cert.Reference10Ideal.nD Cert.Reference10Ideal.τ).loc Cert.Reference10Ideal.main_arg41) = m' ((c.tc : Thread Cert.Reference10Ideal.nD Cert.Reference10Ideal.τ).loc Cert.Reference10Ideal.main_arg41)
          ∧ r.2.mem ((c.tc : Thread Cert.Reference10Ideal.nD Cert.Reference10Ideal.τ).loc Cert.Reference10Ideal.main_arg42) = m' ((c.tc : Thread Cert.Reference10Ideal.nD Cert.Reference10Ideal.τ).loc Cert.Reference10Ideal.main_arg42)
          ∧ r.2.mem ((c.tc : Thread Cert.Reference10Ideal.nD Cert.Reference10Ideal.τ).loc Cert.Reference10Ideal.main_arg43) = m' ((c.tc : Thread Cert.Reference10Ideal.nD Cert.Reference10Ideal.τ).loc Cert.Reference10Ideal.main_arg43)
          ∧ r.2.mem ((c.tc : Thread Cert.Reference10Ideal.nD Cert.Reference10Ideal.τ).loc Cert.Reference10Ideal.main_arg44) = m' ((c.tc : Thread Cert.Reference10Ideal.nD Cert.Reference10Ideal.τ).loc Cert.Reference10Ideal.main_arg44)
          ∧ r.2.mem ((c.tc : Thread Cert.Reference10Ideal.nD Cert.Reference10Ideal.τ).loc Cert.Reference10Ideal.main_arg45) = m' ((c.tc : Thread Cert.Reference10Ideal.nD Cert.Reference10Ideal.τ).loc Cert.Reference10Ideal.main_arg45)
          ∧ r.2.mem ((c.tc : Thread Cert.Reference10Ideal.nD Cert.Reference10Ideal.τ).loc Cert.Reference10Ideal.main_arg46) = m' ((c.tc : Thread Cert.Reference10Ideal.nD Cert.Reference10Ideal.τ).loc Cert.Reference10Ideal.main_arg46)
          ∧ r.2.mem ((c.tc : Thread Cert.Reference10Ideal.nD Cert.Reference10Ideal.τ).loc Cert.Reference10Ideal.main_arg47) = m' ((c.tc : Thread Cert.Reference10Ideal.nD Cert.Reference10Ideal.τ).loc Cert.Reference10Ideal.main_arg47)
          ∧ r.2.mem ((c.tc : Thread Cert.Reference10Ideal.nD Cert.Reference10Ideal.τ).loc Cert.Reference10Ideal.main_arg48) = m' ((c.tc : Thread Cert.Reference10Ideal.nD Cert.Reference10Ideal.τ).loc Cert.Reference10Ideal.main_arg48)
          ∧ r.2.mem ((c.tc : Thread Cert.Reference10Ideal.nD Cert.Reference10Ideal.τ).loc Cert.Reference10Ideal.main_arg49) = m' ((c.tc : Thread Cert.Reference10Ideal.nD Cert.Reference10Ideal.τ).loc Cert.Reference10Ideal.main_arg49)
          ∧ r.2.mem ((c.tc : Thread Cert.Reference10Ideal.nD Cert.Reference10Ideal.τ).loc Cert.Reference10Ideal.main_arg50) = m' ((c.tc : Thread Cert.Reference10Ideal.nD Cert.Reference10Ideal.τ).loc Cert.Reference10Ideal.main_arg50)
          ∧ r.2.mem ((c.tc : Thread Cert.Reference10Ideal.nD Cert.Reference10Ideal.τ).loc Cert.Reference10Ideal.main_arg51) = m' ((c.tc : Thread Cert.Reference10Ideal.nD Cert.Reference10Ideal.τ).loc Cert.Reference10Ideal.main_arg51)
          ∧ r.2.mem ((c.tc : Thread Cert.Reference10Ideal.nD Cert.Reference10Ideal.τ).loc Cert.Reference10Ideal.main_arg52) = m' ((c.tc : Thread Cert.Reference10Ideal.nD Cert.Reference10Ideal.τ).loc Cert.Reference10Ideal.main_arg52)
          ∧ r.2.mem ((c.tc : Thread Cert.Reference10Ideal.nD Cert.Reference10Ideal.τ).loc Cert.Reference10Ideal.main_arg53) = m' ((c.tc : Thread Cert.Reference10Ideal.nD Cert.Reference10Ideal.τ).loc Cert.Reference10Ideal.main_arg53)
          ∧ r.2.mem ((c.tc : Thread Cert.Reference10Ideal.nD Cert.Reference10Ideal.τ).loc Cert.Reference10Ideal.main_arg54) = m' ((c.tc : Thread Cert.Reference10Ideal.nD Cert.Reference10Ideal.τ).loc Cert.Reference10Ideal.main_arg54)
          ∧ r.2.mem ((c.tc : Thread Cert.Reference10Ideal.nD Cert.Reference10Ideal.τ).loc Cert.Reference10Ideal.main_arg55) = m' ((c.tc : Thread Cert.Reference10Ideal.nD Cert.Reference10Ideal.τ).loc Cert.Reference10Ideal.main_arg55))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2048x1024 : Shape := ⟨2, ![2048, 1024]⟩
abbrev S1024 : Shape := ⟨1, ![1024]⟩
abbrev S2x4x352x1024 : Shape := ⟨4, ![2, 4, 352, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bitsLt_bf16_f32 : FTy.bits .bf16 < FTy.bits .f32
  bcast_S_S2x4x352x1024 : S_.BroadcastsInDim S2x4x352x1024 (![] : Fin 0 → Fin S2x4x352x1024.rank)

variable [Facts]

def fn_part1 {F : FTy → Type} [FloatOps F] (main_v2 : IVec S2048x1024 1) (main_v5 : IVec S2048x1024 1) (main_v8 : IVec S1024 1) (main_v12 : IVec S2x4x352x1024 1) (main_v16 : IVec S2x4x352x1024 1) (main_v18 : FVec F S2x4x352x1024 .f32) : IVec S2048x1024 1 × IVec S2048x1024 1 × IVec S1024 1 × IVec S2x4x352x1024 1 × IVec S2x4x352x1024 1 × IVec S2x4x352x1024 1 :=
  let main_cst_4 : FVec F S_ .f32 := constant S_ .f32 0x7F800000#32
  let main_v19 : FVec F S2x4x352x1024 .f32 := broadcastInDim S2x4x352x1024 ![] bcast_S_S2x4x352x1024 main_cst_4
  let main_v20 : IVec S2x4x352x1024 1 := cmpf .olt main_v18 main_v19
  (main_v2, main_v5, main_v8, main_v12, main_v16, main_v20)

def fn {F : FTy → Type} [FloatOps F] (main_arg0 : FVec F S2048x1024 .f32) (main_arg1 : FVec F S2048x1024 .f32) (main_arg2 : FVec F S1024 .f32) (main_arg3 : FVec F S2x4x352x1024 .bf16) (main_arg4 : FVec F S2x4x352x1024 .bf16) (main_arg5 : FVec F S2x4x352x1024 .bf16) : IVec S2048x1024 1 × IVec S2048x1024 1 × IVec S1024 1 × IVec S2x4x352x1024 1 × IVec S2x4x352x1024 1 × IVec S2x4x352x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x4x352x1024 .f32 := (extf .f32 · bitsLt_bf16_f32) main_arg3
  let main_v10 : FVec F S2x4x352x1024 .f32 := Host.absf main_v9
  let main_cst_2 : FVec F S_ .f32 := constant S_ .f32 0x7F800000#32
  let main_v11 : FVec F S2x4x352x1024 .f32 := broadcastInDim S2x4x352x1024 ![] bcast_S_S2x4x352x1024 main_cst_2
  let main_v12 : IVec S2x4x352x1024 1 := cmpf .olt main_v10 main_v11
  let main_v13 : FVec F S2x4x352x1024 .f32 := (extf .f32 · bitsLt_bf16_f32) main_arg4
  let main_v14 : FVec F S2x4x352x1024 .f32 := Host.absf main_v13
  let main_cst_3 : FVec F S_ .f32 := constant S_ .f32 0x7F800000#32
  let main_v15 : FVec F S2x4x352x1024 .f32 := broadcastInDim S2x4x352x1024 ![] bcast_S_S2x4x352x1024 main_cst_3
  let main_v16 : IVec S2x4x352x1024 1 := cmpf .olt main_v14 main_v15
  let main_v17 : FVec F S2x4x352x1024 .f32 := (extf .f32 · bitsLt_bf16_f32) main_arg5
  let main_v18 : FVec F S2x4x352x1024 .f32 := Host.absf main_v17
  fn_part1 (F := F) main_v2 main_v5 main_v8 main_v12 main_v16 main_v18
-- ==== Pre_finite_scores.lean ====
abbrev S2048x1024 : Shape := ⟨2, ![2048, 1024]⟩
abbrev S2048x256 : Shape := ⟨2, ![2048, 256]⟩
abbrev S1x16 : Shape := ⟨2, ![1, 16]⟩
abbrev S_ : Shape := ⟨0, ![]⟩

class Facts : Prop where
  bcast_S_S2048x1024 : S_.BroadcastsInDim S2048x1024 (![] : Fin 0 → Fin S2048x1024.rank)
  bitsLt_bf16_f32 : FTy.bits .bf16 < FTy.bits .f32
  bcast_S_S2048x256 : S_.BroadcastsInDim S2048x256 (![] : Fin 0 → Fin S2048x256.rank)
  bcast_S_S1x16 : S_.BroadcastsInDim S1x16 (![] : Fin 0 → Fin S1x16.rank)

variable [Facts]

def fn {F : FTy → Type} [FloatOps F] (main_arg0 : FVec F S2048x1024 .f32) (main_arg1 : FVec F S2048x256 .bf16) (main_arg2 : FVec F S2048x256 .bf16) (main_arg3 : FVec F S1x16 .f32) : IVec S2048x1024 1 × IVec S2048x256 1 × IVec S1x16 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := (extf .f32 · bitsLt_bf16_f32) main_arg1
  let main_v4 : FVec F S2048x256 .f32 := Host.absf main_v3
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_v7 : FVec F S1x16 .f32 := Host.absf main_arg3
  let main_cst_1 : FVec F S_ .f32 := constant S_ .f32 0x7F800000#32
  let main_v8 : FVec F S1x16 .f32 := broadcastInDim S1x16 ![] bcast_S_S1x16 main_cst_1
  let main_v9 : IVec S1x16 1 := cmpf .olt main_v7 main_v8
  (main_v2, main_v6, main_v9)
-- ==== Kernel.lean ====
abbrev S2048x1024 : Shape := ⟨2, ![2048, 1024]⟩
abbrev S1024 : Shape := ⟨1, ![1024]⟩
abbrev S2x4x352x1024 : Shape := ⟨4, ![2, 4, 352, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x4x352x2048 : Shape := ⟨4, ![2, 4, 352, 2048]⟩
abbrev S4x2048x2x352 : Shape := ⟨4, ![4, 2048, 2, 352]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S512x1024 : Shape := ⟨2, ![512, 1024]⟩
abbrev S1x2x512x704 : Shape := ⟨4, ![1, 2, 512, 704]⟩
abbrev S2x1x352x1024 : Shape := ⟨4, ![2, 1, 352, 1024]⟩
abbrev S3x704x1024 : Shape := ⟨3, ![3, 704, 1024]⟩
abbrev S256x1024 : Shape := ⟨2, ![256, 1024]⟩
abbrev S1x1x256x704 : Shape := ⟨4, ![1, 1, 256, 704]⟩
abbrev S256x704 : Shape := ⟨2, ![256, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 41
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2x4x352x1024, .bf16⟩
  | .hbm, ⟨4, _⟩ => ⟨S2x4x352x1024, .bf16⟩
  | .hbm, ⟨5, _⟩ => ⟨S2x4x352x1024, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2x4x352x1024, .f32⟩
  | .hbm, ⟨23, _⟩ => ⟨S2x4x352x2048, .f32⟩
  | .hbm, ⟨24, _⟩ => ⟨S4x2048x2x352, .f32⟩
  | .hbm, ⟨25, _⟩ => ⟨S4x2048x704, .f32⟩
  | .hbm, ⟨26, _⟩ => ⟨S2x4x352x1024, .f32⟩
  | .hbm, ⟨27, _⟩ => ⟨S2x4x352x2048, .f32⟩
  | .hbm, ⟨28, _⟩ => ⟨S4x2048x2x352, .f32⟩
  | .hbm, ⟨29, _⟩ => ⟨S4x2048x704, .f32⟩
  | .hbm, ⟨30, _⟩ => ⟨S4x1x2048x704, .f32⟩
  | .hbm, ⟨31, _⟩ => ⟨S4x1x2048x704, .f32⟩
  | .hbm, ⟨32, _⟩ => ⟨S4x2x2048x704, .f32⟩
  | .hbm, ⟨33, _⟩ => ⟨S2048x1024, .bf16⟩
  | .hbm, ⟨34, _⟩ => ⟨S4x2x2048x704, .bf16⟩
  | .hbm, ⟨35, _⟩ => ⟨S1x1024, .f32⟩
  | .hbm, ⟨36, _⟩ => ⟨S2048x1024, .f32⟩
  | .hbm, ⟨37, _⟩ => ⟨S1x1024, .f32⟩
  | .hbm, ⟨38, _⟩ => ⟨S2x4x352x1024, .bf16⟩
  | .hbm, ⟨39, _⟩ => ⟨S2x4x352x1024, .bf16⟩
  | .hbm, ⟨40, _⟩ => ⟨S2x4x352x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x2x512x704, .bf16⟩
  | .local _ .vmem, ⟨8, _⟩ => ⟨S1x2x512x704, .bf16⟩
  | .local _ .vmem, ⟨9, _⟩ => ⟨S2x1x352x1024, .bf16⟩
  | .local _ .vmem, ⟨10, _⟩ => ⟨S2x1x352x1024, .bf16⟩
  | .local _ .vmem, ⟨11, _⟩ => ⟨S2x1x352x1024, .bf16⟩
  | .local _ .vmem, ⟨12, _⟩ => ⟨S2x1x352x1024, .bf16⟩
  | .local _ .vmem, ⟨13, _⟩ => ⟨S2x1x352x1024, .bf16⟩
  | .local _ .vmem, ⟨14, _⟩ => ⟨S2x1x352x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S2x1x352x1024, .bf16⟩
  | .local _ .vmem, ⟨19, _⟩ => ⟨S2x1x352x1024, .bf16⟩
  | .local _ .vmem, ⟨20, _⟩ => ⟨S2x1x352x1024, .bf16⟩
  | .local _ .vmem, ⟨21, _⟩ => ⟨S2x1x352x1024, .bf16⟩
  | .local _ .vmem, ⟨22, _⟩ => ⟨S2x1x352x1024, .bf16⟩
  | .local _ .vmem, ⟨23, _⟩ => ⟨S2x1x352x1024, .bf16⟩
  | .local _ .vmem, ⟨24, _⟩ => ⟨S2048x1024, .f32⟩
  | .local _ .vmem, ⟨25, _⟩ => ⟨S3x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v179 : Index := Scalar.indexCast v1
  let c0_123 : Index := 0#32
  ![v179.toNat, 0]
def k0_mult2 (i : grid0.Coords) : BitVec 32 :=
  let arg1 : BitVec 32 := BitVec.ofNat 32 (i 1).val
  let c512_i32_13 : BitVec 32 := 512#32
  let v18 : BitVec 32 := Scalar.muli arg1 c512_i32_13
  let c0_i32_14 : BitVec 32 := 0#32
  let v19 : BitVec 32 := Scalar.addi v18 c0_i32_14
  v19
def k0_off2 (i : grid0.Coords) (c0_i32_14 : BitVec 32) : Fin 2 → Nat :=
  let arg1 : BitVec 32 := BitVec.ofNat 32 (i 1).val
  let c512_i32_13 : BitVec 32 := 512#32
  let v18 : BitVec 32 := Scalar.muli arg1 c512_i32_13
  let v19 : BitVec 32 := Scalar.addi v18 c0_i32_14
  let v20 : BitVec 32 := v19
  let v63 : Index := Scalar.indexCast v20
  let c0_39 : Index := 0#32
  ![v63.toNat, 0]
def k0_mult3 (i : grid0.Coords) : BitVec 32 :=
  let arg1 : BitVec 32 := BitVec.ofNat 32 (i 1).val
  let c512_i32_71 : BitVec 32 := 512#32
  let v100 : BitVec 32 := Scalar.muli arg1 c512_i32_71
  let c256_i32 : BitVec 32 := 256#32
  let v101 : BitVec 32 := Scalar.addi v100 c256_i32
  v101
def k0_cond4 (i : grid0.Coords) : BitVec 1 :=
  let arg0 : BitVec 32 := BitVec.ofNat 32 (i 0).val
  let c3_i32_120 : BitVec 32 := 3#32
  let v175 : BitVec 1 := Scalar.cmpi .eq arg0 c3_i32_120
  let v176 : BitVec 32 := Scalar.extui v175
  let c0_i32_121 : BitVec 32 := 0#32
  let v177 : BitVec 1 := Scalar.cmpi .ne v176 c0_i32_121
  v177

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v178 : Index := Scalar.indexCast v1
  let c0_122 : Index := 0#32
  ![v178.toNat, 0]
def k0_cond5 (i : grid0.Coords) : BitVec 1 :=
  let arg1 : BitVec 32 := BitVec.ofNat 32 (i 1).val
  let c0_i32_137 : BitVec 32 := 0#32
  let v211 : BitVec 1 := Scalar.cmpi .eq arg1 c0_i32_137
  let v212 : BitVec 32 := Scalar.extui v211
  let c0_i32_138 : BitVec 32 := 0#32
  let v213 : BitVec 1 := Scalar.cmpi .ne v212 c0_i32_138
  v213

def k0_cond6 (i : grid0.Coords) : BitVec 1 :=
  let arg1 : BitVec 32 := BitVec.ofNat 32 (i 1).val
  let c0_i32_139 : BitVec 32 := 0#32
  let v214 : BitVec 1 := Scalar.cmpi .sgt arg1 c0_i32_139
  let v215 : BitVec 32 := Scalar.extui v214
  let c0_i32_140 : BitVec 32 := 0#32
  let v216 : BitVec 1 := Scalar.cmpi .ne v215 c0_i32_140
  v216

def k0_cond3 (i : grid0.Coords) : BitVec 1 :=
  let arg1 : BitVec 32 := BitVec.ofNat 32 (i 1).val
  let c3_i32 : BitVec 32 := 3#32
  let v172 : BitVec 1 := Scalar.cmpi .eq arg1 c3_i32
  let v173 : BitVec 32 := Scalar.extui v172
  let c0_i32_119 : BitVec 32 := 0#32
  let v174 : BitVec 1 := Scalar.cmpi .ne v173 c0_i32_119
  v174

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x1x352x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x352x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x1x352x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2048x1024 : Shape := ⟨2, ![2048, 1024]⟩
abbrev S1024 : Shape := ⟨1, ![1024]⟩
abbrev S2x4x352x1024 : Shape := ⟨4, ![2, 4, 352, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2x4x352 : Shape := ⟨4, ![2048, 2, 4, 352]⟩
abbrev S1024x2x4x352 : Shape := ⟨4, ![1024, 2, 4, 352]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2x4x352x1024, .bf16⟩
  | .hbm, ⟨4, _⟩ => ⟨S2x4x352x1024, .bf16⟩
  | .hbm, ⟨5, _⟩ => ⟨S2x4x352x1024, .bf16⟩
  | .hbm, ⟨6, _⟩ => ⟨S2x4x352x1024, .f32⟩
  | .hbm, ⟨7, _⟩ => ⟨S2x4x352x1024, .f32⟩
  | .hbm, ⟨8, _⟩ => ⟨S2x4x352x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x2x4x352, .f32⟩
  | .hbm, ⟨30, _⟩ => ⟨S2048x2x4x352, .f32⟩
  | .hbm, ⟨31, _⟩ => ⟨S2048x2x4x352, .f32⟩
  | .hbm, ⟨32, _⟩ => ⟨S_, .f32⟩
  | .hbm, ⟨33, _⟩ => ⟨S2048x2x4x352, .f32⟩
  | .hbm, ⟨34, _⟩ => ⟨S2048x2x4x352, .f32⟩
  | .hbm, ⟨35, _⟩ => ⟨S_, .f32⟩
  | .hbm, ⟨36, _⟩ => ⟨S2048x2x4x352, .f32⟩
  | .hbm, ⟨37, _⟩ => ⟨S2048x2x4x352, .f32⟩
  | .hbm, ⟨38, _⟩ => ⟨S_, .f32⟩
  | .hbm, ⟨39, _⟩ => ⟨S2048x2x4x352, .f32⟩
  | .hbm, ⟨40, _⟩ => ⟨S2048x2x4x352, .f32⟩
  | .hbm, ⟨41, _⟩ => ⟨S2048x2x4x352, .f32⟩
  | .hbm, ⟨42, _⟩ => ⟨S2048x2x4x352, .f32⟩
  | .hbm, ⟨43, _⟩ => ⟨S2048x2x4x352, .f32⟩
  | .hbm, ⟨44, _⟩ => ⟨S2048x2x4x352, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S1024x2x4x352, .f32⟩
  | .hbm, ⟨55, _⟩ => ⟨S2x4x352x1024, .f32⟩
  | .hbm, ⟨56, _⟩ => ⟨S2048x2x4x352, .f32⟩
  | .hbm, ⟨57, _⟩ => ⟨S2048x2x4x352, .f32⟩
  | .hbm, ⟨58, _⟩ => ⟨S2048x2x4x352, .f32⟩
  | .hbm, ⟨59, _⟩ => ⟨S2x4x352x1024, .f32⟩
  | .hbm, ⟨60, _⟩ => ⟨S2048x1024, .f32⟩
  | .hbm, ⟨61, _⟩ => ⟨S2048x2x4x352, .f32⟩
  | .hbm, ⟨62, _⟩ => ⟨S2048x2x4x352, .f32⟩
  | .hbm, ⟨63, _⟩ => ⟨S2048x2x4x352, .f32⟩
  | .hbm, ⟨64, _⟩ => ⟨S2048x2x4x352, .f32⟩
  | .hbm, ⟨65, _⟩ => ⟨S2x4x352x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2x4x352x1024, .bf16⟩
  | .hbm, ⟨95, _⟩ => ⟨S2x4x352x1024, .bf16⟩
  | .hbm, ⟨96, _⟩ => ⟨S2x4x352x1024, .bf16⟩
  | .hbm, ⟨97, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S2x4x352x1024 : Shape := ⟨4, ![2, 4, 352, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x2x2048x704 : Shape := ⟨4, ![4, 2, 2048, 704]⟩
abbrev S1024x1024 : Shape := ⟨2, ![1024, 1024]⟩
abbrev S2x1x352x1024 : Shape := ⟨4, ![2, 1, 352, 1024]⟩
abbrev S1x2x1024x704 : Shape := ⟨4, ![1, 2, 1024, 704]⟩
abbrev S512x1024 : Shape := ⟨2, ![512, 1024]⟩
abbrev S704x1024 : Shape := ⟨2, ![704, 1024]⟩
abbrev S512x704 : Shape := ⟨2, ![512, 704]⟩
abbrev S1x1x512x704 : Shape := ⟨4, ![1, 1, 512, 704]⟩
abbrev S1024x1 : Shape := ⟨2, ![1024, 1]⟩

abbrev nBuf : Space → Nat
  | .hbm => 30
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x4x352x1024, .bf16⟩
  | .hbm, ⟨3, _⟩ => ⟨S2x4x352x1024, .bf16⟩
  | .hbm, ⟨4, _⟩ => ⟨S2x4x352x1024, .bf16⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .bf16⟩
  | .hbm, ⟨28, _⟩ => ⟨S2048x1024, .bf16⟩
  | .hbm, ⟨29, _⟩ => ⟨S4x2x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x1x352x1024, .bf16⟩
  | .local _ .vmem, ⟨5, _⟩ => ⟨S2x1x352x1024, .bf16⟩
  | .local _ .vmem, ⟨6, _⟩ => ⟨S2x1x352x1024, .bf16⟩
  | .local _ .vmem, ⟨7, _⟩ => ⟨S2x1x352x1024, .bf16⟩
  | .local _ .vmem, ⟨8, _⟩ => ⟨S2x1x352x1024, .bf16⟩
  | .local _ .vmem, ⟨9, _⟩ => ⟨S2x1x352x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x2x1024x704, .bf16⟩
  | .local _ .vmem, ⟨19, _⟩ => ⟨S1x2x1024x704, .bf16⟩
  | .local _ .vmem, ⟨20, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v71 : BitVec 1 := Scalar.cmpi .eq arg1 c3_i32
  let v72 : BitVec 32 := Scalar.extui v71
  let c0_i32_61 : BitVec 32 := 0#32
  let v73 : BitVec 1 := Scalar.cmpi .ne v72 c0_i32_61
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2048x1024 : Shape := ⟨2, ![2048, 1024]⟩
abbrev S1024 : Shape := ⟨1, ![1024]⟩
abbrev S2x4x352x1024 : Shape := ⟨4, ![2, 4, 352, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2x4x352 : Shape := ⟨4, ![2048, 2, 4, 352]⟩
abbrev S2x4x352x2048 : Shape := ⟨4, ![2, 4, 352, 2048]⟩
abbrev S4x2048x2x352 : Shape := ⟨4, ![4, 2048, 2, 352]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x4x352x1024, .bf16⟩
  | .hbm, ⟨3, _⟩ => ⟨S2x4x352x1024, .bf16⟩
  | .hbm, ⟨4, _⟩ => ⟨S2x4x352x1024, .bf16⟩
  | .hbm, ⟨5, _⟩ => ⟨S1024, .f32⟩
  | .hbm, ⟨6, _⟩ => ⟨S1024, .f32⟩
  | .hbm, ⟨7, _⟩ => ⟨S2x4x352x1024, .f32⟩
  | .hbm, ⟨8, _⟩ => ⟨S2x4x352x1024, .f32⟩
  | .hbm, ⟨9, _⟩ => ⟨S2x4x352x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2x4x352, .f32⟩
  | .hbm, ⟨27, _⟩ => ⟨S2048x2x4x352, .f32⟩
  | .hbm, ⟨28, _⟩ => ⟨S2048x2x4x352, .f32⟩
  | .hbm, ⟨29, _⟩ => ⟨S_, .f32⟩
  | .hbm, ⟨30, _⟩ => ⟨S2048x2x4x352, .f32⟩
  | .hbm, ⟨31, _⟩ => ⟨S2048x2x4x352, .f32⟩
  | .hbm, ⟨32, _⟩ => ⟨S_, .f32⟩
  | .hbm, ⟨33, _⟩ => ⟨S2048x2x4x352, .f32⟩
  | .hbm, ⟨34, _⟩ => ⟨S2048x2x4x352, .f32⟩
  | .hbm, ⟨35, _⟩ => ⟨S2048x2x4x352, .f32⟩
  | .hbm, ⟨36, _⟩ => ⟨S2048x2x4x352, .f32⟩
  | .hbm, ⟨37, _⟩ => ⟨S2048x2x4x352, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2x4x352x1024, .f32⟩
  | .hbm, ⟨60, _⟩ => ⟨S2x4x352x2048, .f32⟩
  | .hbm, ⟨61, _⟩ => ⟨S4x2048x2x352, .f32⟩
  | .hbm, ⟨62, _⟩ => ⟨S4x2048x704, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S2x4x352x1024, .f32⟩
  | .hbm, ⟨80, _⟩ => ⟨S2x4x352x2048, .f32⟩
  | .hbm, ⟨81, _⟩ => ⟨S4x2048x2x352, .f32⟩
  | .hbm, ⟨82, _⟩ => ⟨S4x2048x704, .f32⟩
  | .hbm, ⟨83, _⟩ => ⟨S4x1x2048x704, .f32⟩
  | .hbm, ⟨84, _⟩ => ⟨S4x1x2048x704, .f32⟩
  | .hbm, ⟨85, _⟩ => ⟨S4x2x2048x704, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S2048x1, .f32⟩
  | .hbm, ⟨97, _⟩ => ⟨S2048x1024, .f32⟩
  | .hbm, ⟨98, _⟩ => ⟨S2048x1024, .f32⟩
  | .hbm, ⟨99, _⟩ => ⟨S1x1024, .f32⟩
  | .hbm, ⟨100, _⟩ => ⟨S2048x1024, .f32⟩
  | .hbm, ⟨101, _⟩ => ⟨S2048x1024, .f32⟩
  | .hbm, ⟨102, _⟩ => ⟨S2048x1024, .bf16⟩
  | .hbm, ⟨103, _⟩ => ⟨S2048x1024, .f32⟩
  | .hbm, ⟨104, _⟩ => ⟨S_, .f32⟩
  | .hbm, ⟨105, _⟩ => ⟨S2048, .f32⟩
  | .hbm, ⟨106, _⟩ => ⟨S2048x1, .f32⟩
  | .hbm, ⟨107, _⟩ => ⟨S_, .f32⟩
  | .hbm, ⟨108, _⟩ => ⟨S2048x1, .f32⟩
  | .hbm, ⟨109, _⟩ => ⟨S2048x1, .f32⟩
  | .hbm, ⟨110, _⟩ => ⟨S_, .f32⟩
  | .hbm, ⟨111, _⟩ => ⟨S2048x1, .f32⟩
  | .hbm, ⟨112, _⟩ => ⟨S2048x1, .f32⟩
  | .hbm, ⟨113, _⟩ => ⟨S2048x1, .f32⟩
  | .hbm, ⟨114, _⟩ => ⟨S2048x1024, .f32⟩
  | .hbm, ⟨115, _⟩ => ⟨S2048x1024, .f32⟩
  | .hbm, ⟨116, _⟩ => ⟨S1x1024, .f32⟩
  | .hbm, ⟨117, _⟩ => ⟨S2048x1024, .f32⟩
  | .hbm, ⟨118, _⟩ => ⟨S2048x1024, .f32⟩
  | .hbm, ⟨119, _⟩ => ⟨S2048x1024, .bf16⟩
  | .hbm, ⟨120, _⟩ => ⟨S4x2x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel3.lean ====
abbrev S2048x1024 : Shape := ⟨2, ![2048, 1024]⟩
abbrev S2048x256 : Shape := ⟨2, ![2048, 256]⟩
abbrev S1x16 : Shape := ⟨2, ![1, 16]⟩
abbrev S_ : Shape := ⟨0, ![]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S16 : Shape := ⟨1, ![16]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S16x128x64 : Shape := ⟨3, ![16, 128, 64]⟩
abbrev S4x128x64 : Shape := ⟨3, ![4, 128, 64]⟩
abbrev S512x64 : Shape := ⟨2, ![512, 64]⟩
abbrev S1x128x64 : Shape := ⟨3, ![1, 128, 64]⟩
abbrev S128x64 : Shape := ⟨2, ![128, 64]⟩
abbrev S1x512x1 : Shape := ⟨3, ![1, 512, 1]⟩
abbrev S512x1 : Shape := ⟨2, ![512, 1]⟩
abbrev S512x128 : Shape := ⟨2, ![512, 128]⟩
abbrev S512 : Shape := ⟨1, ![512]⟩

abbrev nBuf : Space → Nat
  | .hbm => 20
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x16x64, .bf16⟩
  | .hbm, ⟨9, _⟩ => ⟨S16x2048x64, .bf16⟩
  | .hbm, ⟨10, _⟩ => ⟨S2048x4x64, .bf16⟩
  | .hbm, ⟨11, _⟩ => ⟨S4x2048x64, .bf16⟩
  | .hbm, ⟨12, _⟩ => ⟨S2048x4x64, .bf16⟩
  | .hbm, ⟨13, _⟩ => ⟨S4x2048x64, .bf16⟩
  | .hbm, ⟨14, _⟩ => ⟨S16, .f32⟩
  | .hbm, ⟨15, _⟩ => ⟨S4x4, .f32⟩
  | .hbm, ⟨16, _⟩ => ⟨S4x4x128, .f32⟩
  | .hbm, ⟨17, _⟩ => ⟨S4x512, .f32⟩
  | .hbm, ⟨18, _⟩ => ⟨S4x512x1, .f32⟩
  | .hbm, ⟨19, _⟩ => ⟨S16x2048x64, .bf16⟩
  | .local _ .vmem, ⟨0, _⟩ => ⟨S16x128x64, .bf16⟩
  | .local _ .vmem, ⟨1, _⟩ => ⟨S16x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x512x1, .f32⟩
  | .local _ .vmem, ⟨11, _⟩ => ⟨S16x128x64, .bf16⟩
  | .local _ .vmem, ⟨12, _⟩ => ⟨S16x128x64, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S2048x1024 : Shape := ⟨2, ![2048, 1024]⟩
abbrev S2048x256 : Shape := ⟨2, ![2048, 256]⟩
abbrev S1x16 : Shape := ⟨2, ![1, 16]⟩
abbrev S16x128x4x4x64 : Shape := ⟨5, ![16, 128, 4, 4, 64]⟩
abbrev S16x128x4x64 : Shape := ⟨4, ![16, 128, 4, 64]⟩
abbrev S15x128x4x64 : Shape := ⟨4, ![15, 128, 4, 64]⟩
abbrev S_ : Shape := ⟨0, ![]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S4x4 : Shape := ⟨2, ![4, 4]⟩
abbrev S1x4x4x1 : Shape := ⟨4, ![1, 4, 4, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S2048x16x64 : Shape := ⟨3, ![2048, 16, 64]⟩
abbrev S16x2048x64 : Shape := ⟨3, ![16, 2048, 64]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S16x128x4x4x64, .f32⟩
  | .hbm, ⟨5, _⟩ => ⟨S2048x256, .f32⟩
  | .hbm, ⟨6, _⟩ => ⟨S16x128x4x64, .f32⟩
  | .hbm, ⟨7, _⟩ => ⟨S15x128x4x64, .f32⟩
  | .hbm, ⟨8, _⟩ => ⟨S_, .i32⟩
  | .hbm, ⟨9, _⟩ => ⟨S_, .f32⟩
  | .hbm, ⟨10, _⟩ => ⟨S16x128x4x64, .f32⟩
  | .hbm, ⟨11, _⟩ => ⟨S16x256x4x64, .f32⟩
  | .hbm, ⟨12, _⟩ => ⟨S2048x256, .f32⟩
  | .hbm, ⟨13, _⟩ => ⟨S16x128x4x64, .f32⟩
  | .hbm, ⟨14, _⟩ => ⟨S15x128x4x64, .f32⟩
  | .hbm, ⟨15, _⟩ => ⟨S_, .i32⟩
  | .hbm, ⟨16, _⟩ => ⟨S_, .f32⟩
  | .hbm, ⟨17, _⟩ => ⟨S16x128x4x64, .f32⟩
  | .hbm, ⟨18, _⟩ => ⟨S16x256x4x64, .f32⟩
  | .hbm, ⟨19, _⟩ => ⟨S16x4x256x128x4, .f32⟩
  | .hbm, ⟨20, _⟩ => ⟨S16x4x4x128x256, .f32⟩
  | .hbm, ⟨21, _⟩ => ⟨S_, .f32⟩
  | .hbm, ⟨22, _⟩ => ⟨S16x4x4x128x256, .f32⟩
  | .hbm, ⟨23, _⟩ => ⟨S16x4x4x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16x1x1, .i1⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x1x256, .i1⟩
  | .hbm, ⟨50, _⟩ => ⟨S16x1x256, .i1⟩
  | .hbm, ⟨51, _⟩ => ⟨S16x1x256, .i1⟩
  | .hbm, ⟨52, _⟩ => ⟨S16x1x256, .i1⟩
  | .hbm, ⟨53, _⟩ => ⟨S1x128x256, .i1⟩
  | .hbm, ⟨54, _⟩ => ⟨S16x128x256, .i1⟩
  | .hbm, ⟨55, _⟩ => ⟨S16x128x256, .i1⟩
  | .hbm, ⟨56, _⟩ => ⟨S16x128x256, .i1⟩
  | .hbm, ⟨57, _⟩ => ⟨S16x1x1x128x256, .i1⟩
  | .hbm, ⟨58, _⟩ => ⟨S_, .f32⟩
  | .hbm, ⟨59, _⟩ => ⟨S_, .f32⟩
  | .hbm, ⟨60, _⟩ => ⟨S16x4x4x128x256, .i1⟩
  | .hbm, ⟨61, _⟩ => ⟨S16x4x4x128x256, .f32⟩
  | .hbm, ⟨62, _⟩ => ⟨S16x4x4x128x256, .f32⟩
  | .hbm, ⟨63, _⟩ => ⟨S4x4, .f32⟩
  | .hbm, ⟨64, _⟩ => ⟨S1x4x4x1, .f32⟩
  | .hbm, ⟨65, _⟩ => ⟨S_, .f32⟩
  | .hbm, ⟨66, _⟩ => ⟨S16x4x4x128, .f32⟩
  | .hbm, ⟨67, _⟩ => ⟨S16x4x4x128, .f32⟩
  | .hbm, ⟨68, _⟩ => ⟨S16x4x4x128, .f32⟩
  | .hbm, ⟨69, _⟩ => ⟨S16x4x4x128x1, .f32⟩
  | .hbm, ⟨70, _⟩ => ⟨S16x4x4x128x256, .f32⟩
  | .hbm, ⟨71, _⟩ => ⟨S16x4x4x128x256, .f32⟩
  | .hbm, ⟨72, _⟩ => ⟨S16x4x4x128x256, .f32⟩
  | .hbm, ⟨73, _⟩ => ⟨S_, .f32⟩
  | .hbm, ⟨74, _⟩ => ⟨S16x4x4x128, .f32⟩
  | .hbm, ⟨75, _⟩ => ⟨S16x4x4x128, .f32⟩
  | .hbm, ⟨76, _⟩ => ⟨S16x4x4x128, .f32⟩
  | .hbm, ⟨77, _⟩ => ⟨S16x4x4x128, .f32⟩
  | .hbm, ⟨78, _⟩ => ⟨S16x4x4x128, .f32⟩
  | .hbm, ⟨79, _⟩ => ⟨S16x4x4x128x1, .f32⟩
  | .hbm, ⟨80, _⟩ => ⟨S16x4x4x128x256, .f32⟩
  | .hbm, ⟨81, _⟩ => ⟨S16x4x4x128x256, .f32⟩
  | .hbm, ⟨82, _⟩ => ⟨S16x4x64x4x128, .f32⟩
  | .hbm, ⟨83, _⟩ => ⟨S16x128x4x4x64, .f32⟩
  | .hbm, ⟨84, _⟩ => ⟨S2048x16x64, .f32⟩
  | .hbm, ⟨85, _⟩ => ⟨S16x2048x64, .f32⟩
  | .hbm, ⟨86, _⟩ => ⟨S16x2048x64, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel4.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel4Ideal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference4Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel5Ideal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1x512x1024 : Shape := ⟨3, ![1, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S1x1024x1288 : Shape := ⟨3, ![1, 1024, 1288]⟩
abbrev S1x1288x1024 : Shape := ⟨3, ![1, 1288, 1024]⟩
abbrev S1288x1024 : Shape := ⟨2, ![1288, 1024]⟩
abbrev S184x1024 : Shape := ⟨2, ![184, 1024]⟩

abbrev nBuf : Space → Nat
  | .hbm => 14
  | .vmem => 14
  | .smem => 0
  | _ => 0

abbrev bufTy : (tb : Table) → Fin (tcTables nBuf tb) → BufTy
  | .hbm, ⟨0, _⟩ => ⟨S1x1024x1288, .f32⟩
  | .hbm, ⟨1, _⟩ => ⟨S1x1288x1024, .f32⟩
  | .hbm, ⟨2, _⟩ => ⟨S1x1024x1288, .f32⟩
  | .hbm, ⟨3, _⟩ => ⟨S1x1024x1288, .f32⟩
  | .hbm, ⟨4, _⟩ => ⟨S1x1288x1024, .f32⟩
  | .hbm, ⟨5, _⟩ => ⟨S1x1288x1024, .f32⟩
  | .hbm, ⟨6, _⟩ => ⟨S1x1288x1024, .f32⟩
  | .hbm, ⟨7, _⟩ => ⟨S1288x1024, .f32⟩
  | .hbm, ⟨8, _⟩ => ⟨S1288x1024, .f32⟩
  | .hbm, ⟨9, _⟩ => ⟨S1288x1024, .f32⟩
  | .hbm, ⟨10, _⟩ => ⟨S1288x1024, .f32⟩
  | .hbm, ⟨11, _⟩ => ⟨S1288x1024, .f32⟩
  | .hbm, ⟨12, _⟩ => ⟨S1288x1024, .f32⟩
  | .hbm, ⟨13, _⟩ => ⟨S1288x1024, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | _, _ => ⟨S1x1024x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S1x1024x1288 : Shape := ⟨3, ![1, 1024, 1288]⟩
abbrev S1x1288x1024 : Shape := ⟨3, ![1, 1288, 1024]⟩
abbrev S1288x1024 : Shape := ⟨2, ![1288, 1024]⟩
abbrev S184x1024 : Shape := ⟨2, ![184, 1024]⟩

abbrev nBuf : Space → Nat
  | .hbm => 14
  | .vmem => 14
  | .smem => 0
  | _ => 0

abbrev bufTy : (tb : Table) → Fin (tcTables nBuf tb) → BufTy
  | .hbm, ⟨0, _⟩ => ⟨S1x1024x1288, .f32⟩
  | .hbm, ⟨1, _⟩ => ⟨S1x1288x1024, .f32⟩
  | .hbm, ⟨2, _⟩ => ⟨S1x1024x1288, .f32⟩
  | .hbm, ⟨3, _⟩ => ⟨S1x1024x1288, .f32⟩
  | .hbm, ⟨4, _⟩ => ⟨S1x1288x1024, .f32⟩
  | .hbm, ⟨5, _⟩ => ⟨S1x1288x1024, .f32⟩
  | .hbm, ⟨6, _⟩ => ⟨S1x1288x1024, .f32⟩
  | .hbm, ⟨7, _⟩ => ⟨S1288x1024, .f32⟩
  | .hbm, ⟨8, _⟩ => ⟨S1288x1024, .f32⟩
  | .hbm, ⟨9, _⟩ => ⟨S1288x1024, .f32⟩
  | .hbm, ⟨10, _⟩ => ⟨S1288x1024, .f32⟩
  | .hbm, ⟨11, _⟩ => ⟨S1288x1024, .f32⟩
  | .hbm, ⟨12, _⟩ => ⟨S1288x1024, .f32⟩
  | .hbm, ⟨13, _⟩ => ⟨S1288x1024, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | _, _ => ⟨S1x1024x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1x1024x1288 : Shape := ⟨3, ![1, 1024, 1288]⟩
abbrev S1x1288x1024 : Shape := ⟨3, ![1, 1288, 1024]⟩
abbrev S_ : Shape := ⟨0, ![]⟩
abbrev S1288x1024 : Shape := ⟨2, ![1288, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x1288, .f32⟩
  | .hbm, ⟨1, _⟩ => ⟨S1x1288x1024, .f32⟩
  | .hbm, ⟨2, _⟩ => ⟨S1x1024x1288, .f32⟩
  | .hbm, ⟨3, _⟩ => ⟨S1x1024x1288, .f32⟩
  | .hbm, ⟨4, _⟩ => ⟨S1x1024x1288, .f32⟩
  | .hbm, ⟨5, _⟩ => ⟨S_, .f32⟩
  | .hbm, ⟨6, _⟩ => ⟨S1x1024x1288, .f32⟩
  | .hbm, ⟨7, _⟩ => ⟨S1x1024x1288, .f32⟩
  | .hbm, ⟨8, _⟩ => ⟨S_, .f32⟩
  | .hbm, ⟨9, _⟩ => ⟨S1x1024x1288, .f32⟩
  | .hbm, ⟨10, _⟩ => ⟨S1x1024x1288, .f32⟩
  | .hbm, ⟨11, _⟩ => ⟨S1x1024x1288, .f32⟩
  | .hbm, ⟨12, _⟩ => ⟨S_, .f32⟩
  | .hbm, ⟨13, _⟩ => ⟨S1x1024x1288, .f32⟩
  | .hbm, ⟨14, _⟩ => ⟨S1x1024x1288, .f32⟩
  | .hbm, ⟨15, _⟩ => ⟨S1x1024x1288, .f32⟩
  | .hbm, ⟨16, _⟩ => ⟨S_, .f32⟩
  | .hbm, ⟨17, _⟩ => ⟨S1x1024x1288, .f32⟩
  | .hbm, ⟨18, _⟩ => ⟨S1x1024x1288, .f32⟩
  | .hbm, ⟨19, _⟩ => ⟨S1x1024x1288, .f32⟩
  | .hbm, ⟨20, _⟩ => ⟨S_, .f32⟩
  | .hbm, ⟨21, _⟩ => ⟨S1x1024x1288, .f32⟩
  | .hbm, ⟨22, _⟩ => ⟨S1x1024x1288, .f32⟩
  | .hbm, ⟨23, _⟩ => ⟨S_, .f32⟩
  | .hbm, ⟨24, _⟩ => ⟨S1x1024x1288, .f32⟩
  | .hbm, ⟨25, _⟩ => ⟨S1x1024x1288, .f32⟩
  | .hbm, ⟨26, _⟩ => ⟨S1x1024x1288, .f32⟩
  | .hbm, ⟨27, _⟩ => ⟨S_, .f32⟩
  | .hbm, ⟨28, _⟩ => ⟨S1x1024x1288, .f32⟩
  | .hbm, ⟨29, _⟩ => ⟨S1x1024x1288, .f32⟩
  | .hbm, ⟨30, _⟩ => ⟨S1x1024x1288, .f32⟩
  | .hbm, ⟨31, _⟩ => ⟨S_, .f32⟩
  | .hbm, ⟨32, _⟩ => ⟨S1x1024x1288, .f32⟩
  | .hbm, ⟨33, _⟩ => ⟨S1x1024x1288, .f32⟩
  | .hbm, ⟨34, _⟩ => ⟨S1x1024x1288, .f32⟩
  | .hbm, ⟨35, _⟩ => ⟨S_, .f32⟩
  | .hbm, ⟨36, _⟩ => ⟨S1x1024x1288, .f32⟩
  | .hbm, ⟨37, _⟩ => ⟨S1x1024x1288, .f32⟩
  | .hbm, ⟨38, _⟩ => ⟨S1x1288x1024, .f32⟩
  | .hbm, ⟨39, _⟩ => ⟨S1288x1024, .f32⟩
  | .hbm, ⟨40, _⟩ => ⟨S1x1288x1024, .f32⟩
  | .hbm, ⟨41, _⟩ => ⟨S1288x1024, .f32⟩
  | .hbm, ⟨42, _⟩ => ⟨S1x1288x1024, .f32⟩
  | .hbm, ⟨43, _⟩ => ⟨S1288x1024, .f32⟩
  | _, _ => ⟨S1x1024x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel8.lean ====
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference8Ideal.lean ====
abbrev S2x2x704x1024 : Shape := ⟨4, ![2, 2, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S_, .f32⟩
  | .hbm, ⟨5, _⟩ => ⟨S2x2x704x1024, .f32⟩
  | .hbm, ⟨6, _⟩ => ⟨S2x2x704x1024, .f32⟩
  | .hbm, ⟨7, _⟩ => ⟨S_, .f32⟩
  | .hbm, ⟨8, _⟩ => ⟨S2x2x704x1024, .f32⟩
  | .hbm, ⟨9, _⟩ => ⟨S2x2x704x1024, .f32⟩
  | .hbm, ⟨10, _⟩ => ⟨S2x2x704x1024, .f32⟩
  | .hbm, ⟨11, _⟩ => ⟨S_, .f32⟩
  | .hbm, ⟨12, _⟩ => ⟨S2x2x704x1024, .f32⟩
  | .hbm, ⟨13, _⟩ => ⟨S2x2x704x1024, .f32⟩
  | .hbm, ⟨14, _⟩ => ⟨S2x2x704x1024, .f32⟩
  | .hbm, ⟨15, _⟩ => ⟨S_, .f32⟩
  | .hbm, ⟨16, _⟩ => ⟨S2x2x704x1024, .f32⟩
  | .hbm, ⟨17, _⟩ => ⟨S2x2x704x1024, .f32⟩
  | .hbm, ⟨18, _⟩ => ⟨S2x2x704x1024, .f32⟩
  | .hbm, ⟨19, _⟩ => ⟨S_, .f32⟩
  | .hbm, ⟨20, _⟩ => ⟨S2x2x704x1024, .f32⟩
  | .hbm, ⟨21, _⟩ => ⟨S2x2x704x1024, .f32⟩
  | .hbm, ⟨22, _⟩ => ⟨S_, .f32⟩
  | .hbm, ⟨23, _⟩ => ⟨S2x2x704x1024, .f32⟩
  | .hbm, ⟨24, _⟩ => ⟨S2x2x704x1024, .f32⟩
  | .hbm, ⟨25, _⟩ => ⟨S2x2x704x1024, .f32⟩
  | .hbm, ⟨26, _⟩ => ⟨S_, .f32⟩
  | .hbm, ⟨27, _⟩ => ⟨S2x2x704x1024, .f32⟩
  | .hbm, ⟨28, _⟩ => ⟨S2x2x704x1024, .f32⟩
  | .hbm, ⟨29, _⟩ => ⟨S2x2x704x1024, .f32⟩
  | .hbm, ⟨30, _⟩ => ⟨S_, .f32⟩
  | .hbm, ⟨31, _⟩ => ⟨S2x2x704x1024, .f32⟩
  | .hbm, ⟨32, _⟩ => ⟨S2x2x704x1024, .f32⟩
  | .hbm, ⟨33, _⟩ => ⟨S2x2x704x1024, .f32⟩
  | .hbm, ⟨34, _⟩ => ⟨S_, .f32⟩
  | .hbm, ⟨35, _⟩ => ⟨S2x2x704x1024, .f32⟩
  | .hbm, ⟨36, _⟩ => ⟨S2x2x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S2x2x1024x704 : Shape := ⟨4, ![2, 2, 1024, 704]⟩
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x2x1024x704, .f32⟩
  | .hbm, ⟨1, _⟩ => ⟨S2x2x704x1024, .f32⟩
  | .hbm, ⟨2, _⟩ => ⟨S2x2x1024x704, .f32⟩
  | .hbm, ⟨3, _⟩ => ⟨S2x2x1024x704, .f32⟩
  | .hbm, ⟨4, _⟩ => ⟨S2x2x704x1024, .f32⟩
  | .hbm, ⟨5, _⟩ => ⟨S2x2x704x1024, .f32⟩
  | .hbm, ⟨6, _⟩ => ⟨S2x2x704x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference9Ideal.lean ====
abbrev S2x2x1024x704 : Shape := ⟨4, ![2, 2, 1024, 704]⟩
abbrev S2x2x704x1024 : Shape := ⟨4, ![2, 2, 704, 1024]⟩
abbrev S_ : Shape := ⟨0, ![]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2x1024x704, .f32⟩
  | .hbm, ⟨1, _⟩ => ⟨S2x2x704x1024, .f32⟩
  | .hbm, ⟨2, _⟩ => ⟨S2x2x1024x704, .f32⟩
  | .hbm, ⟨3, _⟩ => ⟨S2x2x1024x704, .f32⟩
  | .hbm, ⟨4, _⟩ => ⟨S2x2x1024x704, .f32⟩
  | .hbm, ⟨5, _⟩ => ⟨S_, .f32⟩
  | .hbm, ⟨6, _⟩ => ⟨S2x2x1024x704, .f32⟩
  | .hbm, ⟨7, _⟩ => ⟨S2x2x1024x704, .f32⟩
  | .hbm, ⟨8, _⟩ => ⟨S_, .f32⟩
  | .hbm, ⟨9, _⟩ => ⟨S2x2x1024x704, .f32⟩
  | .hbm, ⟨10, _⟩ => ⟨S2x2x1024x704, .f32⟩
  | .hbm, ⟨11, _⟩ => ⟨S2x2x1024x704, .f32⟩
  | .hbm, ⟨12, _⟩ => ⟨S_, .f32⟩
  | .hbm, ⟨13, _⟩ => ⟨S2x2x1024x704, .f32⟩
  | .hbm, ⟨14, _⟩ => ⟨S2x2x1024x704, .f32⟩
  | .hbm, ⟨15, _⟩ => ⟨S2x2x1024x704, .f32⟩
  | .hbm, ⟨16, _⟩ => ⟨S_, .f32⟩
  | .hbm, ⟨17, _⟩ => ⟨S2x2x1024x704, .f32⟩
  | .hbm, ⟨18, _⟩ => ⟨S2x2x1024x704, .f32⟩
  | .hbm, ⟨19, _⟩ => ⟨S2x2x1024x704, .f32⟩
  | .hbm, ⟨20, _⟩ => ⟨S_, .f32⟩
  | .hbm, ⟨21, _⟩ => ⟨S2x2x1024x704, .f32⟩
  | .hbm, ⟨22, _⟩ => ⟨S2x2x1024x704, .f32⟩
  | .hbm, ⟨23, _⟩ => ⟨S_, .f32⟩
  | .hbm, ⟨24, _⟩ => ⟨S2x2x1024x704, .f32⟩
  | .hbm, ⟨25, _⟩ => ⟨S2x2x1024x704, .f32⟩
  | .hbm, ⟨26, _⟩ => ⟨S2x2x1024x704, .f32⟩
  | .hbm, ⟨27, _⟩ => ⟨S_, .f32⟩
  | .hbm, ⟨28, _⟩ => ⟨S2x2x1024x704, .f32⟩
  | .hbm, ⟨29, _⟩ => ⟨S2x2x1024x704, .f32⟩
  | .hbm, ⟨30, _⟩ => ⟨S2x2x1024x704, .f32⟩
  | .hbm, ⟨31, _⟩ => ⟨S_, .f32⟩
  | .hbm, ⟨32, _⟩ => ⟨S2x2x1024x704, .f32⟩
  | .hbm, ⟨33, _⟩ => ⟨S2x2x1024x704, .f32⟩
  | .hbm, ⟨34, _⟩ => ⟨S2x2x1024x704, .f32⟩
  | .hbm, ⟨35, _⟩ => ⟨S_, .f32⟩
  | .hbm, ⟨36, _⟩ => ⟨S2x2x1024x704, .f32⟩
  | .hbm, ⟨37, _⟩ => ⟨S2x2x1024x704, .f32⟩
  | .hbm, ⟨38, _⟩ => ⟨S2x2x704x1024, .f32⟩
  | .hbm, ⟨39, _⟩ => ⟨S2816x1024, .f32⟩
  | .hbm, ⟨40, _⟩ => ⟨S2x2x704x1024, .f32⟩
  | .hbm, ⟨41, _⟩ => ⟨S2816x1024, .f32⟩
  | .hbm, ⟨42, _⟩ => ⟨S2x2x704x1024, .f32⟩
  | .hbm, ⟨43, _⟩ => ⟨S2816x1024, .f32⟩
  | _, _ => ⟨S2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel10.lean ====
abbrev S2x3x256 : Shape := ⟨3, ![2, 3, 256]⟩
abbrev S1x4x768 : Shape := ⟨3, ![1, 4, 768]⟩
abbrev S1x768 : Shape := ⟨2, ![1, 768]⟩
abbrev S1x32 : Shape := ⟨2, ![1, 32]⟩
abbrev S1x512 : Shape := ⟨2, ![1, 512]⟩
abbrev S1024 : Shape := ⟨1, ![1024]⟩
abbrev S256 : Shape := ⟨1, ![256]⟩
abbrev S1x1024 : Shape := ⟨2, ![1, 1024]⟩
abbrev S1x16 : Shape := ⟨2, ![1, 16]⟩
abbrev S1536 : Shape := ⟨1, ![1536]⟩
abbrev S3072 : Shape := ⟨1, ![3072]⟩
abbrev S768 : Shape := ⟨1, ![768]⟩
abbrev S32 : Shape := ⟨1, ![32]⟩
abbrev S512 : Shape := ⟨1, ![512]⟩
abbrev S16 : Shape := ⟨1, ![16]⟩
abbrev S10608 : Shape := ⟨1, ![10608]⟩
abbrev S_ : Shape := ⟨0, ![]⟩
abbrev S11264 : Shape := ⟨1, ![11264]⟩
abbrev S88x128 : Shape := ⟨2, ![88, 128]⟩

abbrev nBuf : Space → Nat
  | .hbm => 119
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S1x4x768, .f32⟩
  | .hbm, ⟨2, _⟩ => ⟨S1x768, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x512, .f32⟩
  | .hbm, ⟨7, _⟩ => ⟨S1024, .f32⟩
  | .hbm, ⟨8, _⟩ => ⟨S256, .f32⟩
  | .hbm, ⟨9, _⟩ => ⟨S256, .f32⟩
  | .hbm, ⟨10, _⟩ => ⟨S1x1024, .f32⟩
  | .hbm, ⟨11, _⟩ => ⟨S1x16, .f32⟩
  | .hbm, ⟨12, _⟩ => ⟨S1x1024, .f32⟩
  | .hbm, ⟨13, _⟩ => ⟨S1024, .f32⟩
  | .hbm, ⟨14, _⟩ => ⟨S2x3x256, .f32⟩
  | .hbm, ⟨15, _⟩ => ⟨S1x4x768, .f32⟩
  | .hbm, ⟨16, _⟩ => ⟨S1x768, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x512, .f32⟩
  | .hbm, ⟨21, _⟩ => ⟨S1024, .f32⟩
  | .hbm, ⟨22, _⟩ => ⟨S256, .f32⟩
  | .hbm, ⟨23, _⟩ => ⟨S256, .f32⟩
  | .hbm, ⟨24, _⟩ => ⟨S1x1024, .f32⟩
  | .hbm, ⟨25, _⟩ => ⟨S1x16, .f32⟩
  | .hbm, ⟨26, _⟩ => ⟨S1x1024, .f32⟩
  | .hbm, ⟨27, _⟩ => ⟨S1024, .f32⟩
  | .hbm, ⟨28, _⟩ => ⟨S2x3x256, .f32⟩
  | .hbm, ⟨29, _⟩ => ⟨S1x4x768, .f32⟩
  | .hbm, ⟨30, _⟩ => ⟨S1x768, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S1x512, .f32⟩
  | .hbm, ⟨35, _⟩ => ⟨S1024, .f32⟩
  | .hbm, ⟨36, _⟩ => ⟨S256, .f32⟩
  | .hbm, ⟨37, _⟩ => ⟨S256, .f32⟩
  | .hbm, ⟨38, _⟩ => ⟨S1x1024, .f32⟩
  | .hbm, ⟨39, _⟩ => ⟨S1x16, .f32⟩
  | .hbm, ⟨40, _⟩ => ⟨S1x1024, .f32⟩
  | .hbm, ⟨41, _⟩ => ⟨S1024, .f32⟩
  | .hbm, ⟨42, _⟩ => ⟨S2x3x256, .f32⟩
  | .hbm, ⟨43, _⟩ => ⟨S1x4x768, .f32⟩
  | .hbm, ⟨44, _⟩ => ⟨S1x768, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S1x512, .f32⟩
  | .hbm, ⟨49, _⟩ => ⟨S1024, .f32⟩
  | .hbm, ⟨50, _⟩ => ⟨S256, .f32⟩
  | .hbm, ⟨51, _⟩ => ⟨S256, .f32⟩
  | .hbm, ⟨52, _⟩ => ⟨S1x1024, .f32⟩
  | .hbm, ⟨53, _⟩ => ⟨S1x16, .f32⟩
  | .hbm, ⟨54, _⟩ => ⟨S1x1024, .f32⟩
  | .hbm, ⟨55, _⟩ => ⟨S1024, .f32⟩
  | .hbm, ⟨56, _⟩ => ⟨S1536, .f32⟩
  | .hbm, ⟨57, _⟩ => ⟨S3072, .f32⟩
  | .hbm, ⟨58, _⟩ => ⟨S768, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S512, .f32⟩
  | .hbm, ⟨63, _⟩ => ⟨S1024, .f32⟩
  | .hbm, ⟨64, _⟩ => ⟨S16, .f32⟩
  | .hbm, ⟨65, _⟩ => ⟨S1024, .f32⟩
  | .hbm, ⟨66, _⟩ => ⟨S10608, .f32⟩
  | .hbm, ⟨67, _⟩ => ⟨S_, .i32⟩
  | .hbm, ⟨68, _⟩ => ⟨S_, .f32⟩
  | .hbm, ⟨69, _⟩ => ⟨S11264, .f32⟩
  | .hbm, ⟨70, _⟩ => ⟨S88x128, .f32⟩
  | .hbm, ⟨71, _⟩ => ⟨S1536, .f32⟩
  | .hbm, ⟨72, _⟩ => ⟨S3072, .f32⟩
  | .hbm, ⟨73, _⟩ => ⟨S768, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S512, .f32⟩
  | .hbm, ⟨78, _⟩ => ⟨S1024, .f32⟩
  | .hbm, ⟨79, _⟩ => ⟨S16, .f32⟩
  | .hbm, ⟨80, _⟩ => ⟨S1024, .f32⟩
  | .hbm, ⟨81, _⟩ => ⟨S10608, .f32⟩
  | .hbm, ⟨82, _⟩ => ⟨S_, .i32⟩
  | .hbm, ⟨83, _⟩ => ⟨S_, .f32⟩
  | .hbm, ⟨84, _⟩ => ⟨S11264, .f32⟩
  | .hbm, ⟨85, _⟩ => ⟨S88x128, .f32⟩
  | .hbm, ⟨86, _⟩ => ⟨S1536, .f32⟩
  | .hbm, ⟨87, _⟩ => ⟨S3072, .f32⟩
  | .hbm, ⟨88, _⟩ => ⟨S768, .f32⟩
  | .hbm, ⟨89, _⟩ => ⟨S32, .f32⟩
  | .hbm, ⟨90, _⟩ => ⟨S32, .f32⟩
  | .hbm, ⟨91, _⟩ => ⟨S32, .f32⟩
  | .hbm, ⟨92, _⟩ => ⟨S512, .f32⟩
  | .hbm, ⟨93, _⟩ => ⟨S1024, .f32⟩
  | .hbm, ⟨94, _⟩ => ⟨S16, .f32⟩
  | .hbm, ⟨95, _⟩ => ⟨S1024, .f32⟩
  | .hbm, ⟨96, _⟩ => ⟨S10608, .f32⟩
  | .hbm, ⟨97, _⟩ => ⟨S_, .i32⟩
  | .hbm, ⟨98, _⟩ => ⟨S_, .f32⟩
  | .hbm, ⟨99, _⟩ => ⟨S11264, .f32⟩
  | .hbm, ⟨100, _⟩ => ⟨S88x128, .f32⟩
  | .hbm, ⟨101, _⟩ => ⟨S1536, .f32⟩
  | .hbm, ⟨102, _⟩ => ⟨S3072, .f32⟩
  | .hbm, ⟨103, _⟩ => ⟨S768, .f32⟩
  | .hbm, ⟨104, _⟩ => ⟨S32, .f32⟩
  | .hbm, ⟨105, _⟩ => ⟨S32, .f32⟩
  | .hbm, ⟨106, _⟩ => ⟨S32, .f32⟩
  | .hbm, ⟨107, _⟩ => ⟨S512, .f32⟩
  | .hbm, ⟨108, _⟩ => ⟨S1024, .f32⟩
  | .hbm, ⟨109, _⟩ => ⟨S16, .f32⟩
  | .hbm, ⟨110, _⟩ => ⟨S1024, .f32⟩
  | .hbm, ⟨111, _⟩ => ⟨S10608, .f32⟩
  | .hbm, ⟨112, _⟩ => ⟨S_, .i32⟩
  | .hbm, ⟨113, _⟩ => ⟨S_, .f32⟩
  | .hbm, ⟨114, _⟩ => ⟨S11264, .f32⟩
  | .hbm, ⟨115, _⟩ => ⟨S88x128, .f32⟩
  | .hbm, ⟨116, _⟩ => ⟨S88x128, .f32⟩
  | .hbm, ⟨117, _⟩ => ⟨S88x128, .f32⟩
  | .hbm, ⟨118, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_c : Ref sig .tc := ⟨.hbm, 67, rfl⟩
abbrev main_call0_v0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_c_0 : Ref sig .tc := ⟨.hbm, 82, rfl⟩
abbrev main_call1_v0 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_1 : Ref sig .tc := ⟨.hbm, 97, rfl⟩
abbrev main_call2_v0 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_2 : Ref sig .tc := ⟨.hbm, 112, rfl⟩
abbrev main_call3_v0 : Ref sig .tc := ⟨.hbm, 113, rfl⟩
abbrev main_v50 : Ref sig .tc := ⟨.hbm, 114, rfl⟩
abbrev main_v51 : Ref sig .tc := ⟨.hbm, 115, rfl⟩
abbrev main_v52_0 : Ref sig .tc := ⟨.hbm, 116, rfl⟩
abbrev main_v52_1 : Ref sig .tc := ⟨.hbm, 117, rfl⟩
abbrev main_v52_2 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference10Ideal.lean ====
abbrev S2x3x256 : Shape := ⟨3, ![2, 3, 256]⟩
abbrev S1x4x768 : Shape := ⟨3, ![1, 4, 768]⟩
abbrev S1x768 : Shape := ⟨2, ![1, 768]⟩
abbrev S1x32 : Shape := ⟨2, ![1, 32]⟩
abbrev S1x512 : Shape := ⟨2, ![1, 512]⟩
abbrev S1024 : Shape := ⟨1, ![1024]⟩
abbrev S256 : Shape := ⟨1, ![256]⟩
abbrev S1x1024 : Shape := ⟨2, ![1, 1024]⟩
abbrev S1x16 : Shape := ⟨2, ![1, 16]⟩
abbrev S1536 : Shape := ⟨1, ![1536]⟩
abbrev S3072 : Shape := ⟨1, ![3072]⟩
abbrev S768 : Shape := ⟨1, ![768]⟩
abbrev S32 : Shape := ⟨1, ![32]⟩
abbrev S512 : Shape := ⟨1, ![512]⟩
abbrev S16 : Shape := ⟨1, ![16]⟩
abbrev S10608 : Shape := ⟨1, ![10608]⟩
abbrev S_ : Shape := ⟨0, ![]⟩
abbrev S11264 : Shape := ⟨1, ![11264]⟩
abbrev S88x128 : Shape := ⟨2, ![88, 128]⟩

abbrev nBuf : Space → Nat
  | .hbm => 149
  | .vmem => 0
  | .smem => 0
  | _ => 0

abbrev hbmTy0_0 (i : Nat) : BufTy := match i % 128 with
  | 0 => ⟨S2x3x256, .f32⟩
  | 1 => ⟨S1x4x768, .f32⟩
  | 2 => ⟨S1x768, .f32⟩
  | 3 => ⟨S1x32, .f32⟩
  | 4 => ⟨S1x32, .f32⟩
  | 5 => ⟨S1x32, .f32⟩
  | 6 => ⟨S1x512, .f32⟩
  | 7 => ⟨S1024, .f32⟩
  | 8 => ⟨S256, .f32⟩
  | 9 => ⟨S256, .f32⟩
  | 10 => ⟨S1x1024, .f32⟩
  | 11 => ⟨S1x16, .f32⟩
  | 12 => ⟨S1x1024, .f32⟩
  | 13 => ⟨S1024, .f32⟩
  | 14 => ⟨S2x3x256, .f32⟩
  | 15 => ⟨S1x4x768, .f32⟩
  | 16 => ⟨S1x768, .f32⟩
  | 17 => ⟨S1x32, .f32⟩
  | 18 => ⟨S1x32, .f32⟩
  | 19 => ⟨S1x32, .f32⟩
  | 20 => ⟨S1x512, .f32⟩
  | 21 => ⟨S1024, .f32⟩
  | 22 => ⟨S256, .f32⟩
  | 23 => ⟨S256, .f32⟩
  | 24 => ⟨S1x1024, .f32⟩
  | 25 => ⟨S1x16, .f32⟩
  | 26 => ⟨S1x1024, .f32⟩
  | 27 => ⟨S1024, .f32⟩
  | 28 => ⟨S2x3x256, .f32⟩
  | 29 => ⟨S1x4x768, .f32⟩
  | 30 => ⟨S1x768, .f32⟩
  | 31 => ⟨S1x32, .f32⟩
  | 32 => ⟨S1x32, .f32⟩
  | 33 => ⟨S1x32, .f32⟩
  | 34 => ⟨S1x512, .f32⟩
  | 35 => ⟨S1024, .f32⟩
  | 36 => ⟨S256, .f32⟩
  | 37 => ⟨S256, .f32⟩
  | 38 => ⟨S1x1024, .f32⟩
  | 39 => ⟨S1x16, .f32⟩
  | 40 => ⟨S1x1024, .f32⟩
  | 41 => ⟨S1024, .f32⟩
  | 42 => ⟨S2x3x256, .f32⟩
  | 43 => ⟨S1x4x768, .f32⟩
  | 44 => ⟨S1x768, .f32⟩
  | 45 => ⟨S1x32, .f32⟩
  | 46 => ⟨S1x32, .f32⟩
  | 47 => ⟨S1x32, .f32⟩
  | 48 => ⟨S1x512, .f32⟩
  | 49 => ⟨S1024, .f32⟩
  | 50 => ⟨S256, .f32⟩
  | 51 => ⟨S256, .f32⟩
  | 52 => ⟨S1x1024, .f32⟩
  | 53 => ⟨S1x16, .f32⟩
  | 54 => ⟨S1x1024, .f32⟩
  | 55 => ⟨S1024, .f32⟩
  | 56 => ⟨S1536, .f32⟩
  | 57 => ⟨S3072, .f32⟩
  | 58 => ⟨S768, .f32⟩
  | 59 => ⟨S32, .f32⟩
  | 60 => ⟨S32, .f32⟩
  | 61 => ⟨S32, .f32⟩
  | 62 => ⟨S512, .f32⟩
  | 63 => ⟨S1024, .f32⟩
  | 64 => ⟨S16, .f32⟩
  | 65 => ⟨S1024, .f32⟩
  | 66 => ⟨S10608, .f32⟩
  | 67 => ⟨S_, .i32⟩
  | 68 => ⟨S_, .f32⟩
  | 69 => ⟨S11264, .f32⟩
  | 70 => ⟨S88x128, .f32⟩
  | 71 => ⟨S1536, .f32⟩
  | 72 => ⟨S3072, .f32⟩
  | 73 => ⟨S768, .f32⟩
  | 74 => ⟨S32, .f32⟩
  | 75 => ⟨S32, .f32⟩
  | 76 => ⟨S32, .f32⟩
  | 77 => ⟨S512, .f32⟩
  | 78 => ⟨S1024, .f32⟩
  | 79 => ⟨S16, .f32⟩
  | 80 => ⟨S1024, .f32⟩
  | 81 => ⟨S10608, .f32⟩
  | 82 => ⟨S_, .i32⟩
  | 83 => ⟨S_, .f32⟩
  | 84 => ⟨S11264, .f32⟩
  | 85 => ⟨S88x128, .f32⟩
  | 86 => ⟨S1536, .f32⟩
  | 87 => ⟨S3072, .f32⟩
  | 88 => ⟨S768, .f32⟩
  | 89 => ⟨S32, .f32⟩
  | 90 => ⟨S32, .f32⟩
  | 91 => ⟨S32, .f32⟩
  | 92 => ⟨S512, .f32⟩
  | 93 => ⟨S1024, .f32⟩
  | 94 => ⟨S16, .f32⟩
  | 95 => ⟨S1024, .f32⟩
  | 96 => ⟨S10608, .f32⟩
  | 97 => ⟨S_, .i32⟩
  | 98 => ⟨S_, .f32⟩
  | 99 => ⟨S11264, .f32⟩
  | 100 => ⟨S88x128, .f32⟩
  | 101 => ⟨S1536, .f32⟩
  | 102 => ⟨S3072, .f32⟩
  | 103 => ⟨S768, .f32⟩
  | 104 => ⟨S32, .f32⟩
  | 105 => ⟨S32, .f32⟩
  | 106 => ⟨S32, .f32⟩
  | 107 => ⟨S512, .f32⟩
  | 108 => ⟨S1024, .f32⟩
  | 109 => ⟨S16, .f32⟩
  | 110 => ⟨S1024, .f32⟩
  | 111 => ⟨S10608, .f32⟩
  | 112 => ⟨S_, .i32⟩
  | 113 => ⟨S_, .f32⟩
  | 114 => ⟨S11264, .f32⟩
  | 115 => ⟨S88x128, .f32⟩
  | 116 => ⟨S_, .f32⟩
  | 117 => ⟨S88x128, .f32⟩
  | 118 => ⟨S88x128, .f32⟩
  | 119 => ⟨S_, .f32⟩
  | 120 => ⟨S88x128, .f32⟩
  | 121 => ⟨S88x128, .f32⟩
  | 122 => ⟨S88x128, .f32⟩
  | 123 => ⟨S_, .f32⟩
  | 124 => ⟨S88x128, .f32⟩
  | 125 => ⟨S88x128, .f32⟩
  | 126 => ⟨S88x128, .f32⟩
  | 127 => ⟨S_, .f32⟩
  | _ => ⟨S2x3x256, .f32⟩

abbrev hbmTy0_1 (i : Nat) : BufTy := match i % 128 with
  | 0 => ⟨S88x128, .f32⟩
  | 1 => ⟨S88x128, .f32⟩
  | 2 => ⟨S88x128, .f32⟩
  | 3 => ⟨S_, .f32⟩
  | 4 => ⟨S88x128, .f32⟩
  | 5 => ⟨S88x128, .f32⟩
  | 6 => ⟨S_, .f32⟩
  | 7 => ⟨S88x128, .f32⟩
  | 8 => ⟨S88x128, .f32⟩
  | 9 => ⟨S88x128, .f32⟩
  | 10 => ⟨S_, .f32⟩
  | 11 => ⟨S88x128, .f32⟩
  | 12 => ⟨S88x128, .f32⟩
  | 13 => ⟨S88x128, .f32⟩
  | 14 => ⟨S_, .f32⟩
  | 15 => ⟨S88x128, .f32⟩
  | 16 => ⟨S88x128, .f32⟩
  | 17 => ⟨S88x128, .f32⟩
  | 18 => ⟨S_, .f32⟩
  | 19 => ⟨S88x128, .f32⟩
  | 20 => ⟨S88x128, .f32⟩
  | _ => ⟨S2x3x256, .f32⟩

abbrev hbmTy (i : Nat) : BufTy := match i / 128 with
  | 0 => hbmTy0_0 i
  | 1 => hbmTy0_1 i
  | _ => ⟨S2x3x256, .f32⟩

abbrev bufTy : (tb : Table) → Fin (tcTables nBuf tb) → BufTy
  | .hbm, ⟨i, _⟩ => hbmTy i
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_c : Ref sig .tc := ⟨.hbm, 67, rfl⟩
abbrev main_call0_v0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_c_0 : Ref sig .tc := ⟨.hbm, 82, rfl⟩
abbrev main_call1_v0 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_1 : Ref sig .tc := ⟨.hbm, 97, rfl⟩
abbrev main_call2_v0 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_2 : Ref sig .tc := ⟨.hbm, 112, rfl⟩
abbrev main_call3_v0 : Ref sig .tc := ⟨.hbm, 113, rfl⟩
abbrev main_v50 : Ref sig .tc := ⟨.hbm, 114, rfl⟩
abbrev main_v51 : Ref sig .tc := ⟨.hbm, 115, rfl⟩
abbrev main_cst : Ref sig .tc := ⟨.hbm, 116, rfl⟩
abbrev main_v52 : Ref sig .tc := ⟨.hbm, 117, rfl⟩
abbrev main_v53 : Ref sig .tc := ⟨.hbm, 118, rfl⟩
abbrev main_cst_3 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_4 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_5 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_cst_6 : Ref sig .tc := ⟨.hbm, 131, rfl⟩
abbrev main_v63 : Ref sig .tc := ⟨.hbm, 132, rfl⟩
abbrev main_v64 : Ref sig .tc := ⟨.hbm, 133, rfl⟩
abbrev main_cst_7 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_cst_8 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_9 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_10 : Ref sig .tc := ⟨.hbm, 146, rfl⟩
abbrev main_v74 : Ref sig .tc := ⟨.hbm, 147, rfl⟩
abbrev main_v75 : Ref sig .tc := ⟨.hbm, 148, rfl⟩

abbrev nD : Nat := 1
abbrev τ : Topo := Topo.v7x

variable {F : FTy → Type} [FloatOps F]
-- ==== Proof.Steps.lean ====
module

public import proofs.«01_k».proof.Proof.Gen.KernelIdeal.Frame
public import proofs.«01_k».proof.Proof.Gen.KernelIdeal.Skeleton
public import Idealize.ShloMosaic.Lib.WritesUnit
public import Idealize.ShloMosaic.Lib.ValueIdx
public import Idealize.ShloMosaic.Lib.Pipeline.ValueKit.Acc
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What one half of a step computes

A step reads 512 rows of the output's cotangent, of the normalised rows and of the two saved products, in two halves of
256 rows. Each half adds one product to each of the three weight cotangents and two products to the rows' cotangent. -/

abbrev rA2 : Rect S512x1024 := Rect.unit ![0, 0] S256x1024.size inb_S512x1024_S256x1024_0_0
abbrev rB2 : Rect S512x1024 := Rect.unit ![256, 0] S256x1024.size inb_S512x1024_S256x1024_256_0
abbrev rAg : Rect S1x2x512x704 := Rect.unit ![0, 0, 0, 0] S1x1x256x704.size inb_S1x2x512x704_S1x1x256x704_0_0_0_0
abbrev rAu : Rect S1x2x512x704 := Rect.unit ![0, 1, 0, 0] S1x1x256x704.size inb_S1x2x512x704_S1x1x256x704_0_1_0_0
abbrev rBg : Rect S1x2x512x704 := Rect.unit ![0, 0, 256, 0] S1x1x256x704.size inb_S1x2x512x704_S1x1x256x704_0_0_256_0
abbrev rBu : Rect S1x2x512x704 := Rect.unit ![0, 1, 256, 0] S1x1x256x704.size inb_S1x2x512x704_S1x1x256x704_0_1_256_0
abbrev q0 : Rect S3x704x1024 := Rect.unit ![0, 0, 0] S1x704x1024.size inb_S3x704x1024_S1x704x1024_0_0_0
abbrev q1 : Rect S3x704x1024 := Rect.unit ![1, 0, 0] S1x704x1024.size inb_S3x704x1024_S1x704x1024_1_0_0
abbrev q2 : Rect S3x704x1024 := Rect.unit ![2, 0, 0] S1x704x1024.size inb_S3x704x1024_S1x704x1024_2_0_0

/-- The down weight's cotangent after a half: `(½ silu(g) u)ᵀ dx` added. -/
def addDown (dx : Vec F S256x1024 .f32) (g u : Vec F S1x1x256x704 .bf16) (o : Vec F S1x704x1024 .f32) : Vec F S1x704x1024 .f32 :=
  k0_pay19 (k0_pay12 dx) (k0_pay15 u) (k0_pay17 g) (k0_pay18 o)
/-- The gate weight's cotangent after a half: `dgᵀ h` added. -/
def addGate (dx : Vec F S256x1024 .f32) (h : Vec F S256x1024 .bf16) (g u : Vec F S1x1x256x704 .bf16) (wd : Vec F S2x1x352x1024 .bf16)
    (o : Vec F S1x704x1024 .f32) : Vec F S1x704x1024 .f32 :=
  k0_pay22 (k0_pay12 dx) (k0_pay13 h) (k0_pay14 g) (k0_pay15 u) (k0_pay16 g) wd o
/-- The up weight's cotangent after a half: `duᵀ h` added. -/
def addUp (dx : Vec F S256x1024 .f32) (h : Vec F S256x1024 .bf16) (g : Vec F S1x1x256x704 .bf16) (wd : Vec F S2x1x352x1024 .bf16)
    (o : Vec F S1x704x1024 .f32) : Vec F S1x704x1024 .f32 :=
  k0_pay25 (k0_pay13 h) (k0_pay23 (k0_pay12 dx) (k0_pay17 g) wd) o
/-- The rows' cotangent after a half: `dg wg` added, then `du wu`. -/
def addRowsG (dx : Vec F S256x1024 .f32) (g u : Vec F S1x1x256x704 .bf16) (wg wd : Vec F S2x1x352x1024 .bf16)
    (o : Vec F S256x1024 .f32) : Vec F S256x1024 .f32 :=
  k0_pay24 (k0_pay21 (k0_pay12 dx) (k0_pay14 g) (k0_pay15 u) (k0_pay16 g) wd) o wg
def addRowsU (dx : Vec F S256x1024 .f32) (g : Vec F S1x1x256x704 .bf16) (wu wd : Vec F S2x1x352x1024 .bf16)
    (o : Vec F S256x1024 .f32) : Vec F S256x1024 .f32 :=
  k0_pay26 (k0_pay23 (k0_pay12 dx) (k0_pay17 g) wd) o wu

/-- The three cotangents of the weights in one buffer. -/
def mk3 (a b c : Vec F S1x704x1024 .f32) : Vec F S3x704x1024 .f32 := fun y =>
  if (y 0).val = 0 then a (ix3 0 (y 1) (y 2)) else if (y 0).val = 1 then b (ix3 0 (y 1) (y 2)) else c (ix3 0 (y 1) (y 2))

/-- A whole step of each. -/
def stepDown (x2 : Vec F S512x1024 .f32) (x6 : Vec F S1x2x512x704 .bf16) (o : Vec F S1x704x1024 .f32) : Vec F S1x704x1024 .f32 :=
  addDown (View.ld x2 rB2) (View.ld x6 rBg) (View.ld x6 rBu) (addDown (View.ld x2 rA2) (View.ld x6 rAg) (View.ld x6 rAu) o)
def stepGate (x2 : Vec F S512x1024 .f32) (x3 : Vec F S512x1024 .bf16) (x6 : Vec F S1x2x512x704 .bf16) (x9 : Vec F S2x1x352x1024 .bf16)
    (o : Vec F S1x704x1024 .f32) : Vec F S1x704x1024 .f32 :=
  addGate (View.ld x2 rB2) (View.ld x3 rB2) (View.ld x6 rBg) (View.ld x6 rBu) x9
    (addGate (View.ld x2 rA2) (View.ld x3 rA2) (View.ld x6 rAg) (View.ld x6 rAu) x9 o)
def stepUp (x2 : Vec F S512x1024 .f32) (x3 : Vec F S512x1024 .bf16) (x6 : Vec F S1x2x512x704 .bf16) (x9 : Vec F S2x1x352x1024 .bf16)
    (o : Vec F S1x704x1024 .f32) : Vec F S1x704x1024 .f32 :=
  addUp (View.ld x2 rB2) (View.ld x3 rB2) (View.ld x6 rBg) x9
    (addUp (View.ld x2 rA2) (View.ld x3 rA2) (View.ld x6 rAg) x9 o)
def stepRowsA (x2 : Vec F S512x1024 .f32) (x6 : Vec F S1x2x512x704 .bf16) (x7 x8 x9 : Vec F S2x1x352x1024 .bf16)
    (o : Vec F S256x1024 .f32) : Vec F S256x1024 .f32 :=
  addRowsU (View.ld x2 rA2) (View.ld x6 rAg) x8 x9 (addRowsG (View.ld x2 rA2) (View.ld x6 rAg) (View.ld x6 rAu) x7 x9 o)
def stepRowsB (x2 : Vec F S512x1024 .f32) (x6 : Vec F S1x2x512x704 .bf16) (x7 x8 x9 : Vec F S2x1x352x1024 .bf16)
    (o : Vec F S256x1024 .f32) : Vec F S256x1024 .f32 :=
  addRowsU (View.ld x2 rB2) (View.ld x6 rBg) x8 x9 (addRowsG (View.ld x2 rB2) (View.ld x6 rBg) (View.ld x6 rBu) x7 x9 o)

def z16 : Vec F S1x704x1024 .f32 := fun _ => Scalar.ofBits .f32 0x00000000#32
def z15 : Vec F S256x1024 .f32 := fun _ => Scalar.ofBits .f32 0x00000000#32

theorem k0_pay10_apply (y : S3x704x1024.Idx) : (k0_pay10 : FVec F S3x704x1024 .f32) y = Scalar.ofBits .f32 0x00000000#32 := rfl
theorem k0_pay11_apply (y : S512x1024.Idx) : (k0_pay11 : FVec F S512x1024 .f32) y = Scalar.ofBits .f32 0x00000000#32 := rfl

/-- 256 rows of the rows' cotangent from row `o`. -/
def rows256 (o : ℕ) (X : Vec F S2048x1024 .f32) : Vec F S256x1024 .f32 := fun x =>
  X (ix2 ⟨(o + (x 0).val) % 2048, Nat.mod_lt _ (by decide)⟩ (x 1))
/-- 512 rows, from its two halves. -/
def cat (a b : Vec F S256x1024 .f32) : Vec F S512x1024 .f32 := fun x =>
  if (x 0).val < 256 then a (ix2 ⟨(x 0).val % 256, Nat.mod_lt _ (by decide)⟩ (x 1))
  else b (ix2 ⟨((x 0).val - 256) % 256, Nat.mod_lt _ (by decide)⟩ (x 1))
/-- 512 rows from row `o` replaced. -/
def put15 (o : ℕ) (w : Vec F S512x1024 .f32) (X : Vec F S2048x1024 .f32) : Vec F S2048x1024 .f32 := fun y =>
  if o ≤ (y 0).val ∧ (y 0).val < o + 512 then w (ix2 ⟨((y 0).val - o) % 512, Nat.mod_lt _ (by decide)⟩ (y 1)) else X y

/-! ## Reading back the three weight cotangents -/

section Lists
variable {sig' : RefSig} {κ : Kind} {sp : Space}

theorem hit3 (v : View sig' κ sp S3x704x1024 .f32) (f : v.ty.Contents (Elt F)) (j : ℕ) (inb : ∀ a, (![j, 0, 0] : Fin 3 → ℕ) a + S1x704x1024.size a ≤ S3x704x1024.size a)
    (w : Vec F S1x704x1024 .f32) (L : List (View.Piece (Elt F) S3x704x1024 .f32)) (y : S3x704x1024.Idx) (hy : (y 0).val = j) :
    v.read (Elt F) (v.writes (Elt F) f ((⟨Rect.unit ![j, 0, 0] S1x704x1024.size inb, w⟩ : View.Piece (Elt F) S3x704x1024 .f32) :: L)) y
      = w (ix3 0 (y 1) (y 2)) :=
  View.read_writes_cons_unit_of_mem v f inb w L y (ix3 0 (y 1) (y 2)) rfl (fun a => by
    fin_cases a
    · simpa using hy
    · simp
    · simp)

theorem miss3 (v : View sig' κ sp S3x704x1024 .f32) (f : v.ty.Contents (Elt F)) (j : ℕ) (inb : ∀ a, (![j, 0, 0] : Fin 3 → ℕ) a + S1x704x1024.size a ≤ S3x704x1024.size a)
    (w : Vec F S1x704x1024 .f32) (L : List (View.Piece (Elt F) S3x704x1024 .f32)) (y : S3x704x1024.Idx) (hy : (y 0).val ≠ j) :
    v.read (Elt F) (v.writes (Elt F) f ((⟨Rect.unit ![j, 0, 0] S1x704x1024.size inb, w⟩ : View.Piece (Elt F) S3x704x1024 .f32) :: L)) y
      = v.read (Elt F) (v.writes (Elt F) f L) y :=
  View.read_writes_cons_unit_of_not_mem v f inb w L y rfl 0 (by
    show (y 0).val < j ∨ j + 1 ≤ (y 0).val
    omega)

/-- A load of one of the three, from what the writes hold there. -/
theorem cov3 (v : View sig' κ sp S3x704x1024 .f32) (j : ℕ) (inb : ∀ a, (![j, 0, 0] : Fin 3 → ℕ) a + S1x704x1024.size a ≤ S3x704x1024.size a)
    (w : Vec F S1x704x1024 .f32) (L : List (View.Piece (Elt F) S3x704x1024 .f32))
    (h : ∀ y : S3x704x1024.Idx, (y 0).val = j → v.read (Elt F) (v.writes (Elt F) v.junk L) y = w (ix3 0 (y 1) (y 2))) :
    v.readCov L (Rect.unit (s := S3x704x1024) ![j, 0, 0] S1x704x1024.size inb).toLoadRect = w := by
  funext x
  have hx0 : (x 0).val = 0 := by have : (x 0).val < 1 := (x 0).isLt; omega
  refine (h ((Rect.unit (s := S3x704x1024) ![j, 0, 0] S1x704x1024.size inb).idx x) ?_).trans ?_
  · rw [Rect.idx_unit_val, hx0]; rfl
  · congr 1
    funext a
    apply Fin.ext
    fin_cases a
    · exact hx0.symm
    · exact (Rect.idx_unit_val _ _ inb x 1).trans (Nat.zero_add _)
    · exact (Rect.idx_unit_val _ _ inb x 2).trans (Nat.zero_add _)

/-- The writes of a step's first half over the writes `B` before it. -/
def L3 (B : List (View.Piece (Elt F) S3x704x1024 .f32)) (w2 w0 w1 : Vec F S1x704x1024 .f32) : List (View.Piece (Elt F) S3x704x1024 .f32) :=
  ⟨q1, w1⟩ :: ⟨q0, w0⟩ :: ⟨q2, w2⟩ :: B
/-- And of its second half, which reads the first half's writes back. -/
def L6 (v : View sig' κ sp S3x704x1024 .f32) (L : List (View.Piece (Elt F) S3x704x1024 .f32)) (b2 b0 b1 : Vec F S1x704x1024 .f32 → Vec F S1x704x1024 .f32) :
    List (View.Piece (Elt F) S3x704x1024 .f32) :=
  ⟨q1, b1 (v.readCov (⟨q0, b0 (v.readCov (⟨q2, b2 (v.readCov L q2.toLoadRect)⟩ :: L) q0.toLoadRect)⟩ :: ⟨q2, b2 (v.readCov L q2.toLoadRect)⟩ :: L) q1.toLoadRect)⟩
    :: ⟨q0, b0 (v.readCov (⟨q2, b2 (v.readCov L q2.toLoadRect)⟩ :: L) q0.toLoadRect)⟩
    :: ⟨q2, b2 (v.readCov L q2.toLoadRect)⟩ :: L

theorem L6_eq (v : View sig' κ sp S3x704x1024 .f32) (B : List (View.Piece (Elt F) S3x704x1024 .f32)) (w2 w0 w1 : Vec F S1x704x1024 .f32)
    (b2 b0 b1 : Vec F S1x704x1024 .f32 → Vec F S1x704x1024 .f32) :
    L6 v (L3 B w2 w0 w1) b2 b0 b1 = L3 (L3 B w2 w0 w1) (b2 w2) (b0 w0) (b1 w1) := by
  have e2 : v.readCov (L3 B w2 w0 w1) q2.toLoadRect = w2 := cov3 v 2 _ _ _ (fun y hy =>
    (miss3 _ _ 1 _ _ _ _ (by omega)).trans ((miss3 _ _ 0 _ _ _ _ (by omega)).trans (hit3 _ _ 2 _ _ _ _ hy)))
  have e0 : ∀ w, v.readCov (⟨q2, w⟩ :: L3 B w2 w0 w1) q0.toLoadRect = w0 := fun w => cov3 v 0 _ _ _ (fun y hy =>
    (miss3 _ _ 2 _ _ _ _ (by omega)).trans ((miss3 _ _ 1 _ _ _ _ (by omega)).trans (hit3 _ _ 0 _ _ _ _ hy)))
  have e1 : ∀ w w', v.readCov (⟨q0, w'⟩ :: ⟨q2, w⟩ :: L3 B w2 w0 w1) q1.toLoadRect = w1 := fun w w' => cov3 v 1 _ _ _ (fun y hy =>
    (miss3 _ _ 0 _ _ _ _ (by omega)).trans ((miss3 _ _ 2 _ _ _ _ (by omega)).trans (hit3 _ _ 1 _ _ _ _ hy)))
  unfold L6
  rw [e2, e0, e1]
  rfl

theorem read_L3 (v : View sig' κ sp S3x704x1024 .f32) (f : v.ty.Contents (Elt F)) (B : List (View.Piece (Elt F) S3x704x1024 .f32)) (w2 w0 w1 : Vec F S1x704x1024 .f32) :
    v.read (Elt F) (v.writes (Elt F) f (L3 B w2 w0 w1)) = mk3 w0 w1 w2 := by
  funext y
  have hy : (y 0).val < 3 := (y 0).isLt
  unfold mk3
  by_cases h0 : (y 0).val = 0
  · rw [if_pos h0]
    exact (miss3 _ _ 1 _ _ _ _ (by omega)).trans (hit3 _ _ 0 _ _ _ _ h0)
  rw [if_neg h0]
  by_cases h1 : (y 0).val = 1
  · rw [if_pos h1]
    exact hit3 _ _ 1 _ _ _ _ h1
  rw [if_neg h1]
  exact (miss3 _ _ 1 _ _ _ _ h1).trans ((miss3 _ _ 0 _ _ _ _ h0).trans (hit3 _ _ 2 _ _ _ _ (by omega)))

theorem cov_L3 (v : View sig' κ sp S3x704x1024 .f32) (B : List (View.Piece (Elt F) S3x704x1024 .f32)) (w2 w0 w1 : Vec F S1x704x1024 .f32) :
    v.readCov (L3 B w2 w0 w1) q0.toLoadRect = w0 ∧ v.readCov (L3 B w2 w0 w1) q1.toLoadRect = w1 ∧ v.readCov (L3 B w2 w0 w1) q2.toLoadRect = w2 :=
  ⟨cov3 v 0 _ _ _ (fun y hy => (miss3 _ _ 1 _ _ _ _ (by omega)).trans (hit3 _ _ 0 _ _ _ _ hy)),
   cov3 v 1 _ _ _ (fun y hy => hit3 _ _ 1 _ _ _ _ hy),
   cov3 v 2 _ _ _ (fun y hy => (miss3 _ _ 1 _ _ _ _ (by omega)).trans ((miss3 _ _ 0 _ _ _ _ (by omega)).trans (hit3 _ _ 2 _ _ _ _ hy)))⟩

/-- The writes before a run's first step: all three set to zero. -/
abbrev Z3 : List (View.Piece (Elt F) S3x704x1024 .f32) := [⟨Rect.unit ![0, 0, 0] S3x704x1024.size inb_S3x704x1024_S3x704x1024_0_0_0, k0_pay10⟩]

theorem read_Z3 (v : View sig' κ sp S3x704x1024 .f32) (f : v.ty.Contents (Elt F)) (y : S3x704x1024.Idx) :
    v.read (Elt F) (v.writes (Elt F) f Z3) y = Scalar.ofBits .f32 0x00000000#32 :=
  (View.read_writes_cons_unit_of_mem v f _ _ [] y y rfl (fun a => by fin_cases a <;> simp)).trans (k0_pay10_apply _)

/-- The first half's writes, the old values read from the buffer. -/
def F3 (v : View sig' κ sp S3x704x1024 .f32) (f : v.ty.Contents (Elt F)) (a2 a0 a1 : Vec F S1x704x1024 .f32 → Vec F S1x704x1024 .f32) :
    List (View.Piece (Elt F) S3x704x1024 .f32) :=
  L3 [] (a2 (v.readAt (Elt F) q2.toLoadRect f)) (a0 (v.readAt (Elt F) q0.toLoadRect f)) (a1 (v.readAt (Elt F) q1.toLoadRect f))
/-- The first half's writes, the old values read from the zeros just written. -/
def F3z (v : View sig' κ sp S3x704x1024 .f32) (a2 a0 a1 : Vec F S1x704x1024 .f32 → Vec F S1x704x1024 .f32) :
    List (View.Piece (Elt F) S3x704x1024 .f32) :=
  L3 Z3 (a2 (v.readCov Z3 q2.toLoadRect)) (a0 (v.readCov (⟨q2, a2 (v.readCov Z3 q2.toLoadRect)⟩ :: Z3) q0.toLoadRect))
    (a1 (v.readCov (⟨q0, a0 (v.readCov (⟨q2, a2 (v.readCov Z3 q2.toLoadRect)⟩ :: Z3) q0.toLoadRect)⟩ :: ⟨q2, a2 (v.readCov Z3 q2.toLoadRect)⟩ :: Z3) q1.toLoadRect))

theorem F3z_eq (v : View sig' κ sp S3x704x1024 .f32) (a2 a0 a1 : Vec F S1x704x1024 .f32 → Vec F S1x704x1024 .f32) :
    F3z v a2 a0 a1 = L3 Z3 (a2 z16) (a0 z16) (a1 z16) := by
  have e2 : v.readCov Z3 q2.toLoadRect = (z16 : Vec F S1x704x1024 .f32) := cov3 v 2 _ _ _ (fun y hy => read_Z3 _ _ _)
  have e0 : ∀ w, v.readCov (⟨q2, w⟩ :: Z3) q0.toLoadRect = (z16 : Vec F S1x704x1024 .f32) := fun w => cov3 v 0 _ _ _ (fun y hy =>
    (miss3 _ _ 2 _ _ _ _ (by omega)).trans (read_Z3 _ _ _))
  have e1 : ∀ w w', v.readCov (⟨q0, w'⟩ :: ⟨q2, w⟩ :: Z3) q1.toLoadRect = (z16 : Vec F S1x704x1024 .f32) := fun w w' => cov3 v 1 _ _ _ (fun y hy =>
    (miss3 _ _ 0 _ _ _ _ (by omega)).trans ((miss3 _ _ 2 _ _ _ _ (by omega)).trans (read_Z3 _ _ _)))
  unfold F3z
  rw [e2, e0, e1]

/-! ## Reading back the rows' cotangent -/

/-- A half's two writes over `B`. -/
def R2 (v : View sig' κ sp S2048x1024 .f32) (B : List (View.Piece (Elt F) S2048x1024 .f32)) (r : Rect S2048x1024) (w : r.shape.Idx → F .f32)
    (b : (r.shape.Idx → F .f32) → (r.shape.Idx → F .f32)) : List (View.Piece (Elt F) S2048x1024 .f32) :=
  ⟨r, b (v.readCov (⟨r, w⟩ :: B) r.toLoadRect)⟩ :: ⟨r, w⟩ :: B

theorem R2_eq (v : View sig' κ sp S2048x1024 .f32) (B : List (View.Piece (Elt F) S2048x1024 .f32)) (r : Rect S2048x1024) (w : r.shape.Idx → F .f32)
    (b : (r.shape.Idx → F .f32) → (r.shape.Idx → F .f32)) : R2 v B r w b = ⟨r, b w⟩ :: ⟨r, w⟩ :: B := by
  unfold R2; rw [View.readCov_cons_toLoadRect]

theorem hit2 (v : View sig' κ sp S2048x1024 .f32) (f : v.ty.Contents (Elt F)) {off : Fin 2 → ℕ} {o : ℕ} (ho : off = ![o, 0]) (inb : ∀ a, off a + S256x1024.size a ≤ S2048x1024.size a)
    (w : Vec F S256x1024 .f32) (L : List (View.Piece (Elt F) S2048x1024 .f32)) (y : S2048x1024.Idx) (hy : o ≤ (y 0).val ∧ (y 0).val < o + 256) :
    v.read (Elt F) (v.writes (Elt F) f ((⟨Rect.unit off S256x1024.size inb, w⟩ : View.Piece (Elt F) S2048x1024 .f32) :: L)) y
      = w (ix2 ⟨((y 0).val - o) % 256, Nat.mod_lt _ (by decide)⟩ (y 1)) :=
  View.read_writes_cons_unit_of_mem v f inb w L y (ix2 ⟨((y 0).val - o) % 256, Nat.mod_lt _ (by decide)⟩ (y 1)) ho (fun a => by
    fin_cases a
    · show (y 0).val = o + ((y 0).val - o) % 256
      omega
    · exact (Nat.zero_add _).symm)

theorem miss2 (v : View sig' κ sp S2048x1024 .f32) (f : v.ty.Contents (Elt F)) {off : Fin 2 → ℕ} {o : ℕ} (ho : off = ![o, 0]) (inb : ∀ a, off a + S256x1024.size a ≤ S2048x1024.size a)
    (w : Vec F S256x1024 .f32) (L : List (View.Piece (Elt F) S2048x1024 .f32)) (y : S2048x1024.Idx) (hy : ¬ (o ≤ (y 0).val ∧ (y 0).val < o + 256)) :
    v.read (Elt F) (v.writes (Elt F) f ((⟨Rect.unit off S256x1024.size inb, w⟩ : View.Piece (Elt F) S2048x1024 .f32) :: L)) y
      = v.read (Elt F) (v.writes (Elt F) f L) y :=
  View.read_writes_cons_unit_of_not_mem v f inb w L y ho 0 (by
    show (y 0).val < o ∨ o + 256 ≤ (y 0).val
    omega)

theorem ld256 {off : Fin 2 → ℕ} {o : ℕ} (ho : off = ![o, 0]) (inb : ∀ a, off a + S256x1024.size a ≤ S2048x1024.size a) (X : Vec F S2048x1024 .f32) :
    View.ld X (Rect.unit (s := S2048x1024) off S256x1024.size inb) = rows256 o X := by
  funext x
  unfold rows256
  show X _ = X _
  congr 1
  have hb : o + (x 0).val < 2048 := by
    have h0 := inb 0; have hx : (x 0).val < 256 := (x 0).isLt
    subst ho
    have : o + 256 ≤ 2048 := h0
    omega
  funext a
  apply Fin.ext
  rw [Rect.idx_unit_val]
  subst ho
  fin_cases a
  · exact (Nat.mod_eq_of_lt hb).symm
  · exact Nat.zero_add _

/-- The rows a step leaves. -/
theorem read_R4 (v : View sig' κ sp S2048x1024 .f32) (f : v.ty.Contents (Elt F)) (B : List (View.Piece (Elt F) S2048x1024 .f32)) {offA offB : Fin 2 → ℕ} {o : ℕ}
    (hA : offA = ![o, 0]) (hB : offB = ![o + 256, 0]) (inbA : ∀ a, offA a + S256x1024.size a ≤ S2048x1024.size a) (inbB : ∀ a, offB a + S256x1024.size a ≤ S2048x1024.size a)
    (wA wA' wB wB' : Vec F S256x1024 .f32) (X : Vec F S2048x1024 .f32)
    (hX : ∀ y : S2048x1024.Idx, ¬ (o ≤ (y 0).val ∧ (y 0).val < o + 512) → v.read (Elt F) (v.writes (Elt F) f B) y = X y) :
    v.read (Elt F) (v.writes (Elt F) f ((⟨Rect.unit offB S256x1024.size inbB, wB⟩ : View.Piece (Elt F) S2048x1024 .f32) :: ⟨Rect.unit offB S256x1024.size inbB, wB'⟩
      :: ⟨Rect.unit offA S256x1024.size inbA, wA⟩ :: ⟨Rect.unit offA S256x1024.size inbA, wA'⟩ :: B)) = put15 o (cat wA wB) X := by
  funext y
  unfold put15
  by_cases h : o ≤ (y 0).val ∧ (y 0).val < o + 512
  · rw [if_pos h]
    have hm : ((y 0).val - o) % 512 = (y 0).val - o := Nat.mod_eq_of_lt (by omega)
    unfold cat
    by_cases h1 : (y 0).val < o + 256
    · rw [if_pos (show ((y 0).val - o) % 512 < 256 by omega)]
      refine (miss2 v f hB inbB _ _ y (by omega)).trans ((miss2 v f hB inbB _ _ y (by omega)).trans ((hit2 v f hA inbA _ _ y (by omega)).trans ?_))
      show wA (ix2 ⟨_, _⟩ _) = wA (ix2 ⟨_, _⟩ _)
      simp only [hm]
    · rw [if_neg (show ¬ ((y 0).val - o) % 512 < 256 by omega)]
      refine (hit2 v f hB inbB _ _ y (by omega)).trans ?_
      show wB (ix2 ⟨_, _⟩ _) = wB (ix2 ⟨_, _⟩ _)
      simp only [hm, Nat.sub_add_eq]
  · rw [if_neg h]
    exact (miss2 v f hB inbB _ _ y (by omega)).trans ((miss2 v f hB inbB _ _ y (by omega)).trans ((miss2 v f hA inbA _ _ y (by omega)).trans
      ((miss2 v f hA inbA _ _ y (by omega)).trans (hX y h))))

/-- The step's own 512 rows, read back. -/
theorem cov512 (v : View sig' κ sp S2048x1024 .f32) (L : List (View.Piece (Elt F) S2048x1024 .f32)) {off : Fin 2 → ℕ} {o : ℕ}
    (ho : off = ![o, 0]) (inb : ∀ a, off a + S512x1024.size a ≤ S2048x1024.size a) (w : Vec F S512x1024 .f32) (X : Vec F S2048x1024 .f32)
    (h : v.read (Elt F) (v.writes (Elt F) v.junk L) = put15 o w X) :
    v.readCov L (Rect.unit (s := S2048x1024) off S512x1024.size inb).toLoadRect = w := by
  funext x
  refine (congrFun h ((Rect.unit (s := S2048x1024) off S512x1024.size inb).idx x)).trans ?_
  have hx : (x 0).val < 512 := (x 0).isLt
  have e0 : ((Rect.unit (s := S2048x1024) off S512x1024.size inb).idx x 0).val = o + (x 0).val := by rw [Rect.idx_unit_val]; subst ho; rfl
  have e1 : ((Rect.unit (s := S2048x1024) off S512x1024.size inb).idx x 1).val = (x 1).val := by rw [Rect.idx_unit_val]; subst ho; exact Nat.zero_add _
  unfold put15
  rw [if_pos (by rw [e0]; omega)]
  congr 1
  funext a
  apply Fin.ext
  fin_cases a
  · show (((Rect.unit (s := S2048x1024) off S512x1024.size inb).idx x 0).val - o) % 512 = (x 0).val
    rw [e0, Nat.add_sub_cancel_left, Nat.mod_eq_of_lt hx]
  · exact e1

theorem read_Z15 (v : View sig' κ sp S2048x1024 .f32) (f : v.ty.Contents (Elt F)) {off : Fin 2 → ℕ} {o : ℕ} (ho : off = ![o, 0])
    (inb : ∀ a, off a + S512x1024.size a ≤ S2048x1024.size a) (y : S2048x1024.Idx) (hy : o ≤ (y 0).val ∧ (y 0).val < o + 512) :
    v.read (Elt F) (v.writes (Elt F) f [(⟨Rect.unit off S512x1024.size inb, k0_pay11⟩ : View.Piece (Elt F) S2048x1024 .f32)]) y = Scalar.ofBits .f32 0x00000000#32 :=
  (View.read_writes_cons_unit_of_mem v f inb k0_pay11 [] y (ix2 ⟨((y 0).val - o) % 512, Nat.mod_lt _ (by decide)⟩ (y 1)) ho (fun a => by
    fin_cases a
    · show (y 0).val = o + ((y 0).val - o) % 512
      omega
    · exact (Nat.zero_add _).symm)).trans (k0_pay11_apply _)

theorem read_Z15_off (v : View sig' κ sp S2048x1024 .f32) (f : v.ty.Contents (Elt F)) {off : Fin 2 → ℕ} {o : ℕ} (ho : off = ![o, 0])
    (inb : ∀ a, off a + S512x1024.size a ≤ S2048x1024.size a) (w : Vec F S512x1024 .f32) (y : S2048x1024.Idx) (hy : ¬ (o ≤ (y 0).val ∧ (y 0).val < o + 512)) :
    v.read (Elt F) (v.writes (Elt F) f [(⟨Rect.unit off S512x1024.size inb, w⟩ : View.Piece (Elt F) S2048x1024 .f32)]) y = v.read (Elt F) f y :=
  (View.read_writes_cons_unit_of_not_mem v f inb w [] y ho 0 (by
    show (y 0).val < o ∨ o + 512 ≤ (y 0).val
    omega))

theorem cov256 (v : View sig' κ sp S2048x1024 .f32) (L : List (View.Piece (Elt F) S2048x1024 .f32)) {off : Fin 2 → ℕ} {o : ℕ}
    (ho : off = ![o, 0]) (inb : ∀ a, off a + S256x1024.size a ≤ S2048x1024.size a)
    (h : ∀ y : S2048x1024.Idx, (o ≤ (y 0).val ∧ (y 0).val < o + 256) → v.read (Elt F) (v.writes (Elt F) v.junk L) y = Scalar.ofBits .f32 0x00000000#32) :
    v.readCov L (Rect.unit (s := S2048x1024) off S256x1024.size inb).toLoadRect = (z15 : Vec F S256x1024 .f32) := by
  funext x
  have hx : (x 0).val < 256 := (x 0).isLt
  have e0 : ((Rect.unit (s := S2048x1024) off S256x1024.size inb).idx x 0).val = o + (x 0).val := by rw [Rect.idx_unit_val]; subst ho; rfl
  exact h ((Rect.unit (s := S2048x1024) off S256x1024.size inb).idx x) (by rw [e0]; omega)

end Lists

/-! ## The two halves' payloads are the same functions -/

theorem pay33_eq (dx : Vec F S256x1024 .f32) (g u : Vec F S1x1x256x704 .bf16) (o : Vec F S1x704x1024 .f32) :
    k0_pay33 (k0_pay27 dx) (k0_pay29 g) u o = addDown dx g u o := rfl
theorem pay38_eq (dx : Vec F S256x1024 .f32) (h : Vec F S256x1024 .bf16) (g u : Vec F S1x1x256x704 .bf16) (wd : Vec F S2x1x352x1024 .bf16) (o : Vec F S1x704x1024 .f32) :
    k0_pay38 (k0_pay28 h) (k0_pay31 (k0_pay29 g)) (k0_pay35 (k0_pay27 dx) u wd) (k0_pay36 (k0_pay29 g)) (FloatOps.ofBits .f32 1065353216#32) o = addGate dx h g u wd o := rfl
theorem pay41_eq (dx : Vec F S256x1024 .f32) (h : Vec F S256x1024 .bf16) (g : Vec F S1x1x256x704 .bf16) (wd : Vec F S2x1x352x1024 .bf16) (o : Vec F S1x704x1024 .f32) :
    k0_pay41 (k0_pay28 h) (k0_pay32 (k0_pay29 g)) (k0_pay34 (k0_pay27 dx) wd) o = addUp dx h g wd o := rfl
theorem pay40_eq (dx : Vec F S256x1024 .f32) (g u : Vec F S1x1x256x704 .bf16) (wg wd : Vec F S2x1x352x1024 .bf16) (o : Vec F S256x1024 .f32) :
    k0_pay40 (k0_pay31 (k0_pay29 g)) (k0_pay35 (k0_pay27 dx) u wd) (k0_pay36 (k0_pay29 g)) (FloatOps.ofBits .f32 1065353216#32) o wg = addRowsG dx g u wg wd o := rfl
theorem pay1_eq (dx : Vec F S256x1024 .f32) (g : Vec F S1x1x256x704 .bf16) (wu wd : Vec F S2x1x352x1024 .bf16) (o : Vec F S256x1024 .f32) :
    k0_pay1 (k0_pay39 (k0_pay32 (k0_pay29 g)) (k0_pay34 (k0_pay27 dx) wd)) o wu = addRowsU dx g wu wd o := rfl

end Cert.KernelIdeal.Hand
end
-- ==== Proof.Reads.lean ====
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section Lists
variable {sig' : RefSig} {κ : Kind} {sp : Space}

/-- A step's writes of the rows' cotangent, the old rows read from the buffer. -/
def R4 (v : View sig' κ sp S2048x1024 .f32) (f : v.ty.Contents (Elt F)) (offA offB : Fin 2 → ℕ)
    (inbA : ∀ a, offA a + S256x1024.size a ≤ S2048x1024.size a) (inbB : ∀ a, offB a + S256x1024.size a ≤ S2048x1024.size a)
    (a a' b b' : Vec F S256x1024 .f32 → Vec F S256x1024 .f32) : List (View.Piece (Elt F) S2048x1024 .f32) :=
  R2 v (R2 v [] (Rect.unit offA S256x1024.size inbA) (a (v.readAt (Elt F) (Rect.unit (s := S2048x1024) offA S256x1024.size inbA).toLoadRect f)) a')
    (Rect.unit offB S256x1024.size inbB) (b (v.readAt (Elt F) (Rect.unit (s := S2048x1024) offB S256x1024.size inbB).toLoadRect f)) b'

/-- The same with the old rows read from the zeros just written. -/
def R4z (v : View sig' κ sp S2048x1024 .f32) (offZ offA offB : Fin 2 → ℕ)
    (inbZ : ∀ a, offZ a + S512x1024.size a ≤ S2048x1024.size a)
    (inbA : ∀ a, offA a + S256x1024.size a ≤ S2048x1024.size a) (inbB : ∀ a, offB a + S256x1024.size a ≤ S2048x1024.size a)
    (a a' b b' : Vec F S256x1024 .f32 → Vec F S256x1024 .f32) : List (View.Piece (Elt F) S2048x1024 .f32) :=
  R2 v (R2 v [⟨Rect.unit offZ S512x1024.size inbZ, k0_pay11⟩] (Rect.unit offA S256x1024.size inbA)
      (a (v.readCov [⟨Rect.unit offZ S512x1024.size inbZ, k0_pay11⟩] (Rect.unit (s := S2048x1024) offA S256x1024.size inbA).toLoadRect)) a')
    (Rect.unit offB S256x1024.size inbB)
    (b (v.readCov (R2 v [⟨Rect.unit offZ S512x1024.size inbZ, k0_pay11⟩] (Rect.unit offA S256x1024.size inbA)
      (a (v.readCov [⟨Rect.unit offZ S512x1024.size inbZ, k0_pay11⟩] (Rect.unit (s := S2048x1024) offA S256x1024.size inbA).toLoadRect)) a')
      (Rect.unit (s := S2048x1024) offB S256x1024.size inbB).toLoadRect)) b'

theorem R4_spec (v : View sig' κ sp S2048x1024 .f32) (f f' : v.ty.Contents (Elt F)) {offA offB : Fin 2 → ℕ} {o : ℕ}
    (hA : offA = ![o, 0]) (hB : offB = ![o + 256, 0])
    (inbA : ∀ a, offA a + S256x1024.size a ≤ S2048x1024.size a) (inbB : ∀ a, offB a + S256x1024.size a ≤ S2048x1024.size a)
    (a a' b b' : Vec F S256x1024 .f32 → Vec F S256x1024 .f32) :
    v.read (Elt F) (v.writes (Elt F) f' (R4 v f offA offB inbA inbB a a' b b'))
      = put15 o (cat (a' (a (rows256 o (v.read (Elt F) f)))) (b' (b (rows256 (o + 256) (v.read (Elt F) f))))) (v.read (Elt F) f') := by
  have eA : v.readAt (Elt F) (Rect.unit (s := S2048x1024) offA S256x1024.size inbA).toLoadRect f = rows256 o (v.read (Elt F) f) := ld256 hA inbA _
  have eB : v.readAt (Elt F) (Rect.unit (s := S2048x1024) offB S256x1024.size inbB).toLoadRect f = rows256 (o + 256) (v.read (Elt F) f) := ld256 hB inbB _
  unfold R4
  rw [eA, eB, R2_eq, R2_eq]
  exact read_R4 v f' [] hA hB inbA inbB _ _ _ _ _ (fun y _ => rfl)

theorem R4z_spec (v : View sig' κ sp S2048x1024 .f32) (f' : v.ty.Contents (Elt F)) {offZ offA offB : Fin 2 → ℕ} {o : ℕ}
    (hZ : offZ = ![o, 0]) (hA : offA = ![o, 0]) (hB : offB = ![o + 256, 0])
    (inbZ : ∀ a, offZ a + S512x1024.size a ≤ S2048x1024.size a)
    (inbA : ∀ a, offA a + S256x1024.size a ≤ S2048x1024.size a) (inbB : ∀ a, offB a + S256x1024.size a ≤ S2048x1024.size a)
    (a a' b b' : Vec F S256x1024 .f32 → Vec F S256x1024 .f32) :
    v.read (Elt F) (v.writes (Elt F) f' (R4z v offZ offA offB inbZ inbA inbB a a' b b'))
      = put15 o (cat (a' (a z15)) (b' (b z15))) (v.read (Elt F) f') := by
  have eA : v.readCov [⟨Rect.unit offZ S512x1024.size inbZ, k0_pay11⟩] (Rect.unit (s := S2048x1024) offA S256x1024.size inbA).toLoadRect = (z15 : Vec F S256x1024 .f32) :=
    cov256 v _ hA inbA (fun y hy => read_Z15 v _ hZ inbZ y (by omega))
  have eB : ∀ w w', v.readCov (⟨Rect.unit offA S256x1024.size inbA, w⟩ :: ⟨Rect.unit offA S256x1024.size inbA, w'⟩ :: [⟨Rect.unit offZ S512x1024.size inbZ, k0_pay11⟩])
      (Rect.unit (s := S2048x1024) offB S256x1024.size inbB).toLoadRect = (z15 : Vec F S256x1024 .f32) := fun w w' =>
    cov256 v _ hB inbB (fun y hy => (miss2 v _ hA inbA _ _ y (by omega)).trans ((miss2 v _ hA inbA _ _ y (by omega)).trans (read_Z15 v _ hZ inbZ y (by omega))))
  unfold R4z
  rw [eA, R2_eq v _ (Rect.unit offA S256x1024.size inbA), eB, R2_eq]
  exact read_R4 v f' _ hA hB inbA inbB _ _ _ _ _ (fun y hy => read_Z15_off v f' hZ inbZ _ y hy)

end Lists

theorem whole512 {sig' : RefSig} {κ : Kind} {sp : Space} (v : View sig' κ sp S512x1024 .f32) (f : v.ty.Contents (Elt F)) (w : Vec F S512x1024 .f32) :
    v.read (Elt F) (v.writes (Elt F) f [⟨Rect.unit ![0, 0] S512x1024.size inb_S512x1024_S512x1024_0_0, w⟩]) = w := by
  funext y
  exact View.read_writes_cons_unit_of_mem v f _ _ [] y y rfl (fun a => by fin_cases a <;> simp)
theorem whole1 {sig' : RefSig} {κ : Kind} {sp : Space} (v : View sig' κ sp S1x1024 .f32) (f : v.ty.Contents (Elt F)) (w : Vec F S1x1024 .f32) :
    v.read (Elt F) (v.writes (Elt F) f [⟨Rect.unit ![0, 0] S1x1024.size inb_S1x1024_S1x1024_0_0, w⟩]) = w := by
  funext y
  exact View.read_writes_cons_unit_of_mem v f _ _ [] y y rfl (fun a => by fin_cases a <;> simp)
theorem whole4 {sig' : RefSig} {κ : Kind} {sp : Space} (v : View sig' κ sp S2x1x352x1024 .bf16) (f : v.ty.Contents (Elt F)) (w : Vec F S2x1x352x1024 .bf16) :
    v.read (Elt F) (v.writes (Elt F) f [⟨Rect.unit ![0, 0, 0, 0] S2x1x352x1024.size inb_S2x1x352x1024_S2x1x352x1024_0_0_0_0, w⟩]) = w := by
  funext y
  exact View.read_writes_cons_unit_of_mem v f _ _ [] y y rfl (fun a => by fin_cases a <;> simp)

theorem ldw512 (X : Vec F S512x1024 .f32) : View.ld X (Rect.unit (s := S512x1024) ![0, 0] S512x1024.size inb_S512x1024_S512x1024_0_0) = X := by
  funext y; show X _ = X y; congr 1; funext a; apply Fin.ext; rw [Rect.idx_unit_val]; fin_cases a <;> simp
theorem ldw1 (X : Vec F S1x1024 .f32) : View.ld X (Rect.unit (s := S1x1024) ![0, 0] S1x1024.size inb_S1x1024_S1x1024_0_0) = X := by
  funext y; show X _ = X y; congr 1; funext a; apply Fin.ext; rw [Rect.idx_unit_val]; fin_cases a <;> simp
theorem ldw4 (X : Vec F S2x1x352x1024 .bf16) : View.ld X (Rect.unit (s := S2x1x352x1024) ![0, 0, 0, 0] S2x1x352x1024.size inb_S2x1x352x1024_S2x1x352x1024_0_0_0_0) = X := by
  funext y; show X _ = X y; congr 1; funext a; apply Fin.ext; rw [Rect.idx_unit_val]; fin_cases a <;> simp

/-- What a step leaves: the three weight cotangents, the step's rows, and the arrays the last steps fill. -/
def next16 (x2 : Vec F S512x1024 .f32) (x3 : Vec F S512x1024 .bf16) (x6 : Vec F S1x2x512x704 .bf16) (x9 : Vec F S2x1x352x1024 .bf16)
    (o0 o1 o2 : Vec F S1x704x1024 .f32) : Vec F S3x704x1024 .f32 :=
  mk3 (stepGate x2 x3 x6 x9 o0) (stepUp x2 x3 x6 x9 o1) (stepDown x2 x6 o2)
def next512 (x2 : Vec F S512x1024 .f32) (x6 : Vec F S1x2x512x704 .bf16) (x7 x8 x9 : Vec F S2x1x352x1024 .bf16) (oA oB : Vec F S256x1024 .f32) : Vec F S512x1024 .f32 :=
  cat (stepRowsA x2 x6 x7 x8 x9 oA) (stepRowsB x2 x6 x7 x8 x9 oB)

end Cert.KernelIdeal.Hand
end
-- ==== Proof.CaseAA.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4AA : Rect S2x1x352x1024 := Rect.unit ![0, 0, 0, 0] S2x1x352x1024.size inb_S2x1x352x1024_S2x1x352x1024_0_0_0_0

set_option maxHeartbeats 4000000 in
/-- The body at a step where the row block is the first and the shard is the first. -/
theorem runAA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : (Scalar.cmpi .ne (Scalar.extui (Scalar.cmpi .eq (BitVec.ofNat 32 (i 1).val) 0#32)) 0#32 = 1#1)) (hc2 : k0_cond2 i = 1#1) (hc3 : ¬ k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 z15 z15) x15) ∗ owns (c : Thread nD τ) arg16 fullShare (next16 x2 x3 x6 x9 z16 z16 z16)) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4AA = (arg9.view.read (Elt F) f9) := ldw4 _
  have w8 : View.ld (arg8.view.read (Elt F) f8) w4AA = (arg8.view.read (Elt F) f8) := ldw4 _
  have w7 : View.ld (arg7.view.read (Elt F) f7) w4AA = (arg7.view.read (Elt F) f7) := ldw4 _
  obtain ⟨B, l16⟩ : ∃ B, (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AA)) (addUp (View.ld (arg2.view.read (Elt F) f2) rA2) (View.ld (arg3.view.read (Elt F) f3) rA2) (View.ld (arg6.view.read (Elt F) f6) rAg) (View.ld (arg9.view.read (Elt F) f9) w4AA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AA)) (addUp (View.ld (arg2.view.read (Elt F) f2) rB2) (View.ld (arg3.view.read (Elt F) f3) rB2) (View.ld (arg6.view.read (Elt F) f6) rBg) (View.ld (arg9.view.read (Elt F) f9) w4AA))) = L3 B (stepDown (arg2.view.read (Elt F) f2) (arg6.view.read (Elt F) f6) z16) (stepGate (arg2.view.read (Elt F) f2) (arg3.view.read (Elt F) f3) (arg6.view.read (Elt F) f6) (arg9.view.read (Elt F) f9) z16) (stepUp (arg2.view.read (Elt F) f2) (arg3.view.read (Elt F) f3) (arg6.view.read (Elt F) f6) (arg9.view.read (Elt F) f9) z16) := by
    rw [F3z_eq]
    rw [L6_eq, w9]; exact ⟨_, rfl⟩
  have e16 : arg16.view.read (Elt F) (arg16.view.writes (Elt F) f16 (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AA)) (addUp (View.ld (arg2.view.read (Elt F) f2) rA2) (View.ld (arg3.view.read (Elt F) f3) rA2) (View.ld (arg6.view.read (Elt F) f6) rAg) (View.ld (arg9.view.read (Elt F) f9) w4AA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AA)) (addUp (View.ld (arg2.view.read (Elt F) f2) rB2) (View.ld (arg3.view.read (Elt F) f3) rB2) (View.ld (arg6.view.read (Elt F) f6) rBg) (View.ld (arg9.view.read (Elt F) f9) w4AA)))) = (next16 (arg2.view.read (Elt F) f2) (arg3.view.read (Elt F) f3) (arg6.view.read (Elt F) f6) (arg9.view.read (Elt F) f9) z16 z16 z16) := by
    rw [l16]; exact read_L3 _ _ _ _ _ _
  have g15 : ∀ f' : arg15.view.ty.Contents (Elt F), arg15.view.read (Elt F) (arg15.view.writes (Elt F) f' (R4z arg15.view (k0_off1 i) (k0_off2 i 0#32) (k0_off2 i 256#32) (k0_off1_inb i hc2) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AA) (View.ld (arg9.view.read (Elt F) f9) w4AA)) (addRowsU (View.ld (arg2.view.read (Elt F) f2) rA2) (View.ld (arg6.view.read (Elt F) f6) rAg) (View.ld (arg8.view.read (Elt F) f8) w4AA) (View.ld (arg9.view.read (Elt F) f9) w4AA)) (addRowsG (View.ld (arg2.view.read (Elt F) f2) rB2) (View.ld (arg6.view.read (Elt F) f6) rBg) (View.ld (arg6.view.read (Elt F) f6) rBu) (View.ld (arg7.view.read (Elt F) f7) w4AA) (View.ld (arg9.view.read (Elt F) f9) w4AA)) (addRowsU (View.ld (arg2.view.read (Elt F) f2) rB2) (View.ld (arg6.view.read (Elt F) f6) rBg) (View.ld (arg8.view.read (Elt F) f8) w4AA) (View.ld (arg9.view.read (Elt F) f9) w4AA)))) = put15 (512 * (i 1).val) (next512 (arg2.view.read (Elt F) f2) (arg6.view.read (Elt F) f6) (arg7.view.read (Elt F) f7) (arg8.view.read (Elt F) f8) (arg9.view.read (Elt F) f9) z15 z15) (arg15.view.read (Elt F) f') := fun f' => by
    refine (R4z_spec arg15.view _ (o := 512 * (i 1).val) (k0_off1_eq i) (k0_off2_eq i 0) (k0_off2_eq i 1) _ _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseAB.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4AB : Rect S2x1x352x1024 := Rect.unit ![0, 0, 0, 0] S2x1x352x1024.size inb_S2x1x352x1024_S2x1x352x1024_0_0_0_0

set_option maxHeartbeats 4000000 in
/-- The body at a step where the row block is the first and the shard is in the middle. -/
theorem runAB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : (Scalar.cmpi .ne (Scalar.extui (Scalar.cmpi .eq (BitVec.ofNat 32 (i 1).val) 0#32)) 0#32 = 1#1)) (hc2 : ¬ k0_cond2 i = 1#1) (hc3 : ¬ k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 z16 z16 z16)) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4AB = (arg9.view.read (Elt F) f9) := ldw4 _
  have w8 : View.ld (arg8.view.read (Elt F) f8) w4AB = (arg8.view.read (Elt F) f8) := ldw4 _
  have w7 : View.ld (arg7.view.read (Elt F) f7) w4AB = (arg7.view.read (Elt F) f7) := ldw4 _
  obtain ⟨B, l16⟩ : ∃ B, (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AB)) (addUp (View.ld (arg2.view.read (Elt F) f2) rA2) (View.ld (arg3.view.read (Elt F) f3) rA2) (View.ld (arg6.view.read (Elt F) f6) rAg) (View.ld (arg9.view.read (Elt F) f9) w4AB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AB)) (addUp (View.ld (arg2.view.read (Elt F) f2) rB2) (View.ld (arg3.view.read (Elt F) f3) rB2) (View.ld (arg6.view.read (Elt F) f6) rBg) (View.ld (arg9.view.read (Elt F) f9) w4AB))) = L3 B (stepDown (arg2.view.read (Elt F) f2) (arg6.view.read (Elt F) f6) z16) (stepGate (arg2.view.read (Elt F) f2) (arg3.view.read (Elt F) f3) (arg6.view.read (Elt F) f6) (arg9.view.read (Elt F) f9) z16) (stepUp (arg2.view.read (Elt F) f2) (arg3.view.read (Elt F) f3) (arg6.view.read (Elt F) f6) (arg9.view.read (Elt F) f9) z16) := by
    rw [F3z_eq]
    rw [L6_eq, w9]; exact ⟨_, rfl⟩
  have e16 : arg16.view.read (Elt F) (arg16.view.writes (Elt F) f16 (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AB)) (addUp (View.ld (arg2.view.read (Elt F) f2) rA2) (View.ld (arg3.view.read (Elt F) f3) rA2) (View.ld (arg6.view.read (Elt F) f6) rAg) (View.ld (arg9.view.read (Elt F) f9) w4AB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AB)) (addUp (View.ld (arg2.view.read (Elt F) f2) rB2) (View.ld (arg3.view.read (Elt F) f3) rB2) (View.ld (arg6.view.read (Elt F) f6) rBg) (View.ld (arg9.view.read (Elt F) f9) w4AB)))) = (next16 (arg2.view.read (Elt F) f2) (arg3.view.read (Elt F) f3) (arg6.view.read (Elt F) f6) (arg9.view.read (Elt F) f9) z16 z16 z16) := by
    rw [l16]; exact read_L3 _ _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AB) (View.ld (arg9.view.read (Elt F) f9) w4AB)) (addRowsU (View.ld (arg2.view.read (Elt F) f2) rA2) (View.ld (arg6.view.read (Elt F) f6) rAg) (View.ld (arg8.view.read (Elt F) f8) w4AB) (View.ld (arg9.view.read (Elt F) f9) w4AB)) (addRowsG (View.ld (arg2.view.read (Elt F) f2) rB2) (View.ld (arg6.view.read (Elt F) f6) rBg) (View.ld (arg6.view.read (Elt F) f6) rBu) (View.ld (arg7.view.read (Elt F) f7) w4AB) (View.ld (arg9.view.read (Elt F) f9) w4AB)) (addRowsU (View.ld (arg2.view.read (Elt F) f2) rB2) (View.ld (arg6.view.read (Elt F) f6) rBg) (View.ld (arg8.view.read (Elt F) f8) w4AB) (View.ld (arg9.view.read (Elt F) f9) w4AB)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseAC.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4AC : Rect S2x1x352x1024 := Rect.unit ![0, 0, 0, 0] S2x1x352x1024.size inb_S2x1x352x1024_S2x1x352x1024_0_0_0_0

set_option maxHeartbeats 4000000 in
/-- The body at a step where the row block is the first and the shard is the last. -/
theorem runAC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : (Scalar.cmpi .ne (Scalar.extui (Scalar.cmpi .eq (BitVec.ofNat 32 (i 1).val) 0#32)) 0#32 = 1#1)) (hc2 : ¬ k0_cond2 i = 1#1) (hc3 : ¬ k0_cond3 i = 1#1) (hc4 : k0_cond4 i = 1#1) (hc5 : k0_cond5 i = 1#1) (hc6 : ¬ k0_cond6 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay8 (next512 x2 x6 x7 x8 x9 (rows256 (512 * (i 1).val) x15) (rows256 (512 * (i 1).val + 256) x15)) x4 x5 x2) ∗ owns (c : Thread nD τ) arg11 fullShare (k0_pay9 (next512 x2 x6 x7 x8 x9 (rows256 (512 * (i 1).val) x15) (rows256 (512 * (i 1).val + 256) x15)) x4) ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 z16 z16 z16)) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4 | sl_exact hc5 | sl_exact hc6)
  sl_step

  have w9 : View.ld (arg9.view.read (Elt F) f9) w4AC = (arg9.view.read (Elt F) f9) := ldw4 _
  have w8 : View.ld (arg8.view.read (Elt F) f8) w4AC = (arg8.view.read (Elt F) f8) := ldw4 _
  have w7 : View.ld (arg7.view.read (Elt F) f7) w4AC = (arg7.view.read (Elt F) f7) := ldw4 _
  obtain ⟨B, l16⟩ : ∃ B, (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AC)) (addUp (View.ld (arg2.view.read (Elt F) f2) rA2) (View.ld (arg3.view.read (Elt F) f3) rA2) (View.ld (arg6.view.read (Elt F) f6) rAg) (View.ld (arg9.view.read (Elt F) f9) w4AC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AC)) (addUp (View.ld (arg2.view.read (Elt F) f2) rB2) (View.ld (arg3.view.read (Elt F) f3) rB2) (View.ld (arg6.view.read (Elt F) f6) rBg) (View.ld (arg9.view.read (Elt F) f9) w4AC))) = L3 B (stepDown (arg2.view.read (Elt F) f2) (arg6.view.read (Elt F) f6) z16) (stepGate (arg2.view.read (Elt F) f2) (arg3.view.read (Elt F) f3) (arg6.view.read (Elt F) f6) (arg9.view.read (Elt F) f9) z16) (stepUp (arg2.view.read (Elt F) f2) (arg3.view.read (Elt F) f3) (arg6.view.read (Elt F) f6) (arg9.view.read (Elt F) f9) z16) := by
    rw [F3z_eq]
    rw [L6_eq, w9]; exact ⟨_, rfl⟩
  have e16 : arg16.view.read (Elt F) (arg16.view.writes (Elt F) f16 (L6 arg16.view (F3z arg16.view (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4AC)) (addUp (View.ld (arg2.view.read (Elt F) f2) rA2) (View.ld (arg3.view.read (Elt F) f3) rA2) (View.ld (arg6.view.read (Elt F) f6) rAg) (View.ld (arg9.view.read (Elt F) f9) w4AC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4AC)) (addUp (View.ld (arg2.view.read (Elt F) f2) rB2) (View.ld (arg3.view.read (Elt F) f3) rB2) (View.ld (arg6.view.read (Elt F) f6) rBg) (View.ld (arg9.view.read (Elt F) f9) w4AC)))) = (next16 (arg2.view.read (Elt F) f2) (arg3.view.read (Elt F) f3) (arg6.view.read (Elt F) f6) (arg9.view.read (Elt F) f9) z16 z16 z16) := by
    rw [l16]; exact read_L3 _ _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AC) (View.ld (arg9.view.read (Elt F) f9) w4AC)) (addRowsU (View.ld (arg2.view.read (Elt F) f2) rA2) (View.ld (arg6.view.read (Elt F) f6) rAg) (View.ld (arg8.view.read (Elt F) f8) w4AC) (View.ld (arg9.view.read (Elt F) f9) w4AC)) (addRowsG (View.ld (arg2.view.read (Elt F) f2) rB2) (View.ld (arg6.view.read (Elt F) f6) rBg) (View.ld (arg6.view.read (Elt F) f6) rBu) (View.ld (arg7.view.read (Elt F) f7) w4AC) (View.ld (arg9.view.read (Elt F) f9) w4AC)) (addRowsU (View.ld (arg2.view.read (Elt F) f2) rB2) (View.ld (arg6.view.read (Elt F) f6) rBg) (View.ld (arg8.view.read (Elt F) f8) w4AC) (View.ld (arg9.view.read (Elt F) f9) w4AC)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  have c15 : arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AC) (View.ld (arg9.view.read (Elt F) f9) w4AC)) (addRowsU (View.ld (arg2.view.read (Elt F) f2) rA2) (View.ld (arg6.view.read (Elt F) f6) rAg) (View.ld (arg8.view.read (Elt F) f8) w4AC) (View.ld (arg9.view.read (Elt F) f9) w4AC)) (addRowsG (View.ld (arg2.view.read (Elt F) f2) rB2) (View.ld (arg6.view.read (Elt F) f6) rBg) (View.ld (arg6.view.read (Elt F) f6) rBu) (View.ld (arg7.view.read (Elt F) f7) w4AC) (View.ld (arg9.view.read (Elt F) f9) w4AC)) (addRowsU (View.ld (arg2.view.read (Elt F) f2) rB2) (View.ld (arg6.view.read (Elt F) f6) rBg) (View.ld (arg8.view.read (Elt F) f8) w4AC) (View.ld (arg9.view.read (Elt F) f9) w4AC))) (Rect.unit (s := S2048x1024) (k0_off3 i) S512x1024.size (k0_off3_inb i hc4)).toLoadRect = (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) :=
    cov512 arg15.view _ (k0_off3_eq i) _ _ _ (g15 _)
  have e10 : k0_pay8 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AC) (View.ld (arg9.view.read (Elt F) f9) w4AC)) (addRowsU (View.ld (arg2.view.read (Elt F) f2) rA2) (View.ld (arg6.view.read (Elt F) f6) rAg) (View.ld (arg8.view.read (Elt F) f8) w4AC) (View.ld (arg9.view.read (Elt F) f9) w4AC)) (addRowsG (View.ld (arg2.view.read (Elt F) f2) rB2) (View.ld (arg6.view.read (Elt F) f6) rBg) (View.ld (arg6.view.read (Elt F) f6) rBu) (View.ld (arg7.view.read (Elt F) f7) w4AC) (View.ld (arg9.view.read (Elt F) f9) w4AC)) (addRowsU (View.ld (arg2.view.read (Elt F) f2) rB2) (View.ld (arg6.view.read (Elt F) f6) rBg) (View.ld (arg8.view.read (Elt F) f8) w4AC) (View.ld (arg9.view.read (Elt F) f9) w4AC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0))
      (View.ld (arg5.view.read (Elt F) f5) (Rect.unit (s := S1x1024) ![0, 0] S1x1024.size inb_S1x1024_S1x1024_0_0)) (View.ld (arg2.view.read (Elt F) f2) (Rect.unit (s := S512x1024) ![0, 0] S512x1024.size inb_S512x1024_S512x1024_0_0)) = (k0_pay8 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4) (arg5.view.read (Elt F) f5) (arg2.view.read (Elt F) f2)) := by
    rw [c15, ldw512, ldw1, ldw512]
  have e11 : k0_pay9 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4AC) (View.ld (arg9.view.read (Elt F) f9) w4AC)) (addRowsU (View.ld (arg2.view.read (Elt F) f2) rA2) (View.ld (arg6.view.read (Elt F) f6) rAg) (View.ld (arg8.view.read (Elt F) f8) w4AC) (View.ld (arg9.view.read (Elt F) f9) w4AC)) (addRowsG (View.ld (arg2.view.read (Elt F) f2) rB2) (View.ld (arg6.view.read (Elt F) f6) rBg) (View.ld (arg6.view.read (Elt F) f6) rBu) (View.ld (arg7.view.read (Elt F) f7) w4AC) (View.ld (arg9.view.read (Elt F) f9) w4AC)) (addRowsU (View.ld (arg2.view.read (Elt F) f2) rB2) (View.ld (arg6.view.read (Elt F) f6) rBg) (View.ld (arg8.view.read (Elt F) f8) w4AC) (View.ld (arg9.view.read (Elt F) f9) w4AC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0)) = (k0_pay9 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4)) := by
    rw [c15, ldw512]
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; exact (whole512 arg10.view f10 _).trans e10
    iexact H10
  isplitl [H11]
  · iexists _; isplitr
    · ipureintro; exact (whole1 arg11.view f11 _).trans e11
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseBA.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4BA : Rect S2x1x352x1024 := Rect.unit ![0, 0, 0, 0] S2x1x352x1024.size inb_S2x1x352x1024_S2x1x352x1024_0_0_0_0

set_option maxHeartbeats 4000000 in
/-- The body at a step where the row block is in the middle and the shard is the first. -/
theorem runBA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : k0_cond2 i = 1#1) (hc3 : ¬ k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 z15 z15) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4BA = (arg9.view.read (Elt F) f9) := ldw4 _
  have w8 : View.ld (arg8.view.read (Elt F) f8) w4BA = (arg8.view.read (Elt F) f8) := ldw4 _
  have w7 : View.ld (arg7.view.read (Elt F) f7) w4BA = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BA)) (addUp (View.ld (arg2.view.read (Elt F) f2) rA2) (View.ld (arg3.view.read (Elt F) f3) rA2) (View.ld (arg6.view.read (Elt F) f6) rAg) (View.ld (arg9.view.read (Elt F) f9) w4BA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BA)) (addUp (View.ld (arg2.view.read (Elt F) f2) rB2) (View.ld (arg3.view.read (Elt F) f3) rB2) (View.ld (arg6.view.read (Elt F) f6) rBg) (View.ld (arg9.view.read (Elt F) f9) w4BA))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BA)) (addUp (View.ld (arg2.view.read (Elt F) f2) rA2) (View.ld (arg3.view.read (Elt F) f3) rA2) (View.ld (arg6.view.read (Elt F) f6) rAg) (View.ld (arg9.view.read (Elt F) f9) w4BA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BA)) (addUp (View.ld (arg2.view.read (Elt F) f2) rB2) (View.ld (arg3.view.read (Elt F) f3) rB2) (View.ld (arg6.view.read (Elt F) f6) rBg) (View.ld (arg9.view.read (Elt F) f9) w4BA)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have g15 : ∀ f' : arg15.view.ty.Contents (Elt F), arg15.view.read (Elt F) (arg15.view.writes (Elt F) f' (R4z arg15.view (k0_off1 i) (k0_off2 i 0#32) (k0_off2 i 256#32) (k0_off1_inb i hc2) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BA) (View.ld (arg9.view.read (Elt F) f9) w4BA)) (addRowsU (View.ld (arg2.view.read (Elt F) f2) rA2) (View.ld (arg6.view.read (Elt F) f6) rAg) (View.ld (arg8.view.read (Elt F) f8) w4BA) (View.ld (arg9.view.read (Elt F) f9) w4BA)) (addRowsG (View.ld (arg2.view.read (Elt F) f2) rB2) (View.ld (arg6.view.read (Elt F) f6) rBg) (View.ld (arg6.view.read (Elt F) f6) rBu) (View.ld (arg7.view.read (Elt F) f7) w4BA) (View.ld (arg9.view.read (Elt F) f9) w4BA)) (addRowsU (View.ld (arg2.view.read (Elt F) f2) rB2) (View.ld (arg6.view.read (Elt F) f6) rBg) (View.ld (arg8.view.read (Elt F) f8) w4BA) (View.ld (arg9.view.read (Elt F) f9) w4BA)))) = put15 (512 * (i 1).val) (next512 (arg2.view.read (Elt F) f2) (arg6.view.read (Elt F) f6) (arg7.view.read (Elt F) f7) (arg8.view.read (Elt F) f8) (arg9.view.read (Elt F) f9) z15 z15) (arg15.view.read (Elt F) f') := fun f' => by
    refine (R4z_spec arg15.view _ (o := 512 * (i 1).val) (k0_off1_eq i) (k0_off2_eq i 0) (k0_off2_eq i 1) _ _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseBB.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4BB : Rect S2x1x352x1024 := Rect.unit ![0, 0, 0, 0] S2x1x352x1024.size inb_S2x1x352x1024_S2x1x352x1024_0_0_0_0

set_option maxHeartbeats 4000000 in
/-- The body at a step where the row block is in the middle and the shard is in the middle. -/
theorem runBB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : ¬ k0_cond2 i = 1#1) (hc3 : ¬ k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4BB = (arg9.view.read (Elt F) f9) := ldw4 _
  have w8 : View.ld (arg8.view.read (Elt F) f8) w4BB = (arg8.view.read (Elt F) f8) := ldw4 _
  have w7 : View.ld (arg7.view.read (Elt F) f7) w4BB = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BB)) (addUp (View.ld (arg2.view.read (Elt F) f2) rA2) (View.ld (arg3.view.read (Elt F) f3) rA2) (View.ld (arg6.view.read (Elt F) f6) rAg) (View.ld (arg9.view.read (Elt F) f9) w4BB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BB)) (addUp (View.ld (arg2.view.read (Elt F) f2) rB2) (View.ld (arg3.view.read (Elt F) f3) rB2) (View.ld (arg6.view.read (Elt F) f6) rBg) (View.ld (arg9.view.read (Elt F) f9) w4BB))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BB)) (addUp (View.ld (arg2.view.read (Elt F) f2) rA2) (View.ld (arg3.view.read (Elt F) f3) rA2) (View.ld (arg6.view.read (Elt F) f6) rAg) (View.ld (arg9.view.read (Elt F) f9) w4BB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BB)) (addUp (View.ld (arg2.view.read (Elt F) f2) rB2) (View.ld (arg3.view.read (Elt F) f3) rB2) (View.ld (arg6.view.read (Elt F) f6) rBg) (View.ld (arg9.view.read (Elt F) f9) w4BB)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BB) (View.ld (arg9.view.read (Elt F) f9) w4BB)) (addRowsU (View.ld (arg2.view.read (Elt F) f2) rA2) (View.ld (arg6.view.read (Elt F) f6) rAg) (View.ld (arg8.view.read (Elt F) f8) w4BB) (View.ld (arg9.view.read (Elt F) f9) w4BB)) (addRowsG (View.ld (arg2.view.read (Elt F) f2) rB2) (View.ld (arg6.view.read (Elt F) f6) rBg) (View.ld (arg6.view.read (Elt F) f6) rBu) (View.ld (arg7.view.read (Elt F) f7) w4BB) (View.ld (arg9.view.read (Elt F) f9) w4BB)) (addRowsU (View.ld (arg2.view.read (Elt F) f2) rB2) (View.ld (arg6.view.read (Elt F) f6) rBg) (View.ld (arg8.view.read (Elt F) f8) w4BB) (View.ld (arg9.view.read (Elt F) f9) w4BB)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseBC.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4BC : Rect S2x1x352x1024 := Rect.unit ![0, 0, 0, 0] S2x1x352x1024.size inb_S2x1x352x1024_S2x1x352x1024_0_0_0_0

set_option maxHeartbeats 4000000 in
/-- The body at a step where the row block is in the middle and the shard is the last. -/
theorem runBC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : ¬ k0_cond2 i = 1#1) (hc3 : ¬ k0_cond3 i = 1#1) (hc4 : k0_cond4 i = 1#1) (hc5 : ¬ k0_cond5 i = 1#1) (hc6 : k0_cond6 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay8 (next512 x2 x6 x7 x8 x9 (rows256 (512 * (i 1).val) x15) (rows256 (512 * (i 1).val + 256) x15)) x4 x5 x2) ∗ owns (c : Thread nD τ) arg11 fullShare (k0_pay5 (k0_pay9 (next512 x2 x6 x7 x8 x9 (rows256 (512 * (i 1).val) x15) (rows256 (512 * (i 1).val + 256) x15)) x4) x11) ∗ owns (c : Thread nD τ) arg12 fullShare x12 ∗ owns (c : Thread nD τ) arg13 fullShare x13 ∗ owns (c : Thread nD τ) arg14 fullShare x14 ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4 | sl_exact hc5 | sl_exact hc6)
  sl_step

  have w9 : View.ld (arg9.view.read (Elt F) f9) w4BC = (arg9.view.read (Elt F) f9) := ldw4 _
  have w8 : View.ld (arg8.view.read (Elt F) f8) w4BC = (arg8.view.read (Elt F) f8) := ldw4 _
  have w7 : View.ld (arg7.view.read (Elt F) f7) w4BC = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BC)) (addUp (View.ld (arg2.view.read (Elt F) f2) rA2) (View.ld (arg3.view.read (Elt F) f3) rA2) (View.ld (arg6.view.read (Elt F) f6) rAg) (View.ld (arg9.view.read (Elt F) f9) w4BC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BC)) (addUp (View.ld (arg2.view.read (Elt F) f2) rB2) (View.ld (arg3.view.read (Elt F) f3) rB2) (View.ld (arg6.view.read (Elt F) f6) rBg) (View.ld (arg9.view.read (Elt F) f9) w4BC))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4BC)) (addUp (View.ld (arg2.view.read (Elt F) f2) rA2) (View.ld (arg3.view.read (Elt F) f3) rA2) (View.ld (arg6.view.read (Elt F) f6) rAg) (View.ld (arg9.view.read (Elt F) f9) w4BC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4BC)) (addUp (View.ld (arg2.view.read (Elt F) f2) rB2) (View.ld (arg3.view.read (Elt F) f3) rB2) (View.ld (arg6.view.read (Elt F) f6) rBg) (View.ld (arg9.view.read (Elt F) f9) w4BC)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BC) (View.ld (arg9.view.read (Elt F) f9) w4BC)) (addRowsU (View.ld (arg2.view.read (Elt F) f2) rA2) (View.ld (arg6.view.read (Elt F) f6) rAg) (View.ld (arg8.view.read (Elt F) f8) w4BC) (View.ld (arg9.view.read (Elt F) f9) w4BC)) (addRowsG (View.ld (arg2.view.read (Elt F) f2) rB2) (View.ld (arg6.view.read (Elt F) f6) rBg) (View.ld (arg6.view.read (Elt F) f6) rBu) (View.ld (arg7.view.read (Elt F) f7) w4BC) (View.ld (arg9.view.read (Elt F) f9) w4BC)) (addRowsU (View.ld (arg2.view.read (Elt F) f2) rB2) (View.ld (arg6.view.read (Elt F) f6) rBg) (View.ld (arg8.view.read (Elt F) f8) w4BC) (View.ld (arg9.view.read (Elt F) f9) w4BC)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  have c15 : arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BC) (View.ld (arg9.view.read (Elt F) f9) w4BC)) (addRowsU (View.ld (arg2.view.read (Elt F) f2) rA2) (View.ld (arg6.view.read (Elt F) f6) rAg) (View.ld (arg8.view.read (Elt F) f8) w4BC) (View.ld (arg9.view.read (Elt F) f9) w4BC)) (addRowsG (View.ld (arg2.view.read (Elt F) f2) rB2) (View.ld (arg6.view.read (Elt F) f6) rBg) (View.ld (arg6.view.read (Elt F) f6) rBu) (View.ld (arg7.view.read (Elt F) f7) w4BC) (View.ld (arg9.view.read (Elt F) f9) w4BC)) (addRowsU (View.ld (arg2.view.read (Elt F) f2) rB2) (View.ld (arg6.view.read (Elt F) f6) rBg) (View.ld (arg8.view.read (Elt F) f8) w4BC) (View.ld (arg9.view.read (Elt F) f9) w4BC))) (Rect.unit (s := S2048x1024) (k0_off3 i) S512x1024.size (k0_off3_inb i hc4)).toLoadRect = (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) :=
    cov512 arg15.view _ (k0_off3_eq i) _ _ _ (g15 _)
  have e10 : k0_pay8 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BC) (View.ld (arg9.view.read (Elt F) f9) w4BC)) (addRowsU (View.ld (arg2.view.read (Elt F) f2) rA2) (View.ld (arg6.view.read (Elt F) f6) rAg) (View.ld (arg8.view.read (Elt F) f8) w4BC) (View.ld (arg9.view.read (Elt F) f9) w4BC)) (addRowsG (View.ld (arg2.view.read (Elt F) f2) rB2) (View.ld (arg6.view.read (Elt F) f6) rBg) (View.ld (arg6.view.read (Elt F) f6) rBu) (View.ld (arg7.view.read (Elt F) f7) w4BC) (View.ld (arg9.view.read (Elt F) f9) w4BC)) (addRowsU (View.ld (arg2.view.read (Elt F) f2) rB2) (View.ld (arg6.view.read (Elt F) f6) rBg) (View.ld (arg8.view.read (Elt F) f8) w4BC) (View.ld (arg9.view.read (Elt F) f9) w4BC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0))
      (View.ld (arg5.view.read (Elt F) f5) (Rect.unit (s := S1x1024) ![0, 0] S1x1024.size inb_S1x1024_S1x1024_0_0)) (View.ld (arg2.view.read (Elt F) f2) (Rect.unit (s := S512x1024) ![0, 0] S512x1024.size inb_S512x1024_S512x1024_0_0)) = (k0_pay8 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4) (arg5.view.read (Elt F) f5) (arg2.view.read (Elt F) f2)) := by
    rw [c15, ldw512, ldw1, ldw512]
  have e11 : k0_pay5 (k0_pay9 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4BC) (View.ld (arg9.view.read (Elt F) f9) w4BC)) (addRowsU (View.ld (arg2.view.read (Elt F) f2) rA2) (View.ld (arg6.view.read (Elt F) f6) rAg) (View.ld (arg8.view.read (Elt F) f8) w4BC) (View.ld (arg9.view.read (Elt F) f9) w4BC)) (addRowsG (View.ld (arg2.view.read (Elt F) f2) rB2) (View.ld (arg6.view.read (Elt F) f6) rBg) (View.ld (arg6.view.read (Elt F) f6) rBu) (View.ld (arg7.view.read (Elt F) f7) w4BC) (View.ld (arg9.view.read (Elt F) f9) w4BC)) (addRowsU (View.ld (arg2.view.read (Elt F) f2) rB2) (View.ld (arg6.view.read (Elt F) f6) rBg) (View.ld (arg8.view.read (Elt F) f8) w4BC) (View.ld (arg9.view.read (Elt F) f9) w4BC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0))) (View.ld (arg11.view.read (Elt F) f11) (Rect.unit (s := S1x1024) ![0, 0] S1x1024.size inb_S1x1024_S1x1024_0_0)) = (k0_pay5 (k0_pay9 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4)) (arg11.view.read (Elt F) f11)) := by
    rw [c15, ldw512, ldw1]
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; exact (whole512 arg10.view f10 _).trans e10
    iexact H10
  isplitl [H11]
  · iexists _; isplitr
    · ipureintro; exact (whole1 arg11.view f11 _).trans e11
    iexact H11
  isplitl [H12]
  · iexists _; isplitr
    · ipureintro; rfl
    iexact H12
  isplitl [H13]
  · iexists _; isplitr
    · ipureintro; rfl
    iexact H13
  isplitl [H14]
  · iexists _; isplitr
    · ipureintro; rfl
    iexact H14
  isplitl [H15]
  · iexists _; isplitr
    · ipureintro; exact e15
    iexact H15
  iexists _; isplitr
  · ipureintro; exact e16
  iexact H16

end Cert.KernelIdeal.Hand
end
-- ==== Proof.CaseCA.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4CA : Rect S2x1x352x1024 := Rect.unit ![0, 0, 0, 0] S2x1x352x1024.size inb_S2x1x352x1024_S2x1x352x1024_0_0_0_0

set_option maxHeartbeats 4000000 in
/-- The body at a step where the row block is the last and the shard is the first. -/
theorem runCA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : k0_cond2 i = 1#1) (hc3 : k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay2 (stepGate x2 x3 x6 x9 (View.ld x16 q0))) ∗ owns (c : Thread nD τ) arg13 fullShare (k0_pay3 (stepUp x2 x3 x6 x9 (View.ld x16 q1))) ∗ owns (c : Thread nD τ) arg14 fullShare (k0_pay4 (stepDown x2 x6 (View.ld x16 q2))) ∗ owns (c : Thread nD τ) arg15 fullShare (put15 (512 * (i 1).val) (next512 x2 x6 x7 x8 x9 z15 z15) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4CA = (arg9.view.read (Elt F) f9) := ldw4 _
  have w8 : View.ld (arg8.view.read (Elt F) f8) w4CA = (arg8.view.read (Elt F) f8) := ldw4 _
  have w7 : View.ld (arg7.view.read (Elt F) f7) w4CA = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CA)) (addUp (View.ld (arg2.view.read (Elt F) f2) rA2) (View.ld (arg3.view.read (Elt F) f3) rA2) (View.ld (arg6.view.read (Elt F) f6) rAg) (View.ld (arg9.view.read (Elt F) f9) w4CA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CA)) (addUp (View.ld (arg2.view.read (Elt F) f2) rB2) (View.ld (arg3.view.read (Elt F) f3) rB2) (View.ld (arg6.view.read (Elt F) f6) rBg) (View.ld (arg9.view.read (Elt F) f9) w4CA))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CA)) (addUp (View.ld (arg2.view.read (Elt F) f2) rA2) (View.ld (arg3.view.read (Elt F) f3) rA2) (View.ld (arg6.view.read (Elt F) f6) rAg) (View.ld (arg9.view.read (Elt F) f9) w4CA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CA)) (addUp (View.ld (arg2.view.read (Elt F) f2) rB2) (View.ld (arg3.view.read (Elt F) f3) rB2) (View.ld (arg6.view.read (Elt F) f6) rBg) (View.ld (arg9.view.read (Elt F) f9) w4CA)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have c16 : arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CA)) (addUp (View.ld (arg2.view.read (Elt F) f2) rA2) (View.ld (arg3.view.read (Elt F) f3) rA2) (View.ld (arg6.view.read (Elt F) f6) rAg) (View.ld (arg9.view.read (Elt F) f9) w4CA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CA)) (addUp (View.ld (arg2.view.read (Elt F) f2) rB2) (View.ld (arg3.view.read (Elt F) f3) rB2) (View.ld (arg6.view.read (Elt F) f6) rBg) (View.ld (arg9.view.read (Elt F) f9) w4CA))) q0.toLoadRect = stepGate (arg2.view.read (Elt F) f2) (arg3.view.read (Elt F) f3) (arg6.view.read (Elt F) f6) (arg9.view.read (Elt F) f9) (View.ld (arg16.view.read (Elt F) f16) q0) ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CA)) (addUp (View.ld (arg2.view.read (Elt F) f2) rA2) (View.ld (arg3.view.read (Elt F) f3) rA2) (View.ld (arg6.view.read (Elt F) f6) rAg) (View.ld (arg9.view.read (Elt F) f9) w4CA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CA)) (addUp (View.ld (arg2.view.read (Elt F) f2) rB2) (View.ld (arg3.view.read (Elt F) f3) rB2) (View.ld (arg6.view.read (Elt F) f6) rBg) (View.ld (arg9.view.read (Elt F) f9) w4CA))) q1.toLoadRect = stepUp (arg2.view.read (Elt F) f2) (arg3.view.read (Elt F) f3) (arg6.view.read (Elt F) f6) (arg9.view.read (Elt F) f9) (View.ld (arg16.view.read (Elt F) f16) q1)
      ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CA)) (addUp (View.ld (arg2.view.read (Elt F) f2) rA2) (View.ld (arg3.view.read (Elt F) f3) rA2) (View.ld (arg6.view.read (Elt F) f6) rAg) (View.ld (arg9.view.read (Elt F) f9) w4CA))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CA)) (addUp (View.ld (arg2.view.read (Elt F) f2) rB2) (View.ld (arg3.view.read (Elt F) f3) rB2) (View.ld (arg6.view.read (Elt F) f6) rBg) (View.ld (arg9.view.read (Elt F) f9) w4CA))) q2.toLoadRect = stepDown (arg2.view.read (Elt F) f2) (arg6.view.read (Elt F) f6) (View.ld (arg16.view.read (Elt F) f16) q2) := by
    rw [l16]; exact cov_L3 _ _ _ _ _
  have g15 : ∀ f' : arg15.view.ty.Contents (Elt F), arg15.view.read (Elt F) (arg15.view.writes (Elt F) f' (R4z arg15.view (k0_off1 i) (k0_off2 i 0#32) (k0_off2 i 256#32) (k0_off1_inb i hc2) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CA) (View.ld (arg9.view.read (Elt F) f9) w4CA)) (addRowsU (View.ld (arg2.view.read (Elt F) f2) rA2) (View.ld (arg6.view.read (Elt F) f6) rAg) (View.ld (arg8.view.read (Elt F) f8) w4CA) (View.ld (arg9.view.read (Elt F) f9) w4CA)) (addRowsG (View.ld (arg2.view.read (Elt F) f2) rB2) (View.ld (arg6.view.read (Elt F) f6) rBg) (View.ld (arg6.view.read (Elt F) f6) rBu) (View.ld (arg7.view.read (Elt F) f7) w4CA) (View.ld (arg9.view.read (Elt F) f9) w4CA)) (addRowsU (View.ld (arg2.view.read (Elt F) f2) rB2) (View.ld (arg6.view.read (Elt F) f6) rBg) (View.ld (arg8.view.read (Elt F) f8) w4CA) (View.ld (arg9.view.read (Elt F) f9) w4CA)))) = put15 (512 * (i 1).val) (next512 (arg2.view.read (Elt F) f2) (arg6.view.read (Elt F) f6) (arg7.view.read (Elt F) f7) (arg8.view.read (Elt F) f8) (arg9.view.read (Elt F) f9) z15 z15) (arg15.view.read (Elt F) f') := fun f' => by
    refine (R4z_spec arg15.view _ (o := 512 * (i 1).val) (k0_off1_eq i) (k0_off2_eq i 0) (k0_off2_eq i 1) _ _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; exact (whole4 arg12.view f12 _).trans (congrArg k0_pay2 c16.1)
    iexact H12
  isplitl [H13]
  · iexists _; isplitr
    · ipureintro; exact (whole4 arg13.view f13 _).trans (congrArg k0_pay3 c16.2.1)
    iexact H13
  isplitl [H14]
  · iexists _; isplitr
    · ipureintro; exact (whole4 arg14.view f14 _).trans (congrArg k0_pay4 c16.2.2)
    iexact H14
  isplitl [H15]
  · iexists _; isplitr
    · ipureintro; exact e15
    iexact H15
  iexists _; isplitr
  · ipureintro; exact e16
  iexact H16

end Cert.KernelIdeal.Hand
end
-- ==== Proof.CaseCB.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4CB : Rect S2x1x352x1024 := Rect.unit ![0, 0, 0, 0] S2x1x352x1024.size inb_S2x1x352x1024_S2x1x352x1024_0_0_0_0

set_option maxHeartbeats 4000000 in
/-- The body at a step where the row block is the last and the shard is in the middle. -/
theorem runCB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : ¬ k0_cond2 i = 1#1) (hc3 : k0_cond3 i = 1#1) (hc4 : ¬ k0_cond4 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay2 (stepGate x2 x3 x6 x9 (View.ld x16 q0))) ∗ owns (c : Thread nD τ) arg13 fullShare (k0_pay3 (stepUp x2 x3 x6 x9 (View.ld x16 q1))) ∗ owns (c : Thread nD τ) arg14 fullShare (k0_pay4 (stepDown x2 x6 (View.ld x16 q2))) ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step

  have w9 : View.ld (arg9.view.read (Elt F) f9) w4CB = (arg9.view.read (Elt F) f9) := ldw4 _
  have w8 : View.ld (arg8.view.read (Elt F) f8) w4CB = (arg8.view.read (Elt F) f8) := ldw4 _
  have w7 : View.ld (arg7.view.read (Elt F) f7) w4CB = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CB)) (addUp (View.ld (arg2.view.read (Elt F) f2) rA2) (View.ld (arg3.view.read (Elt F) f3) rA2) (View.ld (arg6.view.read (Elt F) f6) rAg) (View.ld (arg9.view.read (Elt F) f9) w4CB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CB)) (addUp (View.ld (arg2.view.read (Elt F) f2) rB2) (View.ld (arg3.view.read (Elt F) f3) rB2) (View.ld (arg6.view.read (Elt F) f6) rBg) (View.ld (arg9.view.read (Elt F) f9) w4CB))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CB)) (addUp (View.ld (arg2.view.read (Elt F) f2) rA2) (View.ld (arg3.view.read (Elt F) f3) rA2) (View.ld (arg6.view.read (Elt F) f6) rAg) (View.ld (arg9.view.read (Elt F) f9) w4CB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CB)) (addUp (View.ld (arg2.view.read (Elt F) f2) rB2) (View.ld (arg3.view.read (Elt F) f3) rB2) (View.ld (arg6.view.read (Elt F) f6) rBg) (View.ld (arg9.view.read (Elt F) f9) w4CB)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have c16 : arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CB)) (addUp (View.ld (arg2.view.read (Elt F) f2) rA2) (View.ld (arg3.view.read (Elt F) f3) rA2) (View.ld (arg6.view.read (Elt F) f6) rAg) (View.ld (arg9.view.read (Elt F) f9) w4CB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CB)) (addUp (View.ld (arg2.view.read (Elt F) f2) rB2) (View.ld (arg3.view.read (Elt F) f3) rB2) (View.ld (arg6.view.read (Elt F) f6) rBg) (View.ld (arg9.view.read (Elt F) f9) w4CB))) q0.toLoadRect = stepGate (arg2.view.read (Elt F) f2) (arg3.view.read (Elt F) f3) (arg6.view.read (Elt F) f6) (arg9.view.read (Elt F) f9) (View.ld (arg16.view.read (Elt F) f16) q0) ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CB)) (addUp (View.ld (arg2.view.read (Elt F) f2) rA2) (View.ld (arg3.view.read (Elt F) f3) rA2) (View.ld (arg6.view.read (Elt F) f6) rAg) (View.ld (arg9.view.read (Elt F) f9) w4CB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CB)) (addUp (View.ld (arg2.view.read (Elt F) f2) rB2) (View.ld (arg3.view.read (Elt F) f3) rB2) (View.ld (arg6.view.read (Elt F) f6) rBg) (View.ld (arg9.view.read (Elt F) f9) w4CB))) q1.toLoadRect = stepUp (arg2.view.read (Elt F) f2) (arg3.view.read (Elt F) f3) (arg6.view.read (Elt F) f6) (arg9.view.read (Elt F) f9) (View.ld (arg16.view.read (Elt F) f16) q1)
      ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CB)) (addUp (View.ld (arg2.view.read (Elt F) f2) rA2) (View.ld (arg3.view.read (Elt F) f3) rA2) (View.ld (arg6.view.read (Elt F) f6) rAg) (View.ld (arg9.view.read (Elt F) f9) w4CB))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CB)) (addUp (View.ld (arg2.view.read (Elt F) f2) rB2) (View.ld (arg3.view.read (Elt F) f3) rB2) (View.ld (arg6.view.read (Elt F) f6) rBg) (View.ld (arg9.view.read (Elt F) f9) w4CB))) q2.toLoadRect = stepDown (arg2.view.read (Elt F) f2) (arg6.view.read (Elt F) f6) (View.ld (arg16.view.read (Elt F) f16) q2) := by
    rw [l16]; exact cov_L3 _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CB) (View.ld (arg9.view.read (Elt F) f9) w4CB)) (addRowsU (View.ld (arg2.view.read (Elt F) f2) rA2) (View.ld (arg6.view.read (Elt F) f6) rAg) (View.ld (arg8.view.read (Elt F) f8) w4CB) (View.ld (arg9.view.read (Elt F) f9) w4CB)) (addRowsG (View.ld (arg2.view.read (Elt F) f2) rB2) (View.ld (arg6.view.read (Elt F) f6) rBg) (View.ld (arg6.view.read (Elt F) f6) rBu) (View.ld (arg7.view.read (Elt F) f7) w4CB) (View.ld (arg9.view.read (Elt F) f9) w4CB)) (addRowsU (View.ld (arg2.view.read (Elt F) f2) rB2) (View.ld (arg6.view.read (Elt F) f6) rBg) (View.ld (arg8.view.read (Elt F) f8) w4CB) (View.ld (arg9.view.read (Elt F) f9) w4CB)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; exact (whole4 arg12.view f12 _).trans (congrArg k0_pay2 c16.1)
    iexact H12
  isplitl [H13]
  · iexists _; isplitr
    · ipureintro; exact (whole4 arg13.view f13 _).trans (congrArg k0_pay3 c16.2.1)
    iexact H13
  isplitl [H14]
  · iexists _; isplitr
    · ipureintro; exact (whole4 arg14.view f14 _).trans (congrArg k0_pay4 c16.2.2)
    iexact H14
  isplitl [H15]
  · iexists _; isplitr
    · ipureintro; exact e15
    iexact H15
  iexists _; isplitr
  · ipureintro; exact e16
  iexact H16

end Cert.KernelIdeal.Hand
end
-- ==== Proof.CaseCC.lean ====
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev w4CC : Rect S2x1x352x1024 := Rect.unit ![0, 0, 0, 0] S2x1x352x1024.size inb_S2x1x352x1024_S2x1x352x1024_0_0_0_0

set_option maxHeartbeats 4000000 in
/-- The body at a step where the row block is the last and the shard is the last. -/
theorem runCC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x2x512x704 .bf16) (harg6 : arg6.IsWhole) (arg7 : Memref sig .tc .vmem S2x1x352x1024 .bf16) (harg7 : arg7.IsWhole) (arg8 : Memref sig .tc .vmem S2x1x352x1024 .bf16) (harg8 : arg8.IsWhole) (arg9 : Memref sig .tc .vmem S2x1x352x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S2x1x352x1024 .bf16) (harg12 : arg12.IsWhole) (arg13 : Memref sig .tc .vmem S2x1x352x1024 .bf16) (harg13 : arg13.IsWhole) (arg14 : Memref sig .tc .vmem S2x1x352x1024 .bf16) (harg14 : arg14.IsWhole) (arg15 : Memref sig .tc .vmem S2048x1024 .f32) (harg15 : arg15.IsWhole) (arg16 : Memref sig .tc .vmem S3x704x1024 .f32) (harg16 : arg16.IsWhole) (hc1 : ¬ (Scalar.cmpi .ne (Scalar.extui (Scalar.cmpi .eq (BitVec.ofNat 32 (i 1).val) 0#32)) 0#32 = 1#1)) (hc2 : ¬ k0_cond2 i = 1#1) (hc3 : k0_cond3 i = 1#1) (hc4 : k0_cond4 i = 1#1) (hc5 : ¬ k0_cond5 i = 1#1) (hc6 : k0_cond6 i = 1#1)
    (x2 : Vec F S512x1024 .f32) (x3 : Vec F S512x1024 .bf16) (x4 : Vec F S512x1024 .f32) (x5 : Vec F S1x1024 .f32) (x6 : Vec F S1x2x512x704 .bf16) (x7 : Vec F S2x1x352x1024 .bf16) (x8 : Vec F S2x1x352x1024 .bf16) (x9 : Vec F S2x1x352x1024 .bf16) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay8 (next512 x2 x6 x7 x8 x9 (rows256 (512 * (i 1).val) x15) (rows256 (512 * (i 1).val + 256) x15)) x4 x5 x2) ∗ owns (c : Thread nD τ) arg11 fullShare (k0_pay5 (k0_pay9 (next512 x2 x6 x7 x8 x9 (rows256 (512 * (i 1).val) x15) (rows256 (512 * (i 1).val + 256) x15)) x4) x11) ∗ owns (c : Thread nD τ) arg12 fullShare (k0_pay2 (stepGate x2 x3 x6 x9 (View.ld x16 q0))) ∗ owns (c : Thread nD τ) arg13 fullShare (k0_pay3 (stepUp x2 x3 x6 x9 (View.ld x16 q1))) ∗ owns (c : Thread nD τ) arg14 fullShare (k0_pay4 (stepDown x2 x6 (View.ld x16 q2))) ∗ owns (c : Thread nD τ) arg15 fullShare (put15 (512 * (i 1).val) (next512 x2 x6 x7 x8 x9 (rows256 (512 * (i 1).val) x15) (rows256 (512 * (i 1).val + 256) x15)) x15) ∗ owns (c : Thread nD τ) arg16 fullShare (next16 x2 x3 x6 x9 (View.ld x16 q0) (View.ld x16 q1) (View.ld x16 q2))) -∗ K ⟨⟩))
      ⊢ wp frame (wpE (defs₀ (F := F)) Variants.none c none) E (cc0_ffn_bwd_11 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_11_eq_skeleton]; unfold cc0_ffn_bwd_11_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4 | sl_exact hc5 | sl_exact hc6)
  sl_step

  have w9 : View.ld (arg9.view.read (Elt F) f9) w4CC = (arg9.view.read (Elt F) f9) := ldw4 _
  have w8 : View.ld (arg8.view.read (Elt F) f8) w4CC = (arg8.view.read (Elt F) f8) := ldw4 _
  have w7 : View.ld (arg7.view.read (Elt F) f7) w4CC = (arg7.view.read (Elt F) f7) := ldw4 _
  obtain ⟨B, l16⟩ : ∃ B, (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CC)) (addUp (View.ld (arg2.view.read (Elt F) f2) rA2) (View.ld (arg3.view.read (Elt F) f3) rA2) (View.ld (arg6.view.read (Elt F) f6) rAg) (View.ld (arg9.view.read (Elt F) f9) w4CC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CC)) (addUp (View.ld (arg2.view.read (Elt F) f2) rB2) (View.ld (arg3.view.read (Elt F) f3) rB2) (View.ld (arg6.view.read (Elt F) f6) rBg) (View.ld (arg9.view.read (Elt F) f9) w4CC))) = L3 B (stepDown (arg2.view.read (Elt F) f2) (arg6.view.read (Elt F) f6) (View.ld (arg16.view.read (Elt F) f16) q2)) (stepGate (arg2.view.read (Elt F) f2) (arg3.view.read (Elt F) f3) (arg6.view.read (Elt F) f6) (arg9.view.read (Elt F) f9) (View.ld (arg16.view.read (Elt F) f16) q0)) (stepUp (arg2.view.read (Elt F) f2) (arg3.view.read (Elt F) f3) (arg6.view.read (Elt F) f6) (arg9.view.read (Elt F) f9) (View.ld (arg16.view.read (Elt F) f16) q1)) := by
    unfold F3
    rw [L6_eq, w9]; exact ⟨_, rfl⟩
  have e16 : arg16.view.read (Elt F) (arg16.view.writes (Elt F) f16 (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CC)) (addUp (View.ld (arg2.view.read (Elt F) f2) rA2) (View.ld (arg3.view.read (Elt F) f3) rA2) (View.ld (arg6.view.read (Elt F) f6) rAg) (View.ld (arg9.view.read (Elt F) f9) w4CC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CC)) (addUp (View.ld (arg2.view.read (Elt F) f2) rB2) (View.ld (arg3.view.read (Elt F) f3) rB2) (View.ld (arg6.view.read (Elt F) f6) rBg) (View.ld (arg9.view.read (Elt F) f9) w4CC)))) = (next16 (arg2.view.read (Elt F) f2) (arg3.view.read (Elt F) f3) (arg6.view.read (Elt F) f6) (arg9.view.read (Elt F) f9) (View.ld (arg16.view.read (Elt F) f16) q0) (View.ld (arg16.view.read (Elt F) f16) q1) (View.ld (arg16.view.read (Elt F) f16) q2)) := by
    rw [l16]; exact read_L3 _ _ _ _ _ _
  have c16 : arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CC)) (addUp (View.ld (arg2.view.read (Elt F) f2) rA2) (View.ld (arg3.view.read (Elt F) f3) rA2) (View.ld (arg6.view.read (Elt F) f6) rAg) (View.ld (arg9.view.read (Elt F) f9) w4CC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CC)) (addUp (View.ld (arg2.view.read (Elt F) f2) rB2) (View.ld (arg3.view.read (Elt F) f3) rB2) (View.ld (arg6.view.read (Elt F) f6) rBg) (View.ld (arg9.view.read (Elt F) f9) w4CC))) q0.toLoadRect = stepGate (arg2.view.read (Elt F) f2) (arg3.view.read (Elt F) f3) (arg6.view.read (Elt F) f6) (arg9.view.read (Elt F) f9) (View.ld (arg16.view.read (Elt F) f16) q0) ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CC)) (addUp (View.ld (arg2.view.read (Elt F) f2) rA2) (View.ld (arg3.view.read (Elt F) f3) rA2) (View.ld (arg6.view.read (Elt F) f6) rAg) (View.ld (arg9.view.read (Elt F) f9) w4CC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CC)) (addUp (View.ld (arg2.view.read (Elt F) f2) rB2) (View.ld (arg3.view.read (Elt F) f3) rB2) (View.ld (arg6.view.read (Elt F) f6) rBg) (View.ld (arg9.view.read (Elt F) f9) w4CC))) q1.toLoadRect = stepUp (arg2.view.read (Elt F) f2) (arg3.view.read (Elt F) f3) (arg6.view.read (Elt F) f6) (arg9.view.read (Elt F) f9) (View.ld (arg16.view.read (Elt F) f16) q1)
      ∧ arg16.view.readCov (L6 arg16.view (F3 arg16.view f16 (addDown (View.ld (arg2.view.read (Elt F) f2) rA2) (View.ld (arg6.view.read (Elt F) f6) rAg) (View.ld (arg6.view.read (Elt F) f6) rAu)) (addGate (View.ld (arg2.view.read (Elt F) f2) rA2) (View.ld (arg3.view.read (Elt F) f3) rA2) (View.ld (arg6.view.read (Elt F) f6) rAg) (View.ld (arg6.view.read (Elt F) f6) rAu) (View.ld (arg9.view.read (Elt F) f9) w4CC)) (addUp (View.ld (arg2.view.read (Elt F) f2) rA2) (View.ld (arg3.view.read (Elt F) f3) rA2) (View.ld (arg6.view.read (Elt F) f6) rAg) (View.ld (arg9.view.read (Elt F) f9) w4CC))) (addDown (View.ld (arg2.view.read (Elt F) f2) rB2) (View.ld (arg6.view.read (Elt F) f6) rBg) (View.ld (arg6.view.read (Elt F) f6) rBu)) (addGate (View.ld (arg2.view.read (Elt F) f2) rB2) (View.ld (arg3.view.read (Elt F) f3) rB2) (View.ld (arg6.view.read (Elt F) f6) rBg) (View.ld (arg6.view.read (Elt F) f6) rBu) (View.ld (arg9.view.read (Elt F) f9) w4CC)) (addUp (View.ld (arg2.view.read (Elt F) f2) rB2) (View.ld (arg3.view.read (Elt F) f3) rB2) (View.ld (arg6.view.read (Elt F) f6) rBg) (View.ld (arg9.view.read (Elt F) f9) w4CC))) q2.toLoadRect = stepDown (arg2.view.read (Elt F) f2) (arg6.view.read (Elt F) f6) (View.ld (arg16.view.read (Elt F) f16) q2) := by
    rw [l16]; exact cov_L3 _ _ _ _ _
  have g15 : ∀ f' : arg15.view.ty.Contents (Elt F), arg15.view.read (Elt F) (arg15.view.writes (Elt F) f' (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CC) (View.ld (arg9.view.read (Elt F) f9) w4CC)) (addRowsU (View.ld (arg2.view.read (Elt F) f2) rA2) (View.ld (arg6.view.read (Elt F) f6) rAg) (View.ld (arg8.view.read (Elt F) f8) w4CC) (View.ld (arg9.view.read (Elt F) f9) w4CC)) (addRowsG (View.ld (arg2.view.read (Elt F) f2) rB2) (View.ld (arg6.view.read (Elt F) f6) rBg) (View.ld (arg6.view.read (Elt F) f6) rBu) (View.ld (arg7.view.read (Elt F) f7) w4CC) (View.ld (arg9.view.read (Elt F) f9) w4CC)) (addRowsU (View.ld (arg2.view.read (Elt F) f2) rB2) (View.ld (arg6.view.read (Elt F) f6) rBg) (View.ld (arg8.view.read (Elt F) f8) w4CC) (View.ld (arg9.view.read (Elt F) f9) w4CC)))) = put15 (512 * (i 1).val) (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg15.view.read (Elt F) f') := fun f' => by
    refine (R4_spec arg15.view f15 _ (o := 512 * (i 1).val) (k0_off2_eq i 0) (k0_off2_eq i 1) _ _ _ _ _ _).trans ?_
    rw [w7, w8, w9]; rfl
  have e15 := g15 f15
  have c15 : arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CC) (View.ld (arg9.view.read (Elt F) f9) w4CC)) (addRowsU (View.ld (arg2.view.read (Elt F) f2) rA2) (View.ld (arg6.view.read (Elt F) f6) rAg) (View.ld (arg8.view.read (Elt F) f8) w4CC) (View.ld (arg9.view.read (Elt F) f9) w4CC)) (addRowsG (View.ld (arg2.view.read (Elt F) f2) rB2) (View.ld (arg6.view.read (Elt F) f6) rBg) (View.ld (arg6.view.read (Elt F) f6) rBu) (View.ld (arg7.view.read (Elt F) f7) w4CC) (View.ld (arg9.view.read (Elt F) f9) w4CC)) (addRowsU (View.ld (arg2.view.read (Elt F) f2) rB2) (View.ld (arg6.view.read (Elt F) f6) rBg) (View.ld (arg8.view.read (Elt F) f8) w4CC) (View.ld (arg9.view.read (Elt F) f9) w4CC))) (Rect.unit (s := S2048x1024) (k0_off3 i) S512x1024.size (k0_off3_inb i hc4)).toLoadRect = (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) :=
    cov512 arg15.view _ (k0_off3_eq i) _ _ _ (g15 _)
  have e10 : k0_pay8 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CC) (View.ld (arg9.view.read (Elt F) f9) w4CC)) (addRowsU (View.ld (arg2.view.read (Elt F) f2) rA2) (View.ld (arg6.view.read (Elt F) f6) rAg) (View.ld (arg8.view.read (Elt F) f8) w4CC) (View.ld (arg9.view.read (Elt F) f9) w4CC)) (addRowsG (View.ld (arg2.view.read (Elt F) f2) rB2) (View.ld (arg6.view.read (Elt F) f6) rBg) (View.ld (arg6.view.read (Elt F) f6) rBu) (View.ld (arg7.view.read (Elt F) f7) w4CC) (View.ld (arg9.view.read (Elt F) f9) w4CC)) (addRowsU (View.ld (arg2.view.read (Elt F) f2) rB2) (View.ld (arg6.view.read (Elt F) f6) rBg) (View.ld (arg8.view.read (Elt F) f8) w4CC) (View.ld (arg9.view.read (Elt F) f9) w4CC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0))
      (View.ld (arg5.view.read (Elt F) f5) (Rect.unit (s := S1x1024) ![0, 0] S1x1024.size inb_S1x1024_S1x1024_0_0)) (View.ld (arg2.view.read (Elt F) f2) (Rect.unit (s := S512x1024) ![0, 0] S512x1024.size inb_S512x1024_S512x1024_0_0)) = (k0_pay8 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4) (arg5.view.read (Elt F) f5) (arg2.view.read (Elt F) f2)) := by
    rw [c15, ldw512, ldw1, ldw512]
  have e11 : k0_pay5 (k0_pay9 (arg15.view.readCov (R4 arg15.view f15 (k0_off2 i 0#32) (k0_off2 i 256#32) (k0_off2_inb i 0) (k0_off2_inb i 1) (addRowsG (View.ld (arg2.view.read (Elt F) f2) rA2) (View.ld (arg6.view.read (Elt F) f6) rAg) (View.ld (arg6.view.read (Elt F) f6) rAu) (View.ld (arg7.view.read (Elt F) f7) w4CC) (View.ld (arg9.view.read (Elt F) f9) w4CC)) (addRowsU (View.ld (arg2.view.read (Elt F) f2) rA2) (View.ld (arg6.view.read (Elt F) f6) rAg) (View.ld (arg8.view.read (Elt F) f8) w4CC) (View.ld (arg9.view.read (Elt F) f9) w4CC)) (addRowsG (View.ld (arg2.view.read (Elt F) f2) rB2) (View.ld (arg6.view.read (Elt F) f6) rBg) (View.ld (arg6.view.read (Elt F) f6) rBu) (View.ld (arg7.view.read (Elt F) f7) w4CC) (View.ld (arg9.view.read (Elt F) f9) w4CC)) (addRowsU (View.ld (arg2.view.read (Elt F) f2) rB2) (View.ld (arg6.view.read (Elt F) f6) rBg) (View.ld (arg8.view.read (Elt F) f8) w4CC) (View.ld (arg9.view.read (Elt F) f9) w4CC))) (Rect.unit (s := S2048x1024) (k0_off3 i) S512x1024.size (k0_off3_inb i hc4)).toLoadRect) (View.ld (arg4.view.read (Elt F) f4) (Rect.unit (s := S512x1024) ![0, 0] S512x1024.size inb_S512x1024_S512x1024_0_0))) (View.ld (arg11.view.read (Elt F) f11) (Rect.unit (s := S1x1024) ![0, 0] S1x1024.size inb_S1x1024_S1x1024_0_0)) = (k0_pay5 (k0_pay9 (next512 (arg2.view.read (Elt F) f2) (arg6.view.read (Elt F) f6) (arg7.view.read (Elt F) f7) (arg8.view.read (Elt F) f8) (arg9.view.read (Elt F) f9) (rows256 (512 * (i 1).val) (arg15.view.read (Elt F) f15)) (rows256 (512 * (i 1).val + 256) (arg15.view.read (Elt F) f15))) (arg4.view.read (Elt F) f4)) (arg11.view.read (Elt F) f11)) := by
    rw [c15, ldw512, ldw1]
  iapply Hk
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  isplitl [H8]
  · iexists _; isplitr
    · ipureintro; rfl
    iexact H8
  isplitl [H9]
  · iexists _; isplitr
    · ipureintro; rfl
    iexact H9
  isplitl [H10]
  · iexists _; isplitr
    · ipureintro; exact (whole512 arg10.view f10 _).trans e10
    iexact H10
  isplitl [H11]
  · iexists _; isplitr
    · ipureintro; exact (whole1 arg11.view f11 _).trans e11
    iexact H11
  isplitl [H12]
  · iexists _; isplitr
    · ipureintro; exact (whole4 arg12.view f12 _).trans (congrArg k0_pay2 c16.1)
    iexact H12
  isplitl [H13]
  · iexists _; isplitr
    · ipureintro; exact (whole4 arg13.view f13 _).trans (congrArg k0_pay3 c16.2.1)
    iexact H13
  isplitl [H14]
  · iexists _; isplitr
    · ipureintro; exact (whole4 arg14.view f14 _).trans (congrArg k0_pay4 c16.2.2)
    iexact H14
  isplitl [H15]
  · iexists _; isplitr
    · ipureintro; exact e15
    iexact H15
  iexists _; isplitr
  · ipureintro; exact e16
  iexact H16

end Cert.KernelIdeal.Hand
end
-- ==== Proof.Body.lean ====
module

public import proofs.«01_k».proof.Proof.CaseAA
public import proofs.«01_k».proof.Proof.CaseAB
public import proofs.«01_k».proof.Proof.CaseAC
public import proofs.«01_k».proof.Proof.CaseBA
public import proofs.«01_k».proof.Proof.CaseBB
public import proofs.«01_k».proof.Proof.CaseBC
public import proofs.«01_k».proof.Proof.CaseCA
public import proofs.«01_k».proof.Proof.CaseCB
public import proofs.«01_k».proof.Proof.CaseCC
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the body leaves, point by point

Point `n` of the sixteen is shard `n / 4`, row block `n % 4`. -/

/-- Point `n`, the numbers read modulo the sixteen points. -/
def pt (n : ℕ) : Fin cfg0.N := ⟨n % 16, lt_of_lt_of_eq (Nat.mod_lt _ (by decide)) (show cfg0.N = 16 from N_0).symm⟩

theorem pt_val (t : Fin cfg0.N) : pt t.val = t :=
  Fin.ext (Nat.mod_eq_of_lt (lt_of_lt_of_eq t.isLt (show cfg0.N = 16 from N_0)))

/-- Window 0's block at point `n`. -/
abbrev b0 (c : Dev nD) (n : ℕ) : Vec F S512x1024 .f32 := iblk m c 0 (pt n)
/-- Window 1's block at point `n`. -/
abbrev b1 (c : Dev nD) (n : ℕ) : Vec F S512x1024 .bf16 := iblk m c 1 (pt n)
/-- Window 2's block at point `n`. -/
abbrev b2 (c : Dev nD) (n : ℕ) : Vec F S512x1024 .f32 := iblk m c 2 (pt n)
/-- Window 3's block at point `n`. -/
abbrev b3 (c : Dev nD) (n : ℕ) : Vec F S1x1024 .f32 := iblk m c 3 (pt n)
/-- Window 4's block at point `n`. -/
abbrev b4 (c : Dev nD) (n : ℕ) : Vec F S1x2x512x704 .bf16 := iblk m c 4 (pt n)
/-- Window 5's block at point `n`. -/
abbrev b5 (c : Dev nD) (n : ℕ) : Vec F S2x1x352x1024 .bf16 := iblk m c 5 (pt n)
/-- Window 6's block at point `n`. -/
abbrev b6 (c : Dev nD) (n : ℕ) : Vec F S2x1x352x1024 .bf16 := iblk m c 6 (pt n)
/-- Window 7's block at point `n`. -/
abbrev b7 (c : Dev nD) (n : ℕ) : Vec F S2x1x352x1024 .bf16 := iblk m c 7 (pt n)

/-- The weight gradients' accumulator before point `n`. -/
def wTraj (c : Dev nD) : ℕ → Vec F S3x704x1024 .f32
  | 0 => fun _ => Scalar.ofBits .f32 0x00000000#32
  | n + 1 => next16 (b0 m c n) (b1 m c n) (b4 m c n) (b7 m c n)
      (if n % 4 = 0 then z16 else View.ld (wTraj c n) q0) (if n % 4 = 0 then z16 else View.ld (wTraj c n) q1)
      (if n % 4 = 0 then z16 else View.ld (wTraj c n) q2)

/-- The three accumulators a point starts from. -/
abbrev w0 (c : Dev nD) (n : ℕ) : Vec F S1x704x1024 .f32 := if n % 4 = 0 then z16 else View.ld (wTraj m c n) q0
abbrev w1 (c : Dev nD) (n : ℕ) : Vec F S1x704x1024 .f32 := if n % 4 = 0 then z16 else View.ld (wTraj m c n) q1
abbrev w2 (c : Dev nD) (n : ℕ) : Vec F S1x704x1024 .f32 := if n % 4 = 0 then z16 else View.ld (wTraj m c n) q2

/-- The 512 rows of `dh` a point leaves, from what was there. -/
abbrev dNext (c : Dev nD) (n : ℕ) (X : Vec F S2048x1024 .f32) : Vec F S512x1024 .f32 :=
  next512 (b0 m c n) (b4 m c n) (b5 m c n) (b6 m c n) (b7 m c n)
    (if n < 4 then z15 else rows256 (512 * (n % 4)) X) (if n < 4 then z15 else rows256 (512 * (n % 4) + 256) X)

/-- The accumulator of `dh` before point `n`. -/
def dTraj (c : Dev nD) : ℕ → Vec F S2048x1024 .f32
  | 0 => fun _ => Scalar.ofBits .f32 0x00000000#32
  | n + 1 => put15 (512 * (n % 4)) (dNext m c n (dTraj c n)) (dTraj c n)

abbrev dVal (c : Dev nD) (n : ℕ) : Vec F S512x1024 .f32 := dNext m c n (dTraj m c n)

/-- `dnw` after point `n`. -/
def nTraj (c : Dev nD) : ℕ → Vec F S1x1024 .f32
  | 0 => k0_pay9 (dVal m c 0) (b2 m c 0)
  | n + 1 => if (n + 1) % 4 = 0 then k0_pay9 (dVal m c (n + 1)) (b2 m c (n + 1))
      else k0_pay5 (k0_pay9 (dVal m c (n + 1)) (b2 m c (n + 1))) (nTraj c n)

/-- What a point leaves in the output blocks it writes. -/
abbrev o8 (c : Dev nD) (n : ℕ) : Vec F S512x1024 .f32 := k0_pay8 (dVal m c n) (b2 m c n) (b3 m c n) (b0 m c n)
abbrev o10 (c : Dev nD) (n : ℕ) : Vec F S2x1x352x1024 .bf16 := k0_pay2 (stepGate (b0 m c n) (b1 m c n) (b4 m c n) (b7 m c n) (w0 m c n))
abbrev o11 (c : Dev nD) (n : ℕ) : Vec F S2x1x352x1024 .bf16 := k0_pay3 (stepUp (b0 m c n) (b1 m c n) (b4 m c n) (b7 m c n) (w1 m c n))
abbrev o12 (c : Dev nD) (n : ℕ) : Vec F S2x1x352x1024 .bf16 := k0_pay4 (stepDown (b0 m c n) (b4 m c n) (w2 m c n))

/-- What the scratch buffers hold before point `n`: the weights' accumulator within a shard, and the rows of `dh`
    that some point before has written. -/
def Inv (c : Dev nD) (n : ℕ) (a15 : Vec F S2048x1024 .f32) (a16 : Vec F S3x704x1024 .f32) : Prop :=
  (n % 4 ≠ 0 → a16 = wTraj m c n) ∧ ∀ y : S2048x1024.Idx, (4 ≤ n ∨ (y 0).val < 512 * n) → a15 y = dTraj m c n y

theorem Inv.whole {c : Dev nD} {n : ℕ} {a15 : Vec F S2048x1024 .f32} {a16 : Vec F S3x704x1024 .f32} (h : Inv m c n a15 a16) (hn : 4 ≤ n) :
    a15 = dTraj m c n := funext fun y => h.2 y (.inl hn)

theorem Inv.zero (c : Dev nD) (a15 : Vec F S2048x1024 .f32) (a16 : Vec F S3x704x1024 .f32) : Inv m c 0 a15 a16 :=
  ⟨fun h => absurd rfl h, fun y h => by omega⟩

/-- The rows a point leaves are the trajectory's. -/
theorem Inv.dNext_eq {c : Dev nD} {n : ℕ} {a15 : Vec F S2048x1024 .f32} {a16 : Vec F S3x704x1024 .f32} (h : Inv m c n a15 a16) :
    dNext m c n a15 = dVal m c n := by
  by_cases hn : n < 4
  · unfold dVal dNext; rw [if_pos hn, if_pos hn, if_pos hn, if_pos hn]
  · rw [h.whole m (by omega)]

/-- A point keeps the invariant. -/
theorem Inv.step {c : Dev nD} {n : ℕ} {a15 : Vec F S2048x1024 .f32} {a16 : Vec F S3x704x1024 .f32} (h : Inv m c n a15 a16) :
    Inv m c (n + 1) (put15 (512 * (n % 4)) (dNext m c n a15) a15)
      (next16 (b0 m c n) (b1 m c n) (b4 m c n) (b7 m c n)
        (if n % 4 = 0 then z16 else View.ld a16 q0) (if n % 4 = 0 then z16 else View.ld a16 q1) (if n % 4 = 0 then z16 else View.ld a16 q2)) := by
  refine ⟨fun _ => ?_, fun y hy => ?_⟩
  · show _ = next16 _ _ _ _ _ _ _
    by_cases h0 : n % 4 = 0
    · simp only [if_pos h0]
    · rw [h.1 h0]
  · show _ = put15 _ (dNext m c n (dTraj m c n)) (dTraj m c n) y
    rw [h.dNext_eq]
    unfold put15
    have hy2 : (y 0).val < 2048 := (y 0).isLt
    split
    · rfl
    · next hne => exact h.2 y (by omega)

/-! ## The proof data -/

/-- What the region keeps between points. -/
def phi (c : Dev nD) (n : ℕ) : sProp 𝕄 :=
  iprop((∃ a15, ∃ a16, owns (c : Thread nD τ) (Memref.whole cc0_scratch0) fullShare a15
      ∗ owns (c : Thread nD τ) (Memref.whole cc0_scratch1) fullShare a16 ∗ ⌜Inv m c n a15 a16⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 m c t.val
    | ⟨9, _⟩ => nTraj m c t.val
    | ⟨10, _⟩ => o10 m c t.val
    | ⟨11, _⟩ => o11 m c t.val
    | ⟨12, _⟩ => o12 m c t.val
  Φ t := phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = o8 m c t.val := by dsimp only [dats]
theorem after0_9 (c : Dev nD) (t : Fin cfg0.N) : (dats m 0 c).after 9 t = nTraj m c t.val := by dsimp only [dats]
theorem after0_10 (c : Dev nD) (t : Fin cfg0.N) : (dats m 0 c).after 10 t = o10 m c t.val := by dsimp only [dats]
theorem after0_11 (c : Dev nD) (t : Fin cfg0.N) : (dats m 0 c).after 11 t = o11 m c t.val := by dsimp only [dats]
theorem after0_12 (c : Dev nD) (t : Fin cfg0.N) : (dats m 0 c).after 12 t = o12 m c t.val := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The conditions' closed forms -/

theorem hc1_iff : ∀ t : Fin grid0.N, Scalar.cmpi .ne (Scalar.extui (Scalar.cmpi .eq (BitVec.ofNat 32 ((grid0.coords t) 1).val) 0#32)) 0#32 = 1#1 ↔ t.val % 4 = 0 := by decide +kernel
theorem hc2_iff : ∀ t : Fin grid0.N, k0_cond2 (grid0.coords t) = 1#1 ↔ t.val < 4 := by decide +kernel
theorem hc3_iff : ∀ t : Fin grid0.N, k0_cond3 (grid0.coords t) = 1#1 ↔ t.val % 4 = 3 := by decide +kernel
theorem hc4_iff : ∀ t : Fin grid0.N, k0_cond4 (grid0.coords t) = 1#1 ↔ 12 ≤ t.val := by decide +kernel
theorem hc5_iff : ∀ t : Fin grid0.N, k0_cond5 (grid0.coords t) = 1#1 ↔ t.val % 4 = 0 := by decide +kernel
theorem hc6_iff : ∀ t : Fin grid0.N, k0_cond6 (grid0.coords t) = 1#1 ↔ ¬ t.val % 4 = 0 := by decide +kernel
theorem coord1 : ∀ t : Fin grid0.N, ((grid0.coords t) 1).val = t.val % 4 := by decide +kernel

theorem idle8 : ∀ t : Fin grid0.N, cfg0.idle 8 (grid0.coords t) = decide (t.val < 12) := by decide +kernel
theorem idle9 : ∀ t : Fin grid0.N, cfg0.idle 9 (grid0.coords t) = decide (t.val < 12) := by decide +kernel
theorem idle10 : ∀ t : Fin grid0.N, cfg0.idle 10 (grid0.coords t) = decide (¬ t.val % 4 = 3) := by decide +kernel
theorem idle11 : ∀ t : Fin grid0.N, cfg0.idle 11 (grid0.coords t) = decide (¬ t.val % 4 = 3) := by decide +kernel
theorem idle12 : ∀ t : Fin grid0.N, cfg0.idle 12 (grid0.coords t) = decide (¬ t.val % 4 = 3) := by decide +kernel
theorem noflush8 : ∀ t : Fin grid0.N, t.val < 12 → win0_8.flush t = false := by decide +kernel
theorem noflush9 : ∀ t : Fin grid0.N, t.val < 15 → win0_9.flush t = false := by decide +kernel
theorem noflush10 : ∀ t : Fin grid0.N, ¬ t.val % 4 = 3 → win0_10.flush t = false := by decide +kernel
theorem noflush11 : ∀ t : Fin grid0.N, ¬ t.val % 4 = 3 → win0_11.flush t = false := by decide +kernel
theorem noflush12 : ∀ t : Fin grid0.N, ¬ t.val % 4 = 3 → win0_12.flush t = false := by decide +kernel

/-- After the first of the last shard's points the norm's gradient is what the point before left. -/
theorem before0_9 (c : Dev nD) (t : Fin cfg0.N) (ht : 12 < t.val) (d) : (dats m 0 c).before 9 t d = nTraj m c (t.val - 1) := by
  have hN : t.val < 16 := lt_of_lt_of_eq t.isLt (show cfg0.N = 16 from N_0)
  have hf : (cfg0.win 9).flush ⟨t.val - 1, Nat.lt_of_le_of_lt (Nat.sub_le _ _) t.isLt⟩ = false := noflush9 _ (by simp only; omega)
  rw [Dat.before_of_pos (dats m 0 c) 9 t (by omega) (Pipeline.Window.fetch_out _ rfl t) d, hf, if_neg Bool.false_ne_true]
  have hi : cfg0.idle 9 (cfg0.grid.coords ⟨t.val - 1, Nat.lt_of_le_of_lt (Nat.sub_le _ _) t.isLt⟩) = false :=
    (idle9 ⟨t.val - 1, Nat.lt_of_le_of_lt (Nat.sub_le _ _) t.isLt⟩).trans (decide_eq_false (by simp only; omega))
  unfold Dat.left; rw [hi]; dsimp only
  unfold Dat.kept
  have : (cfg0.win 9).fill (cfg0.grid.coords ⟨t.val - 1, Nat.lt_of_le_of_lt (Nat.sub_le _ _) t.isLt⟩) d ((cfg0.win 9).cut (cfg0.grid.coords ⟨t.val - 1, Nat.lt_of_le_of_lt (Nat.sub_le _ _) t.isLt⟩) ((dats m 0 c).after 9 ⟨t.val - 1, Nat.lt_of_le_of_lt (Nat.sub_le _ _) t.isLt⟩)) = (dats m 0 c).after 9 ⟨t.val - 1, Nat.lt_of_le_of_lt (Nat.sub_le _ _) t.isLt⟩ := by
    funext j
    unfold Window.fill
    rw [dif_pos (((cfg0.win 9).moved_iff _ j).mpr fun a => (j a).isLt)]
  exact this.trans (after0_9 m c _)

/-! ## The body at a point -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x512x704 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1x352x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x1x352x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x1x352x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x1x352x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x1x352x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2x1x352x1024 .bf16 := win0_12.stage (cfg0.slots t 12)
abbrev hs12 (t : Fin cfg0.N) : (ms12 t).IsWhole := hstage0_12 ((cfg0.slots t 12).cast nbuf0_12)

/-- The body at point `t` takes the outputs' buffers and the scratch from `x` to `y`. -/
def Runs (c : Dev nD) (t : Fin cfg0.N) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (y10 : Vec F S512x1024 .f32) (y11 : Vec F S1x1024 .f32) (y12 : Vec F S2x1x352x1024 .bf16) (y13 : Vec F S2x1x352x1024 .bf16) (y14 : Vec F S2x1x352x1024 .bf16) (y15 : Vec F S2048x1024 .f32) (y16 : Vec F S3x704x1024 .f32) : Prop :=
  ∀ K : PUnit → sProp 𝕄, iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare x10 ∗ owns (c : Thread nD τ) (ms9 t) fullShare x11 ∗ owns (c : Thread nD τ) (ms10 t) fullShare x12 ∗ owns (c : Thread nD τ) (ms11 t) fullShare x13 ∗ owns (c : Thread nD τ) (ms12 t) fullShare x14 ∗ owns (c : Thread nD τ) (Memref.whole cc0_scratch0) fullShare x15 ∗ owns (c : Thread nD τ) (Memref.whole cc0_scratch1) fullShare x16
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare y10 ∗ owns (c : Thread nD τ) (ms9 t) fullShare y11 ∗ owns (c : Thread nD τ) (ms10 t) fullShare y12 ∗ owns (c : Thread nD τ) (ms11 t) fullShare y13 ∗ owns (c : Thread nD τ) (ms12 t) fullShare y14 ∗ owns (c : Thread nD τ) (Memref.whole cc0_scratch0) fullShare y15 ∗ owns (c : Thread nD τ) (Memref.whole cc0_scratch1) fullShare y16) -∗ K ⟨⟩))
    ⊢ wp frame (wpE (defs₀ (F := F)) Variants.none c none) Set.univ (bodyAt0 t) K

/-- What a point is to leave, from what it finds. -/
structure Good (c : Dev nD) (t : Fin cfg0.N) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (y10 : Vec F S512x1024 .f32) (y11 : Vec F S1x1024 .f32) (y12 : Vec F S2x1x352x1024 .bf16) (y13 : Vec F S2x1x352x1024 .bf16) (y14 : Vec F S2x1x352x1024 .bf16) (y15 : Vec F S2048x1024 .f32) (y16 : Vec F S3x704x1024 .f32) : Prop where
  run : Runs m c t x10 x11 x12 x13 x14 x15 x16 y10 y11 y12 y13 y14 y15 y16
  e10 : y10 = if t.val < 12 then x10 else o8 m c t.val
  e11 : y11 = if t.val < 12 then x11 else nTraj m c t.val
  e12 : y12 = if t.val % 4 = 3 then o10 m c t.val else x12
  e13 : y13 = if t.val % 4 = 3 then o11 m c t.val else x13
  e14 : y14 = if t.val % 4 = 3 then o12 m c t.val else x14
  inv : Inv m c (t.val + 1) y15 y16

theorem nTraj_eq (c : Dev nD) (n : ℕ) (X : Vec F S1x1024 .f32) (hX : n % 4 ≠ 0 → X = nTraj m c (n - 1)) :
    nTraj m c n = if n % 4 = 0 then k0_pay9 (dVal m c n) (b2 m c n) else k0_pay5 (k0_pay9 (dVal m c n) (b2 m c n)) X := by
  cases n with
  | zero => rfl
  | succ n =>
    show (if (n + 1) % 4 = 0 then _ else _) = _
    split
    · rfl
    · next h => rw [hX h]; rfl

theorem goodAA (c : Dev nD) (t : Fin cfg0.N) (ha : t.val % 4 = 0) (hb : t.val < 4)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 x12 x13 x14 (put15 (512 * ((grid0.coords t) 1).val) (next512 (iblk m c 0 t) (iblk m c 4 t) (iblk m c 5 t) (iblk m c 6 t) (iblk m c 7 t) z15 z15) x15) (next16 (iblk m c 0 t) (iblk m c 1 t) (iblk m c 4 t) (iblk m c 7 t) z16 z16 z16) := by
  have ha3 : ¬ t.val % 4 = 3 := by omega
  have hb3 : t.val < 12 := by omega
  have hd : dNext m c t.val x15 = (next512 (iblk m c 0 t) (iblk m c 4 t) (iblk m c 5 t) (iblk m c 6 t) (iblk m c 7 t) z15 z15) := by
    unfold dNext b0 b4 b5 b6 b7; rw [if_pos hb, if_pos hb, pt_val]
  have hv : dVal m c t.val = (next512 (iblk m c 0 t) (iblk m c 4 t) (iblk m c 5 t) (iblk m c 6 t) (iblk m c 7 t) z15 z15) := hI.dNext_eq.symm.trans hd
  refine ⟨fun K => runAA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) ((hc1_iff t).mpr ha) ((hc2_iff t).mpr hb) (fun h => ha3 ((hc3_iff t).mp h)) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_neg ha3]
  · rw [if_neg ha3]
  · rw [if_neg ha3]
  · have h := hI.step
    rw [hd] at h; unfold b0 b1 b4 b7 at h
    rw [if_pos ha, if_pos ha, if_pos ha, pt_val] at h
    rw [coord1 t]; exact h

theorem goodAB (c : Dev nD) (t : Fin cfg0.N) (ha : t.val % 4 = 0) (hb : ¬ t.val < 4) (hb3 : t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 x12 x13 x14 (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) z16 z16 z16) := by
  have ha3 : ¬ t.val % 4 = 3 := by omega
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runAB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) ((hc1_iff t).mpr ha) (fun h => hb ((hc2_iff t).mp h)) (fun h => ha3 ((hc3_iff t).mp h)) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_neg ha3]
  · rw [if_neg ha3]
  · rw [if_neg ha3]
  · have h := hI.step
    rw [hd] at h; unfold b0 b1 b4 b7 at h
    rw [if_pos ha, if_pos ha, if_pos ha, pt_val] at h
    rw [coord1 t] at h ⊢; exact h

theorem goodAC (c : Dev nD) (t : Fin cfg0.N) (ha : t.val % 4 = 0) (hb3 : ¬ t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 (k0_pay8 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t) (iblk m c 3 t) (iblk m c 0 t)) (k0_pay9 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t)) x12 x13 x14 (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) z16 z16 z16) := by
  have ha3 : ¬ t.val % 4 = 3 := by omega
  have hb : ¬ t.val < 4 := by omega
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runAC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) ((hc1_iff t).mpr ha) (fun h => hb ((hc2_iff t).mp h)) (fun h => ha3 ((hc3_iff t).mp h)) ((hc4_iff t).mpr (by omega)) ((hc5_iff t).mpr ha) (fun h => (hc6_iff t).mp h ha) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_neg hb3]; unfold o8; rw [hv]; unfold b0 b2 b3; rw [pt_val]
  · rw [if_neg hb3, nTraj_eq m c t.val x11 (fun h => absurd ha h), if_pos ha, hv]; unfold b2; rw [pt_val]
  · rw [if_neg ha3]
  · rw [if_neg ha3]
  · rw [if_neg ha3]
  · have h := hI.step
    rw [hd] at h; unfold b0 b1 b4 b7 at h
    rw [if_pos ha, if_pos ha, if_pos ha, pt_val] at h
    rw [coord1 t] at h ⊢; exact h

theorem goodBA (c : Dev nD) (t : Fin cfg0.N) (ha : ¬ t.val % 4 = 0) (ha3 : ¬ t.val % 4 = 3) (hb : t.val < 4)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 x12 x13 x14 (put15 (512 * ((grid0.coords t) 1).val) (next512 (iblk m c 0 t) (iblk m c 4 t) (iblk m c 5 t) (iblk m c 6 t) (iblk m c 7 t) z15 z15) x15) (next16 (iblk m c 0 t) (iblk m c 1 t) (iblk m c 4 t) (iblk m c 7 t) (View.ld x16 q0) (View.ld x16 q1) (View.ld x16 q2)) := by
  have hb3 : t.val < 12 := by omega
  have hd : dNext m c t.val x15 = (next512 (iblk m c 0 t) (iblk m c 4 t) (iblk m c 5 t) (iblk m c 6 t) (iblk m c 7 t) z15 z15) := by
    unfold dNext b0 b4 b5 b6 b7; rw [if_pos hb, if_pos hb, pt_val]
  have hv : dVal m c t.val = (next512 (iblk m c 0 t) (iblk m c 4 t) (iblk m c 5 t) (iblk m c 6 t) (iblk m c 7 t) z15 z15) := hI.dNext_eq.symm.trans hd
  refine ⟨fun K => runBA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) ((hc2_iff t).mpr hb) (fun h => ha3 ((hc3_iff t).mp h)) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_neg ha3]
  · rw [if_neg ha3]
  · rw [if_neg ha3]
  · have h := hI.step
    rw [hd] at h; unfold b0 b1 b4 b7 at h
    rw [if_neg ha, if_neg ha, if_neg ha, pt_val] at h
    rw [coord1 t]; exact h

theorem goodBB (c : Dev nD) (t : Fin cfg0.N) (ha : ¬ t.val % 4 = 0) (ha3 : ¬ t.val % 4 = 3) (hb : ¬ t.val < 4) (hb3 : t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 x12 x13 x14 (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) (View.ld x16 q0) (View.ld x16 q1) (View.ld x16 q2)) := by
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runBB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) (fun h => hb ((hc2_iff t).mp h)) (fun h => ha3 ((hc3_iff t).mp h)) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_neg ha3]
  · rw [if_neg ha3]
  · rw [if_neg ha3]
  · have h := hI.step
    rw [hd] at h; unfold b0 b1 b4 b7 at h
    rw [if_neg ha, if_neg ha, if_neg ha, pt_val] at h
    rw [coord1 t] at h ⊢; exact h

theorem goodBC (c : Dev nD) (t : Fin cfg0.N) (ha : ¬ t.val % 4 = 0) (ha3 : ¬ t.val % 4 = 3) (hb3 : ¬ t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 (k0_pay8 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t) (iblk m c 3 t) (iblk m c 0 t)) (k0_pay5 (k0_pay9 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t)) x11) x12 x13 x14 (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) (View.ld x16 q0) (View.ld x16 q1) (View.ld x16 q2)) := by
  have hb : ¬ t.val < 4 := by omega
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runBC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) (fun h => hb ((hc2_iff t).mp h)) (fun h => ha3 ((hc3_iff t).mp h)) ((hc4_iff t).mpr (by omega)) (fun h => ha ((hc5_iff t).mp h)) ((hc6_iff t).mpr ha) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_neg hb3]; unfold o8; rw [hv]; unfold b0 b2 b3; rw [pt_val]
  · rw [if_neg hb3, nTraj_eq m c t.val x11 (fun _ => hX (by omega)), if_neg ha, hv]; unfold b2; rw [pt_val]
  · rw [if_neg ha3]
  · rw [if_neg ha3]
  · rw [if_neg ha3]
  · have h := hI.step
    rw [hd] at h; unfold b0 b1 b4 b7 at h
    rw [if_neg ha, if_neg ha, if_neg ha, pt_val] at h
    rw [coord1 t] at h ⊢; exact h

theorem goodCA (c : Dev nD) (t : Fin cfg0.N) (ha3 : t.val % 4 = 3) (hb : t.val < 4)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 (k0_pay2 (stepGate (iblk m c 0 t) (iblk m c 1 t) (iblk m c 4 t) (iblk m c 7 t) (View.ld x16 q0))) (k0_pay3 (stepUp (iblk m c 0 t) (iblk m c 1 t) (iblk m c 4 t) (iblk m c 7 t) (View.ld x16 q1))) (k0_pay4 (stepDown (iblk m c 0 t) (iblk m c 4 t) (View.ld x16 q2))) (put15 (512 * ((grid0.coords t) 1).val) (next512 (iblk m c 0 t) (iblk m c 4 t) (iblk m c 5 t) (iblk m c 6 t) (iblk m c 7 t) z15 z15) x15) (next16 (iblk m c 0 t) (iblk m c 1 t) (iblk m c 4 t) (iblk m c 7 t) (View.ld x16 q0) (View.ld x16 q1) (View.ld x16 q2)) := by
  have ha : ¬ t.val % 4 = 0 := by omega
  have hb3 : t.val < 12 := by omega
  have hd : dNext m c t.val x15 = (next512 (iblk m c 0 t) (iblk m c 4 t) (iblk m c 5 t) (iblk m c 6 t) (iblk m c 7 t) z15 z15) := by
    unfold dNext b0 b4 b5 b6 b7; rw [if_pos hb, if_pos hb, pt_val]
  have hv : dVal m c t.val = (next512 (iblk m c 0 t) (iblk m c 4 t) (iblk m c 5 t) (iblk m c 6 t) (iblk m c 7 t) z15 z15) := hI.dNext_eq.symm.trans hd
  refine ⟨fun K => runCA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) ((hc2_iff t).mpr hb) ((hc3_iff t).mpr ha3) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_pos ha3]; unfold o10 w0 b0 b1 b4 b7; rw [if_neg ha, pt_val, hI.1 ha]
  · rw [if_pos ha3]; unfold o11 w1 b0 b1 b4 b7; rw [if_neg ha, pt_val, hI.1 ha]
  · rw [if_pos ha3]; unfold o12 w2 b0 b4; rw [if_neg ha, pt_val, hI.1 ha]
  · have h := hI.step
    rw [hd] at h; unfold b0 b1 b4 b7 at h
    rw [if_neg ha, if_neg ha, if_neg ha, pt_val] at h
    rw [coord1 t]; exact h

theorem goodCB (c : Dev nD) (t : Fin cfg0.N) (ha3 : t.val % 4 = 3) (hb : ¬ t.val < 4) (hb3 : t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 x10 x11 (k0_pay2 (stepGate (iblk m c 0 t) (iblk m c 1 t) (iblk m c 4 t) (iblk m c 7 t) (View.ld x16 q0))) (k0_pay3 (stepUp (iblk m c 0 t) (iblk m c 1 t) (iblk m c 4 t) (iblk m c 7 t) (View.ld x16 q1))) (k0_pay4 (stepDown (iblk m c 0 t) (iblk m c 4 t) (View.ld x16 q2))) (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) (View.ld x16 q0) (View.ld x16 q1) (View.ld x16 q2)) := by
  have ha : ¬ t.val % 4 = 0 := by omega
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runCB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) (fun h => hb ((hc2_iff t).mp h)) ((hc3_iff t).mpr ha3) (fun h => by have := (hc4_iff t).mp h; omega) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_pos hb3]
  · rw [if_pos hb3]
  · rw [if_pos ha3]; unfold o10 w0 b0 b1 b4 b7; rw [if_neg ha, pt_val, hI.1 ha]
  · rw [if_pos ha3]; unfold o11 w1 b0 b1 b4 b7; rw [if_neg ha, pt_val, hI.1 ha]
  · rw [if_pos ha3]; unfold o12 w2 b0 b4; rw [if_neg ha, pt_val, hI.1 ha]
  · have h := hI.step
    rw [hd] at h; unfold b0 b1 b4 b7 at h
    rw [if_neg ha, if_neg ha, if_neg ha, pt_val] at h
    rw [coord1 t] at h ⊢; exact h

theorem goodCC (c : Dev nD) (t : Fin cfg0.N) (ha3 : t.val % 4 = 3) (hb3 : ¬ t.val < 12)
    (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    Good m c t x10 x11 x12 x13 x14 x15 x16 (k0_pay8 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t) (iblk m c 3 t) (iblk m c 0 t)) (k0_pay5 (k0_pay9 (next512 (iblk m c 0 t) (iblk m c 4 t) (iblk m c 5 t) (iblk m c 6 t) (iblk m c 7 t) (rows256 (512 * ((grid0.coords t) 1).val) x15) (rows256 (512 * ((grid0.coords t) 1).val + 256) x15)) (iblk m c 2 t)) x11) (k0_pay2 (stepGate (iblk m c 0 t) (iblk m c 1 t) (iblk m c 4 t) (iblk m c 7 t) (View.ld x16 q0))) (k0_pay3 (stepUp (iblk m c 0 t) (iblk m c 1 t) (iblk m c 4 t) (iblk m c 7 t) (View.ld x16 q1))) (k0_pay4 (stepDown (iblk m c 0 t) (iblk m c 4 t) (View.ld x16 q2))) (put15 (512 * ((grid0.coords t) 1).val) (next512 (iblk m c 0 t) (iblk m c 4 t) (iblk m c 5 t) (iblk m c 6 t) (iblk m c 7 t) (rows256 (512 * ((grid0.coords t) 1).val) x15) (rows256 (512 * ((grid0.coords t) 1).val + 256) x15)) x15) (next16 (iblk m c 0 t) (iblk m c 1 t) (iblk m c 4 t) (iblk m c 7 t) (View.ld x16 q0) (View.ld x16 q1) (View.ld x16 q2)) := by
  have ha : ¬ t.val % 4 = 0 := by omega
  have hb : ¬ t.val < 4 := by omega
  have hd : dNext m c t.val x15 = (next512 (iblk m c 0 t) (iblk m c 4 t) (iblk m c 5 t) (iblk m c 6 t) (iblk m c 7 t) (rows256 (512 * ((grid0.coords t) 1).val) x15) (rows256 (512 * ((grid0.coords t) 1).val + 256) x15)) := by
    unfold dNext b0 b4 b5 b6 b7; rw [if_neg hb, if_neg hb, pt_val, coord1 t]
  have hv : dVal m c t.val = (next512 (iblk m c 0 t) (iblk m c 4 t) (iblk m c 5 t) (iblk m c 6 t) (iblk m c 7 t) (rows256 (512 * ((grid0.coords t) 1).val) x15) (rows256 (512 * ((grid0.coords t) 1).val + 256) x15)) := hI.dNext_eq.symm.trans hd
  refine ⟨fun K => runCC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole cc0_scratch0) (Memref.whole cc0_scratch1) (Memref.isWhole_whole cc0_scratch1) (fun h => ha ((hc1_iff t).mp h)) (fun h => hb ((hc2_iff t).mp h)) ((hc3_iff t).mpr ha3) ((hc4_iff t).mpr (by omega)) (fun h => ha ((hc5_iff t).mp h)) ((hc6_iff t).mpr ha) (iblk m c 0 t) (iblk m c 1 t) (iblk m c 2 t) (iblk m c 3 t) (iblk m c 4 t) (iblk m c 5 t) (iblk m c 6 t) (iblk m c 7 t) x10 x11 x12 x13 x14 x15 x16 Set.univ K, ?_, ?_, ?_, ?_, ?_, ?_⟩
  · rw [if_neg hb3]; unfold o8; rw [hv]; unfold b0 b2 b3; rw [pt_val]
  · rw [if_neg hb3, nTraj_eq m c t.val x11 (fun _ => hX (by omega)), if_neg ha, hv]; unfold b2; rw [pt_val]
  · rw [if_pos ha3]; unfold o10 w0 b0 b1 b4 b7; rw [if_neg ha, pt_val, hI.1 ha]
  · rw [if_pos ha3]; unfold o11 w1 b0 b1 b4 b7; rw [if_neg ha, pt_val, hI.1 ha]
  · rw [if_pos ha3]; unfold o12 w2 b0 b4; rw [if_neg ha, pt_val, hI.1 ha]
  · have h := hI.step
    rw [hd] at h; unfold b0 b1 b4 b7 at h
    rw [if_neg ha, if_neg ha, if_neg ha, pt_val] at h
    rw [coord1 t] at h ⊢; exact h

/-- Every point. -/
theorem good (c : Dev nD) (t : Fin cfg0.N) (x10 : Vec F S512x1024 .f32) (x11 : Vec F S1x1024 .f32) (x12 : Vec F S2x1x352x1024 .bf16) (x13 : Vec F S2x1x352x1024 .bf16) (x14 : Vec F S2x1x352x1024 .bf16) (x15 : Vec F S2048x1024 .f32) (x16 : Vec F S3x704x1024 .f32) (hI : Inv m c t.val x15 x16)
    (hX : 12 < t.val → x11 = nTraj m c (t.val - 1)) :
    ∃ y10 y11 y12 y13 y14 y15 y16, Good m c t x10 x11 x12 x13 x14 x15 x16 y10 y11 y12 y13 y14 y15 y16 := by
  by_cases ha : t.val % 4 = 0
  · by_cases hb : t.val < 4
    · exact ⟨_, _, _, _, _, _, _, goodAA m c t ha hb x10 x11 x12 x13 x14 x15 x16 hI hX⟩
    · by_cases hb3 : t.val < 12
      · exact ⟨_, _, _, _, _, _, _, goodAB m c t ha hb hb3 x10 x11 x12 x13 x14 x15 x16 hI hX⟩
      · exact ⟨_, _, _, _, _, _, _, goodAC m c t ha hb3 x10 x11 x12 x13 x14 x15 x16 hI hX⟩
  · by_cases ha3 : t.val % 4 = 3
    · by_cases hb : t.val < 4
      · exact ⟨_, _, _, _, _, _, _, goodCA m c t ha3 hb x10 x11 x12 x13 x14 x15 x16 hI hX⟩
      · by_cases hb3 : t.val < 12
        · exact ⟨_, _, _, _, _, _, _, goodCB m c t ha3 hb hb3 x10 x11 x12 x13 x14 x15 x16 hI hX⟩
        · exact ⟨_, _, _, _, _, _, _, goodCC m c t ha3 hb3 x10 x11 x12 x13 x14 x15 x16 hI hX⟩
    · by_cases hb : t.val < 4
      · exact ⟨_, _, _, _, _, _, _, goodBA m c t ha ha3 hb x10 x11 x12 x13 x14 x15 x16 hI hX⟩
      · by_cases hb3 : t.val < 12
        · exact ⟨_, _, _, _, _, _, _, goodBB m c t ha ha3 hb hb3 x10 x11 x12 x13 x14 x15 x16 hI hX⟩
        · exact ⟨_, _, _, _, _, _, _, goodBC m c t ha ha3 hb3 x10 x11 x12 x13 x14 x15 x16 hI hX⟩

/-! ## The body obligation -/

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0_0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after0_1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after0_2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after0_3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after0_4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after0_5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after0_6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after0_7]
theorem leaves8 (c : Dev nD) (t : Fin cfg0.N) (d : (cfg0.win 8).block.Idx → Elt F (cfg0.win 8).elt) (y : Vec F S512x1024 .f32) (hy : y = if t.val < 12 then (dats m 0 c).before 8 t d else o8 m c t.val) :
    owns (c : Thread nD τ) (ms8 t) fullShare y ⊢ ((dats m 0 c).leavesExact 8 t : sProp 𝕄) := by
  by_cases h : t.val < 12
  · rw [if_pos h] at hy; subst hy
    rw [Dat.leavesExact_idle (dats m 0 c) 8 t ((idle8 t).trans (decide_eq_true h)) (noflush8 t (by omega))]
    iintro H; iexists d; iexact H
  · rw [if_neg h] at hy; subst hy
    unfold Dat.leavesExact; rw [show cfg0.idle 8 (cfg0.grid.coords t) = false from (idle8 t).trans (decide_eq_false h), after0_8]
theorem leaves9 (c : Dev nD) (t : Fin cfg0.N) (d : (cfg0.win 9).block.Idx → Elt F (cfg0.win 9).elt) (y : Vec F S1x1024 .f32) (hy : y = if t.val < 12 then (dats m 0 c).before 9 t d else nTraj m c t.val) :
    owns (c : Thread nD τ) (ms9 t) fullShare y ⊢ ((dats m 0 c).leavesExact 9 t : sProp 𝕄) := by
  by_cases h : t.val < 12
  · rw [if_pos h] at hy; subst hy
    rw [Dat.leavesExact_idle (dats m 0 c) 9 t ((idle9 t).trans (decide_eq_true h)) (noflush9 t (by omega))]
    iintro H; iexists d; iexact H
  · rw [if_neg h] at hy; subst hy
    unfold Dat.leavesExact; rw [show cfg0.idle 9 (cfg0.grid.coords t) = false from (idle9 t).trans (decide_eq_false h), after0_9]
theorem leaves10 (c : Dev nD) (t : Fin cfg0.N) (d : (cfg0.win 10).block.Idx → Elt F (cfg0.win 10).elt) (y : Vec F S2x1x352x1024 .bf16) (hy : y = if t.val % 4 = 3 then o10 m c t.val else (dats m 0 c).before 10 t d) :
    owns (c : Thread nD τ) (ms10 t) fullShare y ⊢ ((dats m 0 c).leavesExact 10 t : sProp 𝕄) := by
  by_cases h : t.val % 4 = 3
  · rw [if_pos h] at hy; subst hy
    unfold Dat.leavesExact; rw [show cfg0.idle 10 (cfg0.grid.coords t) = false from (idle10 t).trans (decide_eq_false (not_not.mpr h)), after0_10]
  · rw [if_neg h] at hy; subst hy
    rw [Dat.leavesExact_idle (dats m 0 c) 10 t ((idle10 t).trans (decide_eq_true h)) (noflush10 t h)]
    iintro H; iexists d; iexact H
theorem leaves11 (c : Dev nD) (t : Fin cfg0.N) (d : (cfg0.win 11).block.Idx → Elt F (cfg0.win 11).elt) (y : Vec F S2x1x352x1024 .bf16) (hy : y = if t.val % 4 = 3 then o11 m c t.val else (dats m 0 c).before 11 t d) :
    owns (c : Thread nD τ) (ms11 t) fullShare y ⊢ ((dats m 0 c).leavesExact 11 t : sProp 𝕄) := by
  by_cases h : t.val % 4 = 3
  · rw [if_pos h] at hy; subst hy
    unfold Dat.leavesExact; rw [show cfg0.idle 11 (cfg0.grid.coords t) = false from (idle11 t).trans (decide_eq_false (not_not.mpr h)), after0_11]
  · rw [if_neg h] at hy; subst hy
    rw [Dat.leavesExact_idle (dats m 0 c) 11 t ((idle11 t).trans (decide_eq_true h)) (noflush11 t h)]
    iintro H; iexists d; iexact H
theorem leaves12 (c : Dev nD) (t : Fin cfg0.N) (d : (cfg0.win 12).block.Idx → Elt F (cfg0.win 12).elt) (y : Vec F S2x1x352x1024 .bf16) (hy : y = if t.val % 4 = 3 then o12 m c t.val else (dats m 0 c).before 12 t d) :
    owns (c : Thread nD τ) (ms12 t) fullShare y ⊢ ((dats m 0 c).leavesExact 12 t : sProp 𝕄) := by
  by_cases h : t.val % 4 = 3
  · rw [if_pos h] at hy; subst hy
    unfold Dat.leavesExact; rw [show cfg0.idle 12 (cfg0.grid.coords t) = false from (idle12 t).trans (decide_eq_false (not_not.mpr h)), after0_12]
  · rw [if_neg h] at hy; subst hy
    rw [Dat.leavesExact_idle (dats m 0 c) 12 t ((idle12 t).trans (decide_eq_true h)) (noflush12 t h)]
    iintro H; iexists d; iexact H

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

set_option maxHeartbeats 3600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl,
    show (dats m 0 c).Φ t.castSucc = phi m c t.val from rfl, show (dats m 0 c).Φ t.succ = phi m c (t.val + 1) from rfl]
  simp only [leaves0, leaves1, leaves2, leaves3, leaves4, leaves5, leaves6, leaves7]
  unfold phi
  iintro ⟨⟨⟨%x15, %x16, S0, S1, %hI⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨y10, y11, y12, y13, y14, y15, y16, hG⟩ := good m c t ((dats m 0 c).before 8 t d8) ((dats m 0 c).before 9 t d9) ((dats m 0 c).before 10 t d10)
    ((dats m 0 c).before 11 t d11) ((dats m 0 c).before 12 t d12) x15 x16 hI (fun h => before0_9 m c t h d9)
  iapply (hG.run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  iintro ⟨H0, H1, H2, H3, H4, H5, H6, H7, H8, H9, H10, H11, H12, S0, S1⟩
  isplitl [S0 S1 Hg]
  · isplitl [S0 S1]
    · iexists y15; iexists y16
      isplitl [S0]; · iexact S0
      isplitl [S1]; · iexact S1
      ipureintro; exact hG.inv
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8 y10 hG.e10); iexact H8
  isplitl [H9]; · iapply (leaves9 m c t d9 y11 hG.e11); iexact H9
  isplitl [H10]; · iapply (leaves10 m c t d10 y12 hG.e12); iexact H10
  isplitl [H11]; · iapply (leaves11 m c t d11 y13 hG.e13); iexact H11
  iapply (leaves12 m c t d12 y14 hG.e14); iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]; exact triple_restated (sound_body m c t) rfl .rfl fun _ => .rfl

/-! ## The run and the frame -/

theorem PhiA0_eq (c : Dev nD) : (Pipeline.ΦA spec0 c : sProp 𝕄)
   = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem enter (c : Dev nD) : Pipeline.ΦA spec0 c ⊢ ((dats m 0 c).Φ 0 : sProp 𝕄) := by
  rw [PhiA0_eq, show (dats m 0 c).Φ 0 = phi m c 0 from rfl]; unfold phi
  iintro ⟨⟨⟨%x15, S0⟩, ⟨%x16, S1⟩⟩, Hg⟩
  isplitl [S0 S1]
  · iexists x15; iexists x16
    isplitl [S0]; · iexact S0
    isplitl [S1]; · iexact S1
    ipureintro; exact Inv.zero m c x15 x16
  iexact Hg

theorem leave (c : Dev nD) : ((dats m 0 c).Φ (Fin.last cfg0.N) : sProp 𝕄) ⊢ Pipeline.ΦA spec0 c := by
  rw [PhiA0_eq, show (dats m 0 c).Φ (Fin.last cfg0.N) = phi m c cfg0.N from rfl]; unfold phi
  iintro ⟨⟨%x15, %x16, S0, S1, %hI⟩, Hg⟩
  isplitl [S0 S1]
  · isplitl [S0]
    · iexists x15; iexact S0
    iexists x16; iexact S1
  iexact Hg

set_option backward.isDefEq.respectTransparency.types false in
/-- The program runs to the pipeline's arrays at what the points wrote into them, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c w => by unfold Dat.share; exact ite_self _)
    (howed := fun _ _ => rfl) (V := V m) (hmain := hmain m Variants.none) (hA := A_eq m) (hin := enter m) (hout := leave m)
    (Q' := _) (hQ' := fun _ h => h)

/-- Every argument array ends unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.Twin.lean ====
module

public import proofs.«01_k».proof.Proof.Body
public import proofs.«01_k».proof.Proof.Gen.Kernel
public import proofs.«01_k».proof.Defs

@[expose] public section

set_option maxRecDepth 16384

noncomputable section

/-! `Kernel` and `KernelIdeal` are one text: the run of the one is the run of the other. -/

namespace Cert.Kernel.Hand

open Idealize.ShloMosaic Idealize.ShloMosaic.TcCoe Idealize.SL.Sem

variable {F : FTy → Type} [FloatOps F]

attribute [local instance] Cert.Kernel.Gen.facts Cert.KernelIdeal.Gen.facts

theorem body_eq : @Cert.Kernel.cc0_ffn_bwd_11 F _ _ = @Cert.KernelIdeal.cc0_ffn_bwd_11 F _ _ := rfl

set_option maxHeartbeats 2000000 in
theorem rows_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    dsimp only
    rw [body_eq]
    rfl

theorem table_eq : Cert.Kernel.defs (F := F) = Cert.KernelIdeal.defs (F := F) := by
  unfold Cert.Kernel.defs Cert.KernelIdeal.defs
  exact congrArg (Pipeline.defs Cert.KernelIdeal.pcfgs) rows_eq

set_option maxHeartbeats 4000000 in
theorem main_eq : Cert.Kernel.main (F := F) = Cert.KernelIdeal.main (F := F) := rfl

theorem frame_kernel : Cert.quiescent_Kernel (hKernel := Cert.Kernel.Gen.facts) := by
  intro m g _
  rw [table_eq, main_eq]
  exact Cert.KernelIdeal.Hand.frame_all (F := Bits) m g

end Cert.Kernel.Hand

end
-- ==== Proof.Ref.lean ====
module

public import proofs.«01_k».proof.Proof.Gen.ReferenceIdeal.Read
public import Idealize.ShloMosaic.Lib.Pipeline.ValueKit

@[expose] public section

set_option maxRecDepth 16384
noncomputable section
open Idealize.ShloMosaic Idealize.ShloMosaic.TcCoe Idealize.SL.Sem
namespace Cert.ReferenceIdeal.Hand
open Cert.ReferenceIdeal Cert.ReferenceIdeal.Gen Cert.ReferenceIdeal.Read

/-- The two coordinates of a weight's row within one shard: 704 rows are 2 chips of 352. -/
def kc (k : Fin 704) : Fin 2 := ⟨k.val / 352, by omega⟩
def kp (k : Fin 704) : Fin 352 := ⟨k.val % 352, by omega⟩

/-- One half. -/
def hf : EReal := Ideal.ofBits FTy.f32 1056964608#32
/-- The sigmoid. -/
def sig (g : EReal) : EReal := Ideal.div 1 (1 + Ideal.exp (-g))
/-- A row's mean square, and a small constant. -/
def vr (x : Fin 1024 → EReal) : EReal :=
  Ideal.div (∑ j, x j * x j) (Ideal.ofBits FTy.f32 0x44800000#32) + Ideal.ofBits FTy.f32 0x3727C5AC#32

theorem sum704 (f : Fin 2 → Fin 352 → EReal) : ∑ k : Fin 704, f (kc k) (kp k) = ∑ c, ∑ p, f c p := by
  rw [← Fintype.sum_prod_type' (f := f)]
  refine Fintype.sum_bijective (fun k : Fin 704 => (kc k, kp k)) ⟨fun a b h => ?_, fun q => ?_⟩ _ _ fun k => rfl
  · have h1 : a.val / 352 = b.val / 352 := congrArg (fun q => q.1.val) h
    have h2 : a.val % 352 = b.val % 352 := congrArg (fun q => q.2.val) h
    exact Fin.ext (by omega)
  · refine ⟨⟨q.1.val * 352 + q.2.val, by omega⟩, Prod.ext (Fin.ext ?_) (Fin.ext ?_)⟩
    · show (q.1.val * 352 + q.2.val) / 352 = q.1.val
      omega
    · show (q.1.val * 352 + q.2.val) % 352 = q.2.val
      omega

/-! ## The contraction over the rows of a weight: chips, shards and rows of a shard -/

abbrev DR := dot_S2048x2x4x352_S2x4x352x1024_S2048x1024_123_012_0_3_n_n

def contr3 : DR.contr.Idx ≃ Fin 2 × Fin 4 × Fin 352 where
  toFun q := ((q ⟨0, by decide⟩).cast rfl, (q ⟨1, by decide⟩).cast rfl, (q ⟨2, by decide⟩).cast rfl)
  invFun p := fun a => match a with
    | ⟨0, _⟩ => p.1.cast rfl
    | ⟨1, _⟩ => p.2.1.cast rfl
    | ⟨2, _⟩ => p.2.2.cast rfl
  left_inv q := by
    funext a
    match a with
    | ⟨0, _⟩ => rfl
    | ⟨1, _⟩ => rfl
    | ⟨2, _⟩ => rfl
  right_inv p := rfl

theorem DR_lhs (s : Fin 2048) (d : Fin 1024) (p : Fin 2 × Fin 4 × Fin 352) :
    DR.lhsIdx (ix2 s d) (contr3.symm p) = ix4 s p.1 p.2.1 p.2.2 := funext fun a => Fin.ext (by
  unfold DotDims.lhsIdx
  match a with
  | ⟨0, _⟩ => rw [dif_neg (show ¬ (⟨0, by decide⟩ : Fin 4) ∈ DR.lhsBatch by decide), dif_pos (show (⟨0, by decide⟩ : Fin 4) ∈ DR.lhsNonContracting by decide)]; rfl
  | ⟨1, _⟩ => rw [dif_neg (show ¬ (⟨1, by decide⟩ : Fin 4) ∈ DR.lhsBatch by decide), dif_neg (show ¬ (⟨1, by decide⟩ : Fin 4) ∈ DR.lhsNonContracting by decide)]; rfl
  | ⟨2, _⟩ => rw [dif_neg (show ¬ (⟨2, by decide⟩ : Fin 4) ∈ DR.lhsBatch by decide), dif_neg (show ¬ (⟨2, by decide⟩ : Fin 4) ∈ DR.lhsNonContracting by decide)]; rfl
  | ⟨3, _⟩ => rw [dif_neg (show ¬ (⟨3, by decide⟩ : Fin 4) ∈ DR.lhsBatch by decide), dif_neg (show ¬ (⟨3, by decide⟩ : Fin 4) ∈ DR.lhsNonContracting by decide)]; rfl)

theorem DR_rhs (s : Fin 2048) (d : Fin 1024) (p : Fin 2 × Fin 4 × Fin 352) :
    DR.rhsIdx (ix2 s d) (contr3.symm p) = ix4 p.1 p.2.1 p.2.2 d := funext fun a => Fin.ext (by
  unfold DotDims.rhsIdx
  match a with
  | ⟨0, _⟩ => rw [dif_neg (show ¬ (⟨0, by decide⟩ : Fin 4) ∈ DR.rhsBatch by decide), dif_neg (show ¬ (⟨0, by decide⟩ : Fin 4) ∈ DR.rhsNonContracting by decide)]; rfl
  | ⟨1, _⟩ => rw [dif_neg (show ¬ (⟨1, by decide⟩ : Fin 4) ∈ DR.rhsBatch by decide), dif_neg (show ¬ (⟨1, by decide⟩ : Fin 4) ∈ DR.rhsNonContracting by decide)]; rfl
  | ⟨2, _⟩ => rw [dif_neg (show ¬ (⟨2, by decide⟩ : Fin 4) ∈ DR.rhsBatch by decide), dif_neg (show ¬ (⟨2, by decide⟩ : Fin 4) ∈ DR.rhsNonContracting by decide)]; rfl
  | ⟨3, _⟩ => rw [dif_neg (show ¬ (⟨3, by decide⟩ : Fin 4) ∈ DR.rhsBatch by decide), dif_pos (show (⟨3, by decide⟩ : Fin 4) ∈ DR.rhsNonContracting by decide)]; rfl)

theorem DR_at (y : FVec Ideal S2048x2x4x352 .f32) (w : FVec Ideal S2x4x352x1024 .f32) (s : Fin 2048) (d : Fin 1024) :
    Host.dotGeneral (F := Ideal) DR none y w (ix2 s d)
      = ∑ e : Fin 4, ∑ k : Fin 704, y (ix4 s (kc k) e (kp k)) * w (ix4 (kc k) e (kp k) d) := by
  simp only [Host.dotGeneral]
  rw [Ideal.dotGeneral_apply, ← Equiv.sum_comp contr3.symm, Fintype.sum_prod_type]
  simp only [Fintype.sum_prod_type]
  rw [Finset.sum_comm]
  refine Finset.sum_congr rfl fun e _ => ?_
  rw [sum704 (fun c p => y (ix4 s c e p) * w (ix4 c e p d))]
  refine Finset.sum_congr rfl fun c _ => Finset.sum_congr rfl fun p _ => ?_
  rw [DR_lhs, DR_rhs]

variable (x0 x1 : FVec Ideal S2048x1024 .f32) (x2 : FVec Ideal S1024 .f32) (x3 x4 x5 : FVec Ideal S2x4x352x1024 .bf16)

/-! ## The reference, stage by stage -/

/-- A row's cotangent through its mean square: the row's product sum with the normalised rows' cotangent, times the
derivative of the reciprocal root at the mean square, over the row's length. -/
def back (s : Fin 2048) : EReal :=
  Ideal.div ((∑ j : Fin 1024, x1 (ix2 s j) * (val_main_v40 (F := Ideal) x0 x1 x2 x3 x4 x5 (ix2 s j) * x2 (ix1 j)))
      * (Ideal.ofBits FTy.f32 0xBF000000#32 * Ideal.div (Ideal.rsqrt (vr (fun j => x1 (ix2 s j)))) (vr (fun j => x1 (ix2 s j)))))
    (Ideal.ofBits FTy.f32 0x44800000#32)

theorem v36_at (s : Fin 2048) (d : Fin 1024) : val_main_v36 (F := Ideal) x0 x1 x2 x3 x4 x5 (ix2 s d)
    = ∑ e : Fin 4, ∑ k : Fin 704, val_main_v33 (F := Ideal) x0 x1 x2 x3 x5 (ix4 s (kc k) e (kp k)) * x4 (ix4 (kc k) e (kp k) d) := by
  rw [val_main_v36]
  exact DR_at _ _ s d
theorem v39_at (s : Fin 2048) (d : Fin 1024) : val_main_v39 (F := Ideal) x0 x1 x2 x3 x4 x5 (ix2 s d)
    = ∑ e : Fin 4, ∑ k : Fin 704, val_main_v37 (F := Ideal) x0 x1 x2 x3 x4 x5 (ix4 s (kc k) e (kp k)) * x3 (ix4 (kc k) e (kp k) d) := by
  rw [val_main_v39]
  exact DR_at _ _ s d
theorem v27_eq : val_main_v27 (F := Ideal) x0 = x0 := shapeCast_self _ _
theorem v29_at (s : Fin 2048) (d : Fin 1024) : val_main_v29 (F := Ideal) x0 (ix2 s d) = hf * x0 (ix2 s d) := by
  rw [val_main_v29, v27_eq]
  pointwise [val_main_v28, val_main_cst_4]
  rfl
theorem v32_at (s : Fin 2048) (c : Fin 2) (e : Fin 4) (p : Fin 352) : val_main_v32 (F := Ideal) x0 x5 (ix4 s c e p)
    = ∑ j : Fin 1024, hf * x0 (ix2 s j) * x5 (ix4 c e p j) := by
  rw [val_main_v32, val_main_v29, v27_eq]
  pointwise [val_main_v28, val_main_cst_4, val_main_v2]
  rfl
theorem v22_at (i : S2048x2x4x352.Idx) : val_main_v22 (F := Ideal) x1 x2 x3 x4 i
    = (val_main_v19 (F := Ideal) x1 x2 x3 i * sig (val_main_v19 (F := Ideal) x1 x2 x3 i)) * val_main_v21 (F := Ideal) x1 x2 x4 i := by
  idx_vars i
  rw [val_main_v22, val_main_v20_0]
  generalize val_main_v21 (F := Ideal) x1 x2 x4 = y
  pointwise [val_main_v20_2, val_main_call0_v4, val_main_call0_v3,val_main_call0_v6, val_main_call0_v2, val_main_call0_v1, val_main_call0_v0, val_main_call0_cst, val_main_call0_cst_0, val_main_call0_cst_1]
  rfl
theorem v33_at (s : Fin 2048) (c : Fin 2) (e : Fin 4) (p : Fin 352) : val_main_v33 (F := Ideal) x0 x1 x2 x3 x5 (ix4 s c e p)
    = (val_main_v19 (F := Ideal) x1 x2 x3 (ix4 s c e p) * sig (val_main_v19 (F := Ideal) x1 x2 x3 (ix4 s c e p))) * val_main_v32 (F := Ideal) x0 x5 (ix4 s c e p) := by
  rw [val_main_v33, val_main_v20_0]
  generalize val_main_v32 (F := Ideal) x0 x5 = y
  pointwise [val_main_v20_2, val_main_call0_v4, val_main_call0_v3,val_main_call0_v6, val_main_call0_v2, val_main_call0_v1, val_main_call0_v0, val_main_call0_cst, val_main_call0_cst_0, val_main_call0_cst_1]
  rfl
theorem v37_at (s : Fin 2048) (c : Fin 2) (e : Fin 4) (p : Fin 352) : val_main_v37 (F := Ideal) x0 x1 x2 x3 x4 x5 (ix4 s c e p)
    = (val_main_v32 (F := Ideal) x0 x5 (ix4 s c e p) * val_main_v21 (F := Ideal) x1 x2 x4 (ix4 s c e p)) * sig (val_main_v19 (F := Ideal) x1 x2 x3 (ix4 s c e p))
      + val_main_v19 (F := Ideal) x1 x2 x3 (ix4 s c e p) * (val_main_v32 (F := Ideal) x0 x5 (ix4 s c e p) * val_main_v21 (F := Ideal) x1 x2 x4 (ix4 s c e p))
        * (sig (val_main_v19 (F := Ideal) x1 x2 x3 (ix4 s c e p)) * (1 - sig (val_main_v19 (F := Ideal) x1 x2 x3 (ix4 s c e p)))) := by
  rw [val_main_v37, val_main_call1_v2, val_main_call1_v1, val_main_call1_v0, val_main_v34, val_main_v20_1, val_main_call0_v7]
  generalize val_main_v32 (F := Ideal) x0 x5 = y
  generalize val_main_v21 (F := Ideal) x1 x2 x4 = y
  pointwise [val_main_v20_2, val_main_call0_v4, val_main_call0_v3,val_main_call0_v6, val_main_call0_v2, val_main_call0_v1, val_main_call0_v0, val_main_call0_cst, val_main_call0_cst_0, val_main_call0_cst_1]
  rfl
theorem v64_at (c : Fin 2) (e : Fin 4) (p : Fin 352) (d : Fin 1024) : val_main_v64 (F := Ideal) x0 x1 x2 x3 x4 x5 (ix4 c e p d)
    = ∑ s : Fin 2048, val_main_v37 (F := Ideal) x0 x1 x2 x3 x4 x5 (ix4 s c e p) * val_main_v18 (F := Ideal) x1 x2 (ix2 s d) := by
  rw [val_main_v64, val_main_v38]
  generalize val_main_v37 (F := Ideal) x0 x1 x2 x3 x4 x5 = y
  generalize val_main_v18 (F := Ideal) x1 x2 = y
  pointwise []
theorem v63_at (c : Fin 2) (e : Fin 4) (p : Fin 352) (d : Fin 1024) : val_main_v63 (F := Ideal) x0 x1 x2 x3 x5 (ix4 c e p d)
    = ∑ s : Fin 2048, val_main_v33 (F := Ideal) x0 x1 x2 x3 x5 (ix4 s c e p) * val_main_v18 (F := Ideal) x1 x2 (ix2 s d) := by
  rw [val_main_v63, val_main_v35]
  generalize val_main_v33 (F := Ideal) x0 x1 x2 x3 x5 = y
  generalize val_main_v18 (F := Ideal) x1 x2 = y
  pointwise []
theorem v62_at (c : Fin 2) (e : Fin 4) (p : Fin 352) (d : Fin 1024) : val_main_v62 (F := Ideal) x0 x1 x2 x3 x4 (ix4 c e p d)
    = ∑ s : Fin 2048, hf * x0 (ix2 s d) * val_main_v22 (F := Ideal) x1 x2 x3 x4 (ix4 s c e p) := by
  rw [val_main_v62, val_main_v31, val_main_v30, val_main_v29, v27_eq]
  generalize val_main_v22 (F := Ideal) x1 x2 x3 x4 = y
  pointwise [val_main_v28, val_main_cst_4, val_main_v2]
  rfl
theorem v40_at (i : S2048x1024.Idx) : val_main_v40 (F := Ideal) x0 x1 x2 x3 x4 x5 i
    = val_main_v36 (F := Ideal) x0 x1 x2 x3 x4 x5 i + val_main_v39 (F := Ideal) x0 x1 x2 x3 x4 x5 i := by
  rw [val_main_v40]
  rfl
theorem v9_at (s : Fin 2048) : val_main_v9 (F := Ideal) x1 (ix2 s 0) = vr (fun j => x1 (ix2 s j)) := by
  pointwise [val_main_v9, val_main_v8,val_main_v7, val_main_v6, val_main_v5, val_main_v4, val_main_v3, val_main_cst, val_main_cst_0, val_main_cst_1]
  rfl
theorem v18_at (s : Fin 2048) (d : Fin 1024) : val_main_v18 (F := Ideal) x1 x2 (ix2 s d)
    = x1 (ix2 s d) * Ideal.rsqrt (vr (fun j => x1 (ix2 s j))) * x2 (ix1 d) := by
  pointwise [val_main_v18, val_main_v17, val_main_v16, val_main_v15, val_main_v14, val_main_v10]
  rw [v9_at]
theorem v65_at (d : Fin 1024) : val_main_v65 (F := Ideal) x0 x1 x2 x3 x4 x5 (ix2 0 d)
    = ∑ s : Fin 2048, x1 (ix2 s d) * Ideal.rsqrt (vr (fun j => x1 (ix2 s j))) * val_main_v40 (F := Ideal) x0 x1 x2 x3 x4 x5 (ix2 s d) := by
  rw [val_main_v65, val_main_v46, val_main_v43, val_main_v42, val_main_v41]
  generalize val_main_v40 (F := Ideal) x0 x1 x2 x3 x4 x5 = y
  pointwise [val_main_v15, val_main_v14, val_main_v10, val_main_v9, val_main_v8,val_main_v7, val_main_v6, val_main_v5, val_main_v4, val_main_v3, val_main_cst, val_main_cst_0, val_main_cst_1, val_main_cst_2, val_main_cst_6, val_main_cst_5]
  exact (Fin.sum_univ_one _).trans rfl
theorem v61_at (s : Fin 2048) (d : Fin 1024) : val_main_v61 (F := Ideal) x0 x1 x2 x3 x4 x5 (ix2 s d)
    = x0 (ix2 s d) + val_main_v40 (F := Ideal) x0 x1 x2 x3 x4 x5 (ix2 s d) * x2 (ix1 d) * Ideal.rsqrt (vr (fun j => x1 (ix2 s j)))
      + x1 (ix2 s d) * back x0 x1 x2 x3 x4 x5 s + back x0 x1 x2 x3 x4 x5 s * x1 (ix2 s d) := by
  rw [val_main_v61]
  pointwise [val_main_v60,val_main_v59,val_main_v58,val_main_v57,val_main_v56,val_main_v55,val_main_v54,val_main_v53,val_main_v52,val_main_v51,val_main_v50,val_main_v49,val_main_v48,val_main_v47,val_main_v45,val_main_v44,val_main_v16, val_main_v13, val_main_v12, val_main_v11, val_main_v10, val_main_cst_9, val_main_cst_8, val_main_cst_7, val_main_cst_2]
  rw [Fin.sum_univ_one, v9_at]
  rfl
end Cert.ReferenceIdeal.Hand
-- ==== Proof.Host.lean ====
module

public import proofs.«01_k».proof.Proof.Gen.KernelIdeal.Frame
public import proofs.«01_k».proof.Proof.Ref
public import Idealize.ShloMosaic.Lib.Claim
public import Idealize.ShloMosaic.Lib.Pipeline.ValueKit

@[expose] public section

set_option maxRecDepth 16384
noncomputable section
open Idealize.ShloMosaic Idealize.ShloMosaic.TcCoe Idealize.SL.Sem
namespace Cert.KernelIdeal.Hand
open Cert.KernelIdeal Cert.KernelIdeal.Gen Cert.ReferenceIdeal.Read
open Cert.ReferenceIdeal.Hand (kc kp)

variable (m : (ℓ : Loc nD τ sig) → Buf (Elt Ideal) ℓ) (c : Dev nD)

abbrev saved (h : FVec Ideal S2048x1024 .f32) (wg wu : FVec Ideal S2x4x352x1024 .bf16) : FVec Ideal S4x2x2048x704 .bf16 :=
  truncf .bf16 (concatenate S4x2x2048x704 1 [
    ⟨S4x1x2048x704, broadcastInDim S4x1x2048x704 ![0, 2, 3] bcast_S4x2048x704_S4x1x2048x704_0_2_3
      (shapeCast S4x2048x704 (transpose S4x2048x2x352 [1, 3, 0, 2]
        (Host.dotGeneral dot_S2x4x352x1024_S2048x1024_S2x4x352x2048_3_1_012_0_n_n none (extf .f32 wg bitsLt_bf16_f32) h)
        transposes_S2x4x352x2048_S4x2048x2x352_1_3_0_2) shapeCasts_S4x2048x2x352_S4x2048x704)⟩,
    ⟨S4x1x2048x704, broadcastInDim S4x1x2048x704 ![0, 2, 3] bcast_S4x2048x704_S4x1x2048x704_0_2_3
      (shapeCast S4x2048x704 (transpose S4x2048x2x352 [1, 3, 0, 2]
        (Host.dotGeneral dot_S2x4x352x1024_S2048x1024_S2x4x352x2048_3_1_012_0_n_n none (extf .f32 wu bitsLt_bf16_f32) h)
        transposes_S2x4x352x2048_S4x2048x2x352_1_3_0_2) shapeCasts_S4x2048x2x352_S4x2048x704)⟩]
    concatenates_S4x1x2048x704_S4x1x2048x704_S4x2x2048x704_d1) bitsLt_bf16_f32
theorem saved_gate (h : FVec Ideal S2048x1024 .f32) (wg wu : FVec Ideal S2x4x352x1024 .bf16) (e : Fin 4) (s : Fin 2048) (k : Fin 704) :
    saved h wg wu (ix4 e 0 s k) = ∑ j : Fin 1024, wg (ix4 (kc k) e (kp k) j) * h (ix2 s j) := by
  pointwise [saved]
  rfl
theorem saved_up (h : FVec Ideal S2048x1024 .f32) (wg wu : FVec Ideal S2x4x352x1024 .bf16) (e : Fin 4) (s : Fin 2048) (k : Fin 704) :
    saved h wg wu (ix4 e 1 s k) = ∑ j : Fin 1024, wu (ix4 (kc k) e (kp k) j) * h (ix2 s j) := by
  pointwise [saved]
  rfl

/-! The arguments of the program. -/
abbrev A0 : FVec Ideal S2048x1024 .f32 := m ((c : Thread nD τ).loc main_arg0)
abbrev A1 : FVec Ideal S2048x1024 .f32 := m ((c : Thread nD τ).loc main_arg1)
abbrev A2 : FVec Ideal S1024 .f32 := m ((c : Thread nD τ).loc main_arg2)
abbrev A3 : FVec Ideal S2x4x352x1024 .bf16 := m ((c : Thread nD τ).loc main_arg3)
abbrev A4 : FVec Ideal S2x4x352x1024 .bf16 := m ((c : Thread nD τ).loc main_arg4)
abbrev A5 : FVec Ideal S2x4x352x1024 .bf16 := m ((c : Thread nD τ).loc main_arg5)

theorem v26_at (d : Fin 1024) : (V m c main_v26 : FVec Ideal S1x1024 .f32) (ix2 0 d) = A2 m c (ix1 d) := by
  entry_read
  pointwise []
theorem v24_eq : (V m c main_v24 : FVec Ideal S2048x1024 .bf16) = val_main_v18 (F := Ideal) (A1 m c) (A2 m c) := by
  entry_read
  rfl
/-- The saved products, from the normalised rows and the two weights. -/
theorem v25_eq : (V m c main_v25 : FVec Ideal S4x2x2048x704 .bf16)
    = saved (val_main_v18 (F := Ideal) (A1 m c) (A2 m c)) (A3 m c) (A4 m c) := by
  entry_read
  rfl
theorem gate_at (e : Fin 4) (s : Fin 2048) (k : Fin 704) : (V m c main_v25 : FVec Ideal S4x2x2048x704 .bf16) (ix4 e 0 s k)
    = val_main_v19 (F := Ideal) (A1 m c) (A2 m c) (A3 m c) (ix4 s (kc k) e (kp k)) := by
  rw [v25_eq, saved_gate, val_main_v19]
  generalize val_main_v18 (F := Ideal) (A1 m c) (A2 m c) = h
  symm
  pointwise [val_main_v0]
  exact Finset.sum_congr (M := EReal) rfl fun j _ => mul_comm (G := EReal) _ _
theorem up_at (e : Fin 4) (s : Fin 2048) (k : Fin 704) : (V m c main_v25 : FVec Ideal S4x2x2048x704 .bf16) (ix4 e 1 s k)
    = val_main_v21 (F := Ideal) (A1 m c) (A2 m c) (A4 m c) (ix4 s (kc k) e (kp k)) := by
  rw [v25_eq, saved_up, val_main_v21]
  generalize val_main_v18 (F := Ideal) (A1 m c) (A2 m c) = h
  symm
  pointwise [val_main_v1]
  exact Finset.sum_congr (M := EReal) rfl fun j _ => mul_comm (G := EReal) _ _
end Cert.KernelIdeal.Hand
-- ==== Proof.Blocks.lean ====
module

public import proofs.«01_k».proof.Proof.Body
public import proofs.«01_k».proof.Proof.Host
public import Idealize.ShloMosaic.Lib.Pipeline.ValueKit

@[expose] public section

set_option maxRecDepth 16384
noncomputable section
open Idealize.ShloMosaic Idealize.ShloMosaic.TcCoe Idealize.SL.Sem
namespace Cert.KernelIdeal.Hand
open Cert.KernelIdeal Cert.KernelIdeal.Gen Cert.ReferenceIdeal.Read
open Cert.ReferenceIdeal.Hand (hf vr kc kp)

variable (m : (ℓ : Loc nD τ sig) → Buf (Elt Ideal) ℓ) (c : Dev nD)

/-! # The blocks of a point, as entries of the arrays -/

theorem idx : ∀ t : Fin cfg0.N, win0_0.index t = ![t.val % 4, 0] ∧ win0_1.index t = ![t.val % 4, 0]
    ∧ win0_2.index t = ![if t.val < 12 then 0 else t.val % 4, 0] ∧ win0_3.index t = ![0, 0]
    ∧ win0_4.index t = ![t.val / 4, 0, t.val % 4, 0] ∧ win0_5.index t = ![0, t.val / 4, 0, 0]
    ∧ win0_6.index t = ![0, t.val / 4, 0, 0] ∧ win0_7.index t = ![0, t.val / 4, 0, 0] :=
  (by decide +kernel : ∀ t : Fin grid0.N, _)
theorem idxo : ∀ t : Fin cfg0.N, win0_8.index t = ![if t.val < 12 then 0 else t.val % 4, 0] ∧ win0_9.index t = ![0, 0]
    ∧ win0_10.index t = ![0, t.val / 4, 0, 0] ∧ win0_11.index t = ![0, t.val / 4, 0, 0] ∧ win0_12.index t = ![0, t.val / 4, 0, 0] :=
  (by decide +kernel : ∀ t : Fin grid0.N, _)

/-- The row of the arrays at row `R` of a point's blocks, and the point's shard. -/
def row (n : ℕ) (R : Fin 512) : Fin 2048 := ⟨512 * (n % 4) + R.val, by omega⟩
def sh (n : ℕ) : Fin 4 := ⟨n % 16 / 4, by omega⟩

theorem b0_at (n : ℕ) (R : Fin 512) (d : Fin 1024) : (b0 m c n : FVec Ideal S512x1024 .f32) (ix2 R d) = A0 m c (ix2 (row n R) d) := by
  have hp : (pt n).val = n % 16 := rfl
  blk_ext [b0, iblk, V, idx (pt n), hp, row]
theorem b1_at (n : ℕ) (R : Fin 512) (d : Fin 1024) : (b1 m c n : FVec Ideal S512x1024 .bf16) (ix2 R d)
    = val_main_v18 (F := Ideal) (A1 m c) (A2 m c) (ix2 (row n R) d) := by
  have hp : (pt n).val = n % 16 := rfl
  rw [← v24_eq]
  blk_ext [b1, iblk, idx (pt n), hp, row]
theorem b2_at (n : ℕ) (hn : 12 ≤ n % 16) (R : Fin 512) (d : Fin 1024) : (b2 m c n : FVec Ideal S512x1024 .f32) (ix2 R d) = A1 m c (ix2 (row n R) d) := by
  have hp : (pt n).val = n % 16 := rfl
  have h12 : ¬ (pt n).val < 12 := by omega
  blk_ext [b2, iblk, V, idx (pt n), hp, row]
  rw [if_neg (by omega)]
  omega
theorem b3_at (n : ℕ) (d : Fin 1024) : (b3 m c n : FVec Ideal S1x1024 .f32) (ix2 0 d) = A2 m c (ix1 d) := by
  rw [← v26_at]
  blk_ext [b3, iblk, idx (pt n)]
theorem b4g_at (n : ℕ) (R : Fin 512) (k : Fin 704) : (b4 m c n : FVec Ideal S1x2x512x704 .bf16) (ix4 0 0 R k)
    = val_main_v19 (F := Ideal) (A1 m c) (A2 m c) (A3 m c) (ix4 (row n R) (kc k) (sh n) (kp k)) := by
  have hp : (pt n).val = n % 16 := rfl
  refine Eq.trans ?_ (gate_at m c (sh n) (row n R) k)
  blk_ext [b4, iblk, idx (pt n), hp, row, sh]
theorem b4u_at (n : ℕ) (R : Fin 512) (k : Fin 704) : (b4 m c n : FVec Ideal S1x2x512x704 .bf16) (ix4 0 1 R k)
    = val_main_v21 (F := Ideal) (A1 m c) (A2 m c) (A4 m c) (ix4 (row n R) (kc k) (sh n) (kp k)) := by
  have hp : (pt n).val = n % 16 := rfl
  refine Eq.trans ?_ (up_at m c (sh n) (row n R) k)
  blk_ext [b4, iblk, idx (pt n), hp, row, sh]
theorem b5_at (n : ℕ) (x : Fin 2) (p : Fin 352) (d : Fin 1024) : (b5 m c n : FVec Ideal S2x1x352x1024 .bf16) (ix4 x 0 p d) = A3 m c (ix4 x (sh n) p d) := by
  have hp : (pt n).val = n % 16 := rfl
  blk_ext [b5, iblk, V, idx (pt n), hp, sh]
theorem b6_at (n : ℕ) (x : Fin 2) (p : Fin 352) (d : Fin 1024) : (b6 m c n : FVec Ideal S2x1x352x1024 .bf16) (ix4 x 0 p d) = A4 m c (ix4 x (sh n) p d) := by
  have hp : (pt n).val = n % 16 := rfl
  blk_ext [b6, iblk, V, idx (pt n), hp, sh]
theorem b7_at (n : ℕ) (x : Fin 2) (p : Fin 352) (d : Fin 1024) : (b7 m c n : FVec Ideal S2x1x352x1024 .bf16) (ix4 x 0 p d) = A5 m c (ix4 x (sh n) p d) := by
  have hp : (pt n).val = n % 16 := rfl
  blk_ext [b7, iblk, V, idx (pt n), hp, sh]
end Cert.KernelIdeal.Hand
-- ==== Proof.Half.lean ====
module

public import proofs.«01_k».proof.Proof.Steps
public import proofs.«01_k».proof.Proof.Ref
public import Idealize.ShloMosaic.Lib.Pipeline.ValueKit

@[expose] public section

set_option maxRecDepth 16384
noncomputable section
open Idealize.ShloMosaic Idealize.ShloMosaic.TcCoe Idealize.SL.Sem
namespace Cert.KernelIdeal.Hand
open Cert.KernelIdeal Cert.KernelIdeal.Gen
open Cert.ReferenceIdeal.Hand (hf vr kc kp)

/-- The sigmoid as the kernel computes it. -/
def sgm (g : EReal) : EReal := Ideal.div 1 (1 + Ideal.exp (0 - g))
theorem sgm_eq (g : EReal) : sgm g = Cert.ReferenceIdeal.Hand.sig g := by rw [sgm, Cert.ReferenceIdeal.Hand.sig, zero_sub]

theorem sum512 (f : Fin 512 → EReal) :
    ∑ R, f R = ∑ r : Fin 256, f ⟨r.val, by omega⟩ + ∑ r : Fin 256, f ⟨256 + r.val, by omega⟩ :=
  Fin.sum_univ_add (a := 256) (b := 256) f

/-! Rows of a block, a half at a time. -/
theorem ldA2 {e : EltTy} (X : Vec Ideal S512x1024 e) : (View.ld X rA2 : Vec Ideal S256x1024 e)
    = fun y => X (ix2 ⟨(y 0).val, by have : (y 0).val < 256 := (y 0).isLt; omega⟩ (y 1)) := by
  funext y
  refine View.ld_unit_apply_of X _ _ _ _ _ fun a => ?_
  fin_cases a <;> simp
theorem ldB2 {e : EltTy} (X : Vec Ideal S512x1024 e) : (View.ld X rB2 : Vec Ideal S256x1024 e)
    = fun y => X (ix2 ⟨256 + (y 0).val, by have : (y 0).val < 256 := (y 0).isLt; omega⟩ (y 1)) := by
  funext y
  refine View.ld_unit_apply_of X _ _ _ _ _ fun a => ?_
  fin_cases a <;> simp
theorem ldAg {e : EltTy} (X : Vec Ideal S1x2x512x704 e) : (View.ld X rAg : Vec Ideal S1x1x256x704 e)
    = fun y => X (ix4 0 0 ⟨(y 2).val, by have : (y 2).val < 256 := (y 2).isLt; omega⟩ (y 3)) := by
  funext y
  refine View.ld_unit_apply_of X _ _ _ _ _ fun a => ?_
  have h0 : (y 0).val = 0 := by have : (y 0).val < 1 := (y 0).isLt; omega
  have h1 : (y 1).val = 0 := by have : (y 1).val < 1 := (y 1).isLt; omega
  fin_cases a <;> simp [h0, h1]
theorem ldAu {e : EltTy} (X : Vec Ideal S1x2x512x704 e) : (View.ld X rAu : Vec Ideal S1x1x256x704 e)
    = fun y => X (ix4 0 1 ⟨(y 2).val, by have : (y 2).val < 256 := (y 2).isLt; omega⟩ (y 3)) := by
  funext y
  refine View.ld_unit_apply_of X _ _ _ _ _ fun a => ?_
  have h0 : (y 0).val = 0 := by have : (y 0).val < 1 := (y 0).isLt; omega
  have h1 : (y 1).val = 0 := by have : (y 1).val < 1 := (y 1).isLt; omega
  fin_cases a <;> simp [h0, h1]
theorem ldBg {e : EltTy} (X : Vec Ideal S1x2x512x704 e) : (View.ld X rBg : Vec Ideal S1x1x256x704 e)
    = fun y => X (ix4 0 0 ⟨256 + (y 2).val, by have : (y 2).val < 256 := (y 2).isLt; omega⟩ (y 3)) := by
  funext y
  refine View.ld_unit_apply_of X _ _ _ _ _ fun a => ?_
  have h0 : (y 0).val = 0 := by have : (y 0).val < 1 := (y 0).isLt; omega
  have h1 : (y 1).val = 0 := by have : (y 1).val < 1 := (y 1).isLt; omega
  fin_cases a <;> simp [h0, h1]
theorem ldBu {e : EltTy} (X : Vec Ideal S1x2x512x704 e) : (View.ld X rBu : Vec Ideal S1x1x256x704 e)
    = fun y => X (ix4 0 1 ⟨256 + (y 2).val, by have : (y 2).val < 256 := (y 2).isLt; omega⟩ (y 3)) := by
  funext y
  refine View.ld_unit_apply_of X _ _ _ _ _ fun a => ?_
  have h0 : (y 0).val = 0 := by have : (y 0).val < 1 := (y 0).isLt; omega
  have h1 : (y 1).val = 0 := by have : (y 1).val < 1 := (y 1).isLt; omega
  fin_cases a <;> simp [h0, h1]

/-! ## What each half adds -/

/-- The cotangent of the gated product at row `r` and column `k`. -/
abbrev dAt {n : ℕ} (dx : Fin n → Fin 1024 → EReal) (wd : FVec Ideal S2x1x352x1024 .bf16) (r : Fin n) (k : Fin 704) : EReal :=
  hf * ∑ j : Fin 1024, dx r j * wd (ix4 (kc k) 0 (kp k) j)
/-- The derivative of `g · sigmoid g`. -/
abbrev dsilu (g : EReal) : EReal := sgm g * (1 + g * (1 - sgm g))

theorem addDown_at (dx : FVec Ideal S256x1024 .f32) (g u : FVec Ideal S1x1x256x704 .bf16) (o : FVec Ideal S1x704x1024 .f32) (k : Fin 704) (d : Fin 1024) :
    addDown (F := Ideal) dx g u o (ix3 0 k d)
      = o (ix3 0 k d) + ∑ r : Fin 256, hf * (g (ix4 0 0 r k) * sgm (g (ix4 0 0 r k))) * u (ix4 0 0 r k) * dx (ix2 r d) := by
  pointwise [addDown, k0_pay12, k0_pay15, k0_pay17, k0_pay14, k0_pay16, k0_pay18, k0_pay19]
  rfl
theorem addGate_at (dx : FVec Ideal S256x1024 .f32) (h : FVec Ideal S256x1024 .bf16) (g u : FVec Ideal S1x1x256x704 .bf16) (wd : FVec Ideal S2x1x352x1024 .bf16) (o : FVec Ideal S1x704x1024 .f32) (k : Fin 704) (d : Fin 1024) :
    addGate (F := Ideal) dx h g u wd o (ix3 0 k d)
      = o (ix3 0 k d) + ∑ r : Fin 256, dAt (fun r j => dx (ix2 r j)) wd r k * u (ix4 0 0 r k) * dsilu (g (ix4 0 0 r k)) * h (ix2 r d) := by
  pointwise [addGate, k0_pay12, k0_pay13, k0_pay15, k0_pay17, k0_pay14, k0_pay16, k0_pay18, k0_pay20, k0_pay21, k0_pay22]
  rfl
theorem addUp_at (dx : FVec Ideal S256x1024 .f32) (h : FVec Ideal S256x1024 .bf16) (g : FVec Ideal S1x1x256x704 .bf16) (wd : FVec Ideal S2x1x352x1024 .bf16) (o : FVec Ideal S1x704x1024 .f32) (k : Fin 704) (d : Fin 1024) :
    addUp (F := Ideal) dx h g wd o (ix3 0 k d)
      = o (ix3 0 k d) + ∑ r : Fin 256, dAt (fun r j => dx (ix2 r j)) wd r k * (g (ix4 0 0 r k) * sgm (g (ix4 0 0 r k))) * h (ix2 r d) := by
  pointwise [addUp, k0_pay12, k0_pay13, k0_pay15, k0_pay17, k0_pay14, k0_pay16, k0_pay18, k0_pay20, k0_pay23, k0_pay25]
  rfl
theorem addRowsG_at (dx : FVec Ideal S256x1024 .f32) (g u : FVec Ideal S1x1x256x704 .bf16) (wg wd : FVec Ideal S2x1x352x1024 .bf16) (o : FVec Ideal S256x1024 .f32) (r : Fin 256) (d : Fin 1024) :
    addRowsG (F := Ideal) dx g u wg wd o (ix2 r d)
      = o (ix2 r d) + ∑ k : Fin 704, dAt (fun r j => dx (ix2 r j)) wd r k * u (ix4 0 0 r k) * dsilu (g (ix4 0 0 r k)) * wg (ix4 (kc k) 0 (kp k) d) := by
  pointwise [addRowsG, k0_pay12, k0_pay13, k0_pay15, k0_pay17, k0_pay14, k0_pay16, k0_pay18, k0_pay20, k0_pay21, k0_pay24]
  rfl
theorem addRowsU_at (dx : FVec Ideal S256x1024 .f32) (g : FVec Ideal S1x1x256x704 .bf16) (wu wd : FVec Ideal S2x1x352x1024 .bf16) (o : FVec Ideal S256x1024 .f32) (r : Fin 256) (d : Fin 1024) :
    addRowsU (F := Ideal) dx g wu wd o (ix2 r d)
      = o (ix2 r d) + ∑ k : Fin 704, dAt (fun r j => dx (ix2 r j)) wd r k * (g (ix4 0 0 r k) * sgm (g (ix4 0 0 r k))) * wu (ix4 (kc k) 0 (kp k) d) := by
  pointwise [addRowsU, k0_pay12, k0_pay13, k0_pay15, k0_pay17, k0_pay14, k0_pay16, k0_pay18, k0_pay20, k0_pay23, k0_pay26]
  rfl

/-! ## What each step adds -/
section
variable (x2 : FVec Ideal S512x1024 .f32) (x3 : FVec Ideal S512x1024 .bf16) (x6 : FVec Ideal S1x2x512x704 .bf16)
  (x7 x8 x9 : FVec Ideal S2x1x352x1024 .bf16) (o : FVec Ideal S1x704x1024 .f32) (k : Fin 704) (d : Fin 1024)

/-- The cotangents of the gate's and of the up projection at row `R`. -/
def dGt (R : Fin 512) (k : Fin 704) : EReal :=
  dAt (fun R j => x2 (ix2 R j)) x9 R k * x6 (ix4 0 1 R k) * dsilu (x6 (ix4 0 0 R k))
def dUp (R : Fin 512) (k : Fin 704) : EReal :=
  dAt (fun R j => x2 (ix2 R j)) x9 R k * (x6 (ix4 0 0 R k) * sgm (x6 (ix4 0 0 R k)))

theorem stepDown_at : stepDown (F := Ideal) x2 x6 o (ix3 0 k d)
    = o (ix3 0 k d) + ∑ R : Fin 512, hf * (x6 (ix4 0 0 R k) * sgm (x6 (ix4 0 0 R k))) * x6 (ix4 0 1 R k) * x2 (ix2 R d) := by
  rw [stepDown, ldA2, ldB2, ldAg, ldAu, ldBg, ldBu, addDown_at, addDown_at, sum512, ← add_assoc]
  rfl
theorem stepGate_at : stepGate (F := Ideal) x2 x3 x6 x9 o (ix3 0 k d)
    = o (ix3 0 k d) + ∑ R : Fin 512, dGt x2 x6 x9 R k * x3 (ix2 R d) := by
  rw [stepGate, ldA2, ldB2, ldA2, ldB2, ldAg, ldAu, ldBg, ldBu, addGate_at, addGate_at, sum512, ← add_assoc]
  rfl
theorem stepUp_at : stepUp (F := Ideal) x2 x3 x6 x9 o (ix3 0 k d)
    = o (ix3 0 k d) + ∑ R : Fin 512, dUp x2 x6 x9 R k * x3 (ix2 R d) := by
  rw [stepUp, ldA2, ldB2, ldA2, ldB2, ldAg, ldBg, addUp_at, addUp_at, sum512, ← add_assoc]
  rfl
theorem stepRowsA_at (o : FVec Ideal S256x1024 .f32) (r : Fin 256) : stepRowsA (F := Ideal) x2 x6 x7 x8 x9 o (ix2 r d)
    = o (ix2 r d) + ∑ k : Fin 704, dGt x2 x6 x9 ⟨r.val, by omega⟩ k * x7 (ix4 (kc k) 0 (kp k) d)
      + ∑ k : Fin 704, dUp x2 x6 x9 ⟨r.val, by omega⟩ k * x8 (ix4 (kc k) 0 (kp k) d) := by
  rw [stepRowsA, ldA2, ldAg, ldAu, addRowsU_at, addRowsG_at]
  rfl
theorem stepRowsB_at (o : FVec Ideal S256x1024 .f32) (r : Fin 256) : stepRowsB (F := Ideal) x2 x6 x7 x8 x9 o (ix2 r d)
    = o (ix2 r d) + ∑ k : Fin 704, dGt x2 x6 x9 ⟨256 + r.val, by omega⟩ k * x7 (ix4 (kc k) 0 (kp k) d)
      + ∑ k : Fin 704, dUp x2 x6 x9 ⟨256 + r.val, by omega⟩ k * x8 (ix4 (kc k) 0 (kp k) d) := by
  rw [stepRowsB, ldB2, ldBg, ldBu, addRowsU_at, addRowsG_at]
  rfl
end

/-! ## The outputs of a block -/
theorem pay2_at (o : FVec Ideal S1x704x1024 .f32) (c : Fin 2) (p : Fin 352) (d : Fin 1024) :
    k0_pay2 (F := Ideal) o (ix4 c 0 p d) = o (ix3 0 ⟨c.val * 352 + p.val, by omega⟩ d) := by
  pointwise [k0_pay2]
theorem pay3_at (o : FVec Ideal S1x704x1024 .f32) (c : Fin 2) (p : Fin 352) (d : Fin 1024) :
    k0_pay3 (F := Ideal) o (ix4 c 0 p d) = o (ix3 0 ⟨c.val * 352 + p.val, by omega⟩ d) := by
  pointwise [k0_pay3]
theorem pay4_at (o : FVec Ideal S1x704x1024 .f32) (c : Fin 2) (p : Fin 352) (d : Fin 1024) :
    k0_pay4 (F := Ideal) o (ix4 c 0 p d) = o (ix3 0 ⟨c.val * 352 + p.val, by omega⟩ d) := by
  pointwise [k0_pay4]
theorem pay5_at (a b : FVec Ideal S1x1024 .f32) (d : Fin 1024) :
    k0_pay5 (F := Ideal) a b (ix2 0 d) = b (ix2 0 d) + a (ix2 0 d) := by
  pointwise [k0_pay5]
/-- A row's reciprocal root mean square, as the kernel computes it. -/
abbrev rK (x : Fin 1024 → EReal) : EReal :=
  Ideal.rsqrt (vr x)
theorem pay9_at (y x : FVec Ideal S512x1024 .f32) (d : Fin 1024) :
    k0_pay9 (F := Ideal) y x (ix2 0 d) = ∑ R : Fin 512, y (ix2 R d) * (x (ix2 R d) * rK (fun j => x (ix2 R j))) := by
  pointwise [k0_pay9, k0_pay7, k0_pay6]
  rfl
theorem pay8_at (y x : FVec Ideal S512x1024 .f32) (w : FVec Ideal S1x1024 .f32) (dx : FVec Ideal S512x1024 .f32) (R : Fin 512) (d : Fin 1024) :
    k0_pay8 (F := Ideal) y x w dx (ix2 R d) = dx (ix2 R d) + rK (fun j => x (ix2 R j)) * (y (ix2 R d) * w (ix2 0 d)
      - x (ix2 R d) * rK (fun j => x (ix2 R j))
        * Ideal.div (∑ j, y (ix2 R j) * w (ix2 0 j) * (x (ix2 R j) * rK (fun j => x (ix2 R j)))) (Ideal.ofBits FTy.f32 0x44800000#32)) := by
  pointwise [k0_pay8, k0_pay7, k0_pay6]
  rfl
end Cert.KernelIdeal.Hand
-- ==== Proof.Finite.lean ====
module

public import proofs.«01_k».proof.Proof.Ref
public import Idealize.ShloMosaic.Lib.IdealHost

@[expose] public section

set_option maxRecDepth 16384
noncomputable section
open Idealize.ShloMosaic
namespace Cert.ReferenceIdeal.Hand

/-! # Finite extended reals, and the identities that hold among them -/

/-- A finite extended real. -/
def Fi (x : EReal) : Prop := ∃ r : ℝ, x = (r : EReal)

theorem Fi.add {x y : EReal} : Fi x → Fi y → Fi (x + y) := by
  rintro ⟨a, rfl⟩ ⟨b, rfl⟩; exact ⟨a + b, (EReal.coe_add a b).symm⟩
theorem Fi.mul {x y : EReal} : Fi x → Fi y → Fi (x * y) := by
  rintro ⟨a, rfl⟩ ⟨b, rfl⟩; exact ⟨a * b, (EReal.coe_mul a b).symm⟩
theorem coe_sum' {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]
theorem Fi.sum {ι : Type} (s : Finset ι) (f : ι → EReal) (h : ∀ i, Fi (f i)) : Fi (∑ i ∈ s, f i) := by
  choose g hg using h
  exact ⟨∑ i ∈ s, g i, by rw [← coe_sum']; exact Finset.sum_congr rfl fun i _ => hg i⟩

theorem hf_eq : hf = (((1 : ℝ) / 2 : ℝ) : EReal) := by
  simp [hf, Ideal.ofBits, Ideal.ieee, -EReal.coe_mul]; norm_num
theorem n1024 : Ideal.ofBits .f32 0x44800000#32 = ((1024 : ℝ) : EReal) := by
  simp [Ideal.ofBits, Ideal.ieee, -EReal.coe_mul]; norm_num
theorem mhalf : Ideal.ofBits .f32 0xBF000000#32 = ((-((1 : ℝ) / 2) : ℝ) : EReal) := by
  simp [Ideal.ofBits, Ideal.ieee, -EReal.coe_mul, -EReal.coe_neg]; norm_num
theorem eps_pos : ∃ e : ℝ, 0 < e ∧ Ideal.ofBits .f32 0x3727C5AC#32 = (e : EReal) := by
  refine ⟨_, ?_, by simp [Ideal.ofBits, Ideal.ieee, -EReal.coe_mul, -EReal.coe_neg]; rfl⟩
  norm_num
theorem hf_fi : Fi hf := ⟨_, hf_eq⟩

theorem div_real (x : ℝ) {y : ℝ} (h : y ≠ 0) : Ideal.div (x : EReal) (y : EReal) = ((x / y : ℝ) : EReal) := by
  rw [Ideal.div_coe h, ← EReal.coe_mul, mul_one_div]
theorem sig_real (g : ℝ) : Fi (sig (g : EReal)) := by
  refine ⟨1 / (1 + Real.exp (-g)), ?_⟩
  have h : (1 : ℝ) + Real.exp (-g) ≠ 0 := by positivity
  rw [← div_real 1 h, sig, ← EReal.coe_neg, EReal.coe_add]
  rfl
theorem Fi.sig {g : EReal} : Fi g → Fi (sig g) := by
  rintro ⟨a, rfl⟩; exact sig_real a

/-- A finite row's mean square and small constant: a positive real. -/
theorem vr_real (x : Fin 1024 → EReal) (h : ∀ j, Fi (x j)) : ∃ v : ℝ, 0 < v ∧ vr x = (v : EReal) := by
  choose g hg using h
  obtain ⟨e, he, hE⟩ := eps_pos
  refine ⟨(∑ j, g j * g j) / 1024 + e, add_pos_of_nonneg_of_pos (div_nonneg (Finset.sum_nonneg fun j _ => mul_self_nonneg _) (by norm_num)) he, ?_⟩
  unfold vr
  rw [hE, n1024, show (∑ j, x j * x j) = ((∑ j, g j * g j : ℝ) : EReal) by
    rw [← coe_sum']; exact Finset.sum_congr rfl fun j _ => by rw [hg j, EReal.coe_mul], div_real _ (by norm_num), EReal.coe_add]
theorem rsqrt_real {v : ℝ} (h : 0 < v) : Ideal.rsqrt (v : EReal) = (((Real.sqrt v)⁻¹ : ℝ) : EReal) := by
  rw [Ideal.rsqrt_coe, if_neg (not_lt.mpr h.le), if_neg h.ne']
theorem r_fi (x : Fin 1024 → EReal) (h : ∀ j, Fi (x j)) : Fi (Ideal.rsqrt (vr x)) := by
  obtain ⟨v, hv, e⟩ := vr_real x h
  rw [e, rsqrt_real hv]; exact ⟨_, rfl⟩

/-- A finite factor taken into a finite sum. -/
theorem mul_sum_fi {n : ℕ} {c : EReal} (a b : Fin n → EReal) (hc : Fi c) (ha : ∀ j, Fi (a j)) (hb : ∀ j, Fi (b j)) :
    c * ∑ j, a j * b j = ∑ j, c * a j * b j := by
  obtain ⟨c', rfl⟩ := hc
  choose a' ha' using ha
  choose b' hb' using hb
  simp only [ha', hb', ← EReal.coe_mul, coe_sum']
  rw [Finset.mul_sum]
  simp only [mul_assoc]

/-- The derivative of `g · sigmoid g`, in the two forms of the two programs. -/
theorem dsilu_fi {t g : EReal} (ht : Fi t) (hg : Fi g) :
    t * (sig g * (1 + g * (1 - sig g))) = t * sig g + g * t * (sig g * (1 - sig g)) := by
  obtain ⟨s, hs⟩ := hg.sig
  rw [hs]
  obtain ⟨t, rfl⟩ := ht
  obtain ⟨g, rfl⟩ := hg
  have h1 : (1 : EReal) = ((1 : ℝ) : EReal) := rfl
  rw [h1]
  simp only [← EReal.coe_mul, ← EReal.coe_add, ← EReal.coe_sub]
  exact congrArg _ (by ring)

/-- The cotangent of a normalised row, in the two forms of the two programs. -/
theorem norm_fi (x y w : Fin 1024 → EReal) (dx : EReal) (d : Fin 1024) (hx : ∀ j, Fi (x j)) (hy : ∀ j, Fi (y j)) (hw : ∀ j, Fi (w j)) (hdx : Fi dx) :
    dx + Ideal.rsqrt (vr x) * (y d * w d - x d * Ideal.rsqrt (vr x)
        * Ideal.div (∑ j, y j * w j * (x j * Ideal.rsqrt (vr x))) (Ideal.ofBits FTy.f32 0x44800000#32))
      = dx + y d * w d * Ideal.rsqrt (vr x)
        + x d * Ideal.div ((∑ j, x j * (y j * w j)) * (Ideal.ofBits FTy.f32 0xBF000000#32 * Ideal.div (Ideal.rsqrt (vr x)) (vr x))) (Ideal.ofBits FTy.f32 0x44800000#32)
        + Ideal.div ((∑ j, x j * (y j * w j)) * (Ideal.ofBits FTy.f32 0xBF000000#32 * Ideal.div (Ideal.rsqrt (vr x)) (vr x))) (Ideal.ofBits FTy.f32 0x44800000#32) * x d := by
  obtain ⟨v, hv, e⟩ := vr_real x hx
  rw [e, rsqrt_real hv, mhalf, n1024, div_real _ hv.ne']
  have hs : Real.sqrt v * Real.sqrt v = v := Real.mul_self_sqrt hv.le
  have hp : 0 < Real.sqrt v := Real.sqrt_pos.mpr hv
  generalize Real.sqrt v = q at hs hp ⊢
  choose x' hx' using hx
  choose y' hy' using hy
  choose w' hw' using hw
  obtain ⟨dx, rfl⟩ := hdx
  simp only [hx', hy', hw', ← EReal.coe_mul, coe_sum']
  have hk : (1024 : ℝ) ≠ 0 := by norm_num
  simp only [div_real _ hk, ← EReal.coe_mul, ← EReal.coe_add, ← EReal.coe_sub]
  refine congrArg _ ?_
  have h1 : ∑ j, y' j * w' j * (x' j * q⁻¹) = (∑ j, x' j * (y' j * w' j)) * q⁻¹ := by
    rw [Finset.sum_mul]; exact Finset.sum_congr rfl fun j _ => by ring
  rw [h1]
  generalize ∑ j, x' j * (y' j * w' j) = S
  subst hs
  field_simp
  ring
end Cert.ReferenceIdeal.Hand
-- ==== Proof.Sums.lean ====
module

public import proofs.«01_k».proof.Proof.Blocks
public import proofs.«01_k».proof.Proof.Half
public import proofs.«01_k».proof.Proof.Finite

@[expose] public section

set_option maxRecDepth 16384
noncomputable section
open Idealize.ShloMosaic Idealize.ShloMosaic.TcCoe Idealize.SL.Sem
namespace Cert.KernelIdeal.Hand
open Cert.KernelIdeal Cert.KernelIdeal.Gen Cert.ReferenceIdeal.Read
open Cert.ReferenceIdeal.Hand

/-! # The accumulators, as sums over the rows and over the shards -/

/-! ## A sum in parts -/

theorem acc4 (T S : ℕ → EReal) (h : ∀ n, T n = (if n % 4 = 0 then 0 else T (n - 1)) + S n) (n : ℕ) (hn : n % 4 = 3) :
    T n = S (n - 3) + S (n - 2) + S (n - 1) + S n := by
  rw [h n, if_neg (by omega), h (n - 1), if_neg (by omega), h (n - 1 - 1), if_neg (by omega), h (n - 1 - 1 - 1), if_pos (by omega), zero_add]
  rfl

theorem sum2048 (f : Fin 2048 → EReal) (n : ℕ) (hn : n % 4 = 3) :
    ∑ R, f (row (n - 3) R) + ∑ R, f (row (n - 2) R) + ∑ R, f (row (n - 1) R) + ∑ R, f (row n R) = ∑ s, f s := by
  have h1 : ∀ g : Fin 2048 → EReal, ∑ s, g s = ∑ r : Fin 1024, g ⟨r.val, by omega⟩ + ∑ r : Fin 1024, g ⟨1024 + r.val, by omega⟩ :=
    Fin.sum_univ_add (a := 1024) (b := 1024)
  have h2 : ∀ g : Fin 1024 → EReal, ∑ s, g s = ∑ r : Fin 512, g ⟨r.val, by omega⟩ + ∑ r : Fin 512, g ⟨512 + r.val, by omega⟩ :=
    Fin.sum_univ_add (a := 512) (b := 512)
  rw [h1, h2, h2, ← add_assoc]
  refine congrArg₂ (· + ·) (congrArg₂ (· + ·) (congrArg₂ (· + ·) ?_ ?_) ?_) ?_ <;>
    refine Finset.sum_congr rfl fun R _ => congrArg f (Fin.ext ?_) <;> simp only [row] <;> omega

theorem acc4x (T S : ℕ → EReal) (h : ∀ n, T n = (if n < 4 then 0 else T (n - 4)) + S n) (i : ℕ) (hi : i < 4) :
    T (12 + i) = ∑ e : Fin 4, S (4 * e.val + i) := by
  rw [h (12 + i), if_neg (by omega), show 12 + i - 4 = 8 + i by omega, h (8 + i), if_neg (by omega), show 8 + i - 4 = 4 + i by omega,
    h (4 + i), if_neg (by omega), show 4 + i - 4 = i by omega, h i, if_pos hi, zero_add, Fin.sum_univ_four]
  simp

/-! ## The three cotangents of the weights -/

theorem ldq0 (a b o : FVec Ideal S1x704x1024 .f32) (k : Fin 704) (d : Fin 1024) :
    (View.ld (mk3 (F := Ideal) a b o) q0 : Vec Ideal S1x704x1024 .f32) (ix3 0 k d) = a (ix3 0 k d) := by
  refine (View.ld_unit_apply_of (mk3 (F := Ideal) a b o) _ _ _ (ix3 0 k d) (ix3 0 k d) fun a => ?_).trans ?_
  · fin_cases a <;> simp
  · rfl
theorem ldq1 (a b o : FVec Ideal S1x704x1024 .f32) (k : Fin 704) (d : Fin 1024) :
    (View.ld (mk3 (F := Ideal) a b o) q1 : Vec Ideal S1x704x1024 .f32) (ix3 0 k d) = b (ix3 0 k d) := by
  refine (View.ld_unit_apply_of (mk3 (F := Ideal) a b o) _ _ _ (ix3 0 k d) (ix3 1 k d) fun a => ?_).trans ?_
  · fin_cases a <;> simp
  · rfl
theorem ldq2 (a b o : FVec Ideal S1x704x1024 .f32) (k : Fin 704) (d : Fin 1024) :
    (View.ld (mk3 (F := Ideal) a b o) q2 : Vec Ideal S1x704x1024 .f32) (ix3 0 k d) = o (ix3 0 k d) := by
  refine (View.ld_unit_apply_of (mk3 (F := Ideal) a b o) _ _ _ (ix3 0 k d) (ix3 2 k d) fun a => ?_).trans ?_
  · fin_cases a <;> simp
  · rfl

theorem zero_at (y : S1x704x1024.Idx) : (z16 (F := Ideal)) y = (0 : EReal) := Ideal.ofBits_zero_f32
theorem zero15_at (y : S256x1024.Idx) : (z15 (F := Ideal)) y = (0 : EReal) := Ideal.ofBits_zero_f32

variable (m : (ℓ : Loc nD τ sig) → Buf (Elt Ideal) ℓ) (c : Dev nD)

abbrev tGate (n : ℕ) : FVec Ideal S1x704x1024 .f32 := stepGate (F := Ideal) (b0 m c n) (b1 m c n) (b4 m c n) (b7 m c n) (w0 m c n)
abbrev tUp (n : ℕ) : FVec Ideal S1x704x1024 .f32 := stepUp (F := Ideal) (b0 m c n) (b1 m c n) (b4 m c n) (b7 m c n) (w1 m c n)
abbrev tDown (n : ℕ) : FVec Ideal S1x704x1024 .f32 := stepDown (F := Ideal) (b0 m c n) (b4 m c n) (w2 m c n)

theorem wTraj_succ (n : ℕ) : wTraj m c (n + 1) = mk3 (tGate m c n) (tUp m c n) (tDown m c n) := rfl

theorem w0_at (n : ℕ) (k : Fin 704) (d : Fin 1024) :
    w0 m c n (ix3 0 k d) = if n % 4 = 0 then (0 : EReal) else tGate m c (n - 1) (ix3 0 k d) := by
  unfold w0
  by_cases h : n % 4 = 0
  · rw [if_pos h, if_pos h]; exact zero_at _
  · obtain ⟨p, rfl⟩ : ∃ p, n = p + 1 := ⟨n - 1, by omega⟩
    rw [if_neg h, if_neg h, wTraj_succ]
    exact ldq0 _ _ _ k d
theorem w1_at (n : ℕ) (k : Fin 704) (d : Fin 1024) :
    w1 m c n (ix3 0 k d) = if n % 4 = 0 then (0 : EReal) else tUp m c (n - 1) (ix3 0 k d) := by
  unfold w1
  by_cases h : n % 4 = 0
  · rw [if_pos h, if_pos h]; exact zero_at _
  · obtain ⟨p, rfl⟩ : ∃ p, n = p + 1 := ⟨n - 1, by omega⟩
    rw [if_neg h, if_neg h, wTraj_succ]
    exact ldq1 _ _ _ k d
theorem w2_at (n : ℕ) (k : Fin 704) (d : Fin 1024) :
    w2 m c n (ix3 0 k d) = if n % 4 = 0 then (0 : EReal) else tDown m c (n - 1) (ix3 0 k d) := by
  unfold w2
  by_cases h : n % 4 = 0
  · rw [if_pos h, if_pos h]; exact zero_at _
  · obtain ⟨p, rfl⟩ : ∃ p, n = p + 1 := ⟨n - 1, by omega⟩
    rw [if_neg h, if_neg h, wTraj_succ]
    exact ldq2 _ _ _ k d

/-! ## The rows' cotangent -/

theorem dVal_at (n : ℕ) (R : Fin 512) (d : Fin 1024) :
    (dVal m c n : FVec Ideal S512x1024 .f32) (ix2 R d)
      = (if n < 4 then (0 : EReal) else dTraj m c n (ix2 (row n R) d))
        + ∑ k : Fin 704, dGt (b0 m c n) (b4 m c n) (b7 m c n) R k * (b5 m c n : FVec Ideal S2x1x352x1024 .bf16) (ix4 (kc k) 0 (kp k) d)
        + ∑ k : Fin 704, dUp (b0 m c n) (b4 m c n) (b7 m c n) R k * (b6 m c n : FVec Ideal S2x1x352x1024 .bf16) (ix4 (kc k) 0 (kp k) d) := by
  unfold dVal dNext next512 cat
  by_cases hR : R.val < 256
  · refine (if_pos hR).trans ?_
    refine (stepRowsA_at _ _ _ _ _ d _ ⟨R.val % 256, _⟩).trans ?_
    have e : (⟨(⟨R.val % 256, Nat.mod_lt _ (by decide)⟩ : Fin 256).val, by have := R.isLt; show R.val % 256 < 512; omega⟩ : Fin 512) = R := Fin.ext (Nat.mod_eq_of_lt hR)
    refine congrArg₂ (· + ·) (congrArg₂ (· + ·) ?_ ?_) ?_
    · by_cases hn : n < 4
      · rw [if_pos hn, if_pos hn]; exact zero15_at _
      · rw [if_neg hn, if_neg hn]
        refine congrArg (dTraj m c n) (congrArg (fun s => ix2 s d) (Fin.ext ?_))
        show (512 * (n % 4) + R.val % 256) % 2048 = 512 * (n % 4) + R.val
        omega
    · exact Finset.sum_congr rfl fun k _ => congrArg (fun r => dGt _ _ _ r k * _) e
    · exact Finset.sum_congr rfl fun k _ => congrArg (fun r => dUp _ _ _ r k * _) e
  · refine (if_neg hR).trans ?_
    refine (stepRowsB_at _ _ _ _ _ d _ ⟨(R.val - 256) % 256, _⟩).trans ?_
    have e : (⟨256 + (⟨(R.val - 256) % 256, Nat.mod_lt _ (by decide)⟩ : Fin 256).val, by show 256 + (R.val - 256) % 256 < 512; omega⟩ : Fin 512) = R := Fin.ext (by
      have := R.isLt
      show 256 + (R.val - 256) % 256 = R.val
      omega)
    refine congrArg₂ (· + ·) (congrArg₂ (· + ·) ?_ ?_) ?_
    · by_cases hn : n < 4
      · rw [if_pos hn, if_pos hn]; exact zero15_at _
      · rw [if_neg hn, if_neg hn]
        refine congrArg (dTraj m c n) (congrArg (fun s => ix2 s d) (Fin.ext ?_))
        have := R.isLt
        show (512 * (n % 4) + 256 + (R.val - 256) % 256) % 2048 = 512 * (n % 4) + R.val
        omega
    · exact Finset.sum_congr rfl fun k _ => congrArg (fun r => dGt _ _ _ r k * _) e
    · exact Finset.sum_congr rfl fun k _ => congrArg (fun r => dUp _ _ _ r k * _) e

theorem dTraj_hit (n : ℕ) (R : Fin 512) (d : Fin 1024) : dTraj m c (n + 1) (ix2 (row n R) d) = dVal m c n (ix2 R d) := by
  have := R.isLt
  show put15 (512 * (n % 4)) (dVal m c n) (dTraj m c n) (ix2 (row n R) d) = _
  unfold put15
  refine (if_pos ⟨show 512 * (n % 4) ≤ 512 * (n % 4) + R.val by omega, show 512 * (n % 4) + R.val < 512 * (n % 4) + 512 by omega⟩).trans ?_
  refine congrArg (dVal m c n) (congrArg (fun s => ix2 s d) (Fin.ext ?_))
  show (512 * (n % 4) + R.val - 512 * (n % 4)) % 512 = R.val
  omega
theorem dTraj_miss (n p : ℕ) (hp : n % 4 ≠ p % 4) (R : Fin 512) (d : Fin 1024) :
    dTraj m c (n + 1) (ix2 (row p R) d) = dTraj m c n (ix2 (row p R) d) := by
  have := R.isLt
  show put15 (512 * (n % 4)) (dVal m c n) (dTraj m c n) (ix2 (row p R) d) = _
  unfold put15
  refine if_neg fun h => hp ?_
  have h1 : 512 * (n % 4) ≤ 512 * (p % 4) + R.val := h.1
  have h2 : 512 * (p % 4) + R.val < 512 * (n % 4) + 512 := h.2
  omega
theorem dTraj_at (n : ℕ) (R : Fin 512) (d : Fin 1024) : dTraj m c (n + 4) (ix2 (row (n + 4) R) d) = dVal m c n (ix2 R d) := by
  rw [dTraj_miss m c (n + 3) (n + 4) (by omega), dTraj_miss m c (n + 2) (n + 4) (by omega), dTraj_miss m c (n + 1) (n + 4) (by omega), ← dTraj_hit]
  exact congrArg (dTraj m c (n + 1)) (congrArg (fun s => ix2 s d) (Fin.ext (by simp only [row]; omega)))

theorem dVal_rec (n : ℕ) (R : Fin 512) (d : Fin 1024) :
    (dVal m c n : FVec Ideal S512x1024 .f32) (ix2 R d)
      = (if n < 4 then (0 : EReal) else (dVal m c (n - 4) : FVec Ideal S512x1024 .f32) (ix2 R d))
        + (∑ k : Fin 704, dGt (b0 m c n) (b4 m c n) (b7 m c n) R k * (b5 m c n : FVec Ideal S2x1x352x1024 .bf16) (ix4 (kc k) 0 (kp k) d)
          + ∑ k : Fin 704, dUp (b0 m c n) (b4 m c n) (b7 m c n) R k * (b6 m c n : FVec Ideal S2x1x352x1024 .bf16) (ix4 (kc k) 0 (kp k) d)) := by
  rw [dVal_at, add_assoc]
  refine congrArg (· + _) ?_
  by_cases hn : n < 4
  · rw [if_pos hn, if_pos hn]
  · rw [if_neg hn, if_neg hn]
    obtain ⟨p, rfl⟩ : ∃ p, n = p + 4 := ⟨n - 4, by omega⟩
    exact dTraj_at m c p R d
end Cert.KernelIdeal.Hand
-- ==== Proof.Values.lean ====
module

public import proofs.«01_k».proof.Proof.Sums

@[expose] public section

set_option maxRecDepth 16384
noncomputable section
open Idealize.ShloMosaic Idealize.ShloMosaic.TcCoe Idealize.SL.Sem
namespace Cert.KernelIdeal.Hand
open Cert.KernelIdeal Cert.KernelIdeal.Gen Cert.ReferenceIdeal.Read
open Cert.ReferenceIdeal.Hand

/-! # What the call returns, entry by entry -/

variable (m : (ℓ : Loc nD τ sig) → Buf (Elt Ideal) ℓ) (c : Dev nD)

/-- Every argument is finite. -/
structure AllFi : Prop where
  h0 : ∀ i, Fi (A0 m c i)
  h1 : ∀ i, Fi (A1 m c i)
  h2 : ∀ i, Fi (A2 m c i)
  h3 : ∀ i, Fi (A3 m c i)
  h4 : ∀ i, Fi (A4 m c i)
  h5 : ∀ i, Fi (A5 m c i)

/-! The reference's stages at the call's arguments. -/
abbrev R18 : FVec Ideal S2048x1024 .f32 := val_main_v18 (F := Ideal) (A1 m c) (A2 m c)
abbrev R19 : FVec Ideal Cert.ReferenceIdeal.S2048x2x4x352 .f32 := val_main_v19 (F := Ideal) (A1 m c) (A2 m c) (A3 m c)
abbrev R21 : FVec Ideal Cert.ReferenceIdeal.S2048x2x4x352 .f32 := val_main_v21 (F := Ideal) (A1 m c) (A2 m c) (A4 m c)
abbrev R22 : FVec Ideal Cert.ReferenceIdeal.S2048x2x4x352 .f32 := val_main_v22 (F := Ideal) (A1 m c) (A2 m c) (A3 m c) (A4 m c)
abbrev R32 : FVec Ideal Cert.ReferenceIdeal.S2048x2x4x352 .f32 := val_main_v32 (F := Ideal) (A0 m c) (A5 m c)
abbrev R33 : FVec Ideal Cert.ReferenceIdeal.S2048x2x4x352 .f32 := val_main_v33 (F := Ideal) (A0 m c) (A1 m c) (A2 m c) (A3 m c) (A5 m c)
abbrev R37 : FVec Ideal Cert.ReferenceIdeal.S2048x2x4x352 .f32 := val_main_v37 (F := Ideal) (A0 m c) (A1 m c) (A2 m c) (A3 m c) (A4 m c) (A5 m c)
abbrev R40 : FVec Ideal S2048x1024 .f32 := val_main_v40 (F := Ideal) (A0 m c) (A1 m c) (A2 m c) (A3 m c) (A4 m c) (A5 m c)
abbrev R61 : FVec Ideal S2048x1024 .f32 := val_main_v61 (F := Ideal) (A0 m c) (A1 m c) (A2 m c) (A3 m c) (A4 m c) (A5 m c)
abbrev R62 : FVec Ideal S2x4x352x1024 .bf16 := val_main_v62 (F := Ideal) (A0 m c) (A1 m c) (A2 m c) (A3 m c) (A4 m c)
abbrev R63 : FVec Ideal S2x4x352x1024 .bf16 := val_main_v63 (F := Ideal) (A0 m c) (A1 m c) (A2 m c) (A3 m c) (A5 m c)
abbrev R64 : FVec Ideal S2x4x352x1024 .bf16 := val_main_v64 (F := Ideal) (A0 m c) (A1 m c) (A2 m c) (A3 m c) (A4 m c) (A5 m c)
abbrev R65 : FVec Ideal S1x1024 .f32 := val_main_v65 (F := Ideal) (A0 m c) (A1 m c) (A2 m c) (A3 m c) (A4 m c) (A5 m c)

variable {m c}
variable (H : AllFi m c)
include H

theorem fi18 (s : Fin 2048) (d : Fin 1024) : Fi (R18 m c (ix2 s d)) := by
  rw [R18, v18_at]
  exact ((H.h1 _).mul (r_fi _ fun j => H.h1 _)).mul (H.h2 _)
theorem fi19 (s : Fin 2048) (x : Fin 2) (e : Fin 4) (p : Fin 352) : Fi (R19 m c (ix4 s x e p)) := by
  have h := gate_at m c e s ⟨x.val * 352 + p.val, by omega⟩
  rw [v25_eq, saved_gate] at h
  have hx : kc ⟨x.val * 352 + p.val, by omega⟩ = x := Fin.ext (by show (x.val * 352 + p.val) / 352 = x.val; omega)
  have hp : kp ⟨x.val * 352 + p.val, by omega⟩ = p := Fin.ext (by show (x.val * 352 + p.val) % 352 = p.val; omega)
  rw [hx, hp] at h
  rw [R19, ← h]
  exact Fi.sum _ _ fun j => (H.h3 _).mul (fi18 H s j)
theorem fi21 (s : Fin 2048) (x : Fin 2) (e : Fin 4) (p : Fin 352) : Fi (R21 m c (ix4 s x e p)) := by
  have h := up_at m c e s ⟨x.val * 352 + p.val, by omega⟩
  rw [v25_eq, saved_up] at h
  have hx : kc ⟨x.val * 352 + p.val, by omega⟩ = x := Fin.ext (by show (x.val * 352 + p.val) / 352 = x.val; omega)
  have hp : kp ⟨x.val * 352 + p.val, by omega⟩ = p := Fin.ext (by show (x.val * 352 + p.val) % 352 = p.val; omega)
  rw [hx, hp] at h
  rw [R21, ← h]
  exact Fi.sum _ _ fun j => (H.h4 _).mul (fi18 H s j)
theorem fi32 (s : Fin 2048) (x : Fin 2) (e : Fin 4) (p : Fin 352) : Fi (R32 m c (ix4 s x e p)) := by
  rw [R32, v32_at]
  exact Fi.sum _ _ fun j => (hf_fi.mul (H.h0 _)).mul (H.h5 _)
theorem fi33 (s : Fin 2048) (x : Fin 2) (e : Fin 4) (p : Fin 352) : Fi (R33 m c (ix4 s x e p)) := by
  rw [R33, v33_at]
  exact ((fi19 H s x e p).mul (fi19 H s x e p).sig).mul (fi32 H s x e p)
theorem fi37 (s : Fin 2048) (x : Fin 2) (e : Fin 4) (p : Fin 352) : Fi (R37 m c (ix4 s x e p)) := by
  rw [R37, v37_at]
  have t := (fi32 H s x e p).mul (fi21 H s x e p)
  have g := fi19 H s x e p
  rw [← dsilu_fi t g]
  obtain ⟨a, ha⟩ := g.sig
  have one : Fi (1 : EReal) := ⟨1, rfl⟩
  have sub : Fi (1 - Cert.ReferenceIdeal.Hand.sig (R19 m c (ix4 s x e p))) := ⟨1 - a, by rw [ha]; rfl⟩
  exact t.mul (g.sig.mul (one.add (g.mul sub)))
theorem fi40 (s : Fin 2048) (d : Fin 1024) : Fi (R40 m c (ix2 s d)) := by
  rw [R40, v40_at, v36_at, v39_at]
  exact (Fi.sum _ _ fun e => Fi.sum _ _ fun k => (fi33 H _ _ _ _).mul (H.h4 _)).add
    (Fi.sum _ _ fun e => Fi.sum _ _ fun k => (fi37 H _ _ _ _).mul (H.h3 _))

/-! ## A point's terms -/

theorem dAt_eq (n : ℕ) (R : Fin 512) (k : Fin 704) :
    dAt (fun R j => (b0 m c n : FVec Ideal S512x1024 .f32) (ix2 R j)) (b7 m c n) R k = R32 m c (ix4 (row n R) (kc k) (sh n) (kp k)) := by
  rw [R32, v32_at]
  refine Eq.trans (congrArg (fun z : EReal => hf * z) (Finset.sum_congr (M := EReal) rfl fun j _ => congrArg₂ (· * ·) (b0_at m c n R j) (b7_at m c n (kc k) (kp k) j))) ?_
  exact mul_sum_fi _ _ hf_fi (fun j => H.h0 _) fun j => H.h5 _
theorem dGt_eq (n : ℕ) (R : Fin 512) (k : Fin 704) :
    dGt (b0 m c n) (b4 m c n) (b7 m c n) R k = R37 m c (ix4 (row n R) (kc k) (sh n) (kp k)) := by
  rw [dGt, dAt_eq H, b4g_at, b4u_at, dsilu, sgm_eq, R37, v37_at]
  exact dsilu_fi ((fi32 H _ _ _ _).mul (fi21 H _ _ _ _)) (fi19 H _ _ _ _)
theorem dUp_eq (n : ℕ) (R : Fin 512) (k : Fin 704) :
    dUp (b0 m c n) (b4 m c n) (b7 m c n) R k = R33 m c (ix4 (row n R) (kc k) (sh n) (kp k)) := by
  rw [dUp, dAt_eq H, b4g_at, sgm_eq, R33, v33_at]
  exact mul_comm _ _

/-! ## The cotangents of the weights -/

theorem row_sum (f : Fin 4 → Fin 2048 → EReal) (n : ℕ) (hn : n % 4 = 3) :
    ∑ R, f (sh (n - 3)) (row (n - 3) R) + ∑ R, f (sh (n - 2)) (row (n - 2) R) + ∑ R, f (sh (n - 1)) (row (n - 1) R) + ∑ R, f (sh n) (row n R)
      = ∑ s, f (sh n) s := by
  rw [show sh (n - 3) = sh n from Fin.ext (by simp only [sh]; omega), show sh (n - 2) = sh n from Fin.ext (by simp only [sh]; omega),
    show sh (n - 1) = sh n from Fin.ext (by simp only [sh]; omega)]
  exact sum2048 (f (sh n)) n hn

theorem tGate_at (n : ℕ) (hn : n % 4 = 3) (k : Fin 704) (d : Fin 1024) :
    tGate m c n (ix3 0 k d) = ∑ s : Fin 2048, R37 m c (ix4 s (kc k) (sh n) (kp k)) * R18 m c (ix2 s d) := by
  refine (acc4 (fun n => tGate m c n (ix3 0 k d)) (fun n => ∑ R : Fin 512, R37 m c (ix4 (row n R) (kc k) (sh n) (kp k)) * R18 m c (ix2 (row n R) d)) (fun n => ?_) n hn).trans
    (row_sum H (fun e s => R37 m c (ix4 s (kc k) e (kp k)) * R18 m c (ix2 s d)) n hn)
  refine (stepGate_at _ _ _ _ _ k d).trans (congrArg₂ (· + ·) (w0_at m c n k d) (Finset.sum_congr rfl fun R _ => congrArg₂ (· * ·) (dGt_eq H n R k) (b1_at m c n R d)))
theorem tUp_at (n : ℕ) (hn : n % 4 = 3) (k : Fin 704) (d : Fin 1024) :
    tUp m c n (ix3 0 k d) = ∑ s : Fin 2048, R33 m c (ix4 s (kc k) (sh n) (kp k)) * R18 m c (ix2 s d) := by
  refine (acc4 (fun n => tUp m c n (ix3 0 k d)) (fun n => ∑ R : Fin 512, R33 m c (ix4 (row n R) (kc k) (sh n) (kp k)) * R18 m c (ix2 (row n R) d)) (fun n => ?_) n hn).trans
    (row_sum H (fun e s => R33 m c (ix4 s (kc k) e (kp k)) * R18 m c (ix2 s d)) n hn)
  refine (stepUp_at _ _ _ _ _ k d).trans (congrArg₂ (· + ·) (w1_at m c n k d) (Finset.sum_congr rfl fun R _ => congrArg₂ (· * ·) (dUp_eq H n R k) (b1_at m c n R d)))
theorem tDown_at (n : ℕ) (hn : n % 4 = 3) (k : Fin 704) (d : Fin 1024) :
    tDown m c n (ix3 0 k d) = ∑ s : Fin 2048, hf * A0 m c (ix2 s d) * R22 m c (ix4 s (kc k) (sh n) (kp k)) := by
  refine (acc4 (fun n => tDown m c n (ix3 0 k d)) (fun n => ∑ R : Fin 512, hf * A0 m c (ix2 (row n R) d) * R22 m c (ix4 (row n R) (kc k) (sh n) (kp k))) (fun n => ?_) n hn).trans
    (row_sum H (fun e s => hf * A0 m c (ix2 s d) * R22 m c (ix4 s (kc k) e (kp k))) n hn)
  refine (stepDown_at _ _ _ k d).trans (congrArg₂ (· + ·) (w2_at m c n k d) (Finset.sum_congr rfl fun R _ => ?_))
  rw [b4g_at, b4u_at, b0_at, sgm_eq, R22, v22_at]
  generalize val_main_v19 (F := Ideal) _ _ _ _ = g
  generalize val_main_v21 (F := Ideal) _ _ _ _ = u
  generalize A0 m c _ = z
  generalize Cert.ReferenceIdeal.Hand.sig g = q
  generalize hf = w
  show w * (g * q) * u * z = w * z * (g * q * u)
  ac_rfl

theorem kc_eq (x : Fin 2) (p : Fin 352) : kc ⟨x.val * 352 + p.val, by omega⟩ = x := Fin.ext (by show (x.val * 352 + p.val) / 352 = x.val; omega)
theorem kp_eq (x : Fin 2) (p : Fin 352) : kp ⟨x.val * 352 + p.val, by omega⟩ = p := Fin.ext (by show (x.val * 352 + p.val) % 352 = p.val; omega)

theorem o10_at (n : ℕ) (hn : n % 4 = 3) (x : Fin 2) (p : Fin 352) (d : Fin 1024) :
    (o10 m c n : FVec Ideal S2x1x352x1024 .bf16) (ix4 x 0 p d) = R64 m c (ix4 x (sh n) p d) := by
  refine ((pay2_at _ x p d).trans (tGate_at H n hn _ d)).trans ?_
  rw [kc_eq H, kp_eq H, R64, v64_at]
theorem o11_at (n : ℕ) (hn : n % 4 = 3) (x : Fin 2) (p : Fin 352) (d : Fin 1024) :
    (o11 m c n : FVec Ideal S2x1x352x1024 .bf16) (ix4 x 0 p d) = R63 m c (ix4 x (sh n) p d) := by
  refine ((pay3_at _ x p d).trans (tUp_at H n hn _ d)).trans ?_
  rw [kc_eq H, kp_eq H, R63, v63_at]
theorem o12_at (n : ℕ) (hn : n % 4 = 3) (x : Fin 2) (p : Fin 352) (d : Fin 1024) :
    (o12 m c n : FVec Ideal S2x1x352x1024 .bf16) (ix4 x 0 p d) = R62 m c (ix4 x (sh n) p d) := by
  refine ((pay4_at _ x p d).trans (tDown_at H n hn _ d)).trans ?_
  rw [kc_eq H, kp_eq H, R62, v62_at]

/-! ## The rows' cotangent through the products -/

theorem dVal_last (n : ℕ) (hn : 12 ≤ n) (hn' : n < 16) (R : Fin 512) (d : Fin 1024) :
    (dVal m c n : FVec Ideal S512x1024 .f32) (ix2 R d) = R40 m c (ix2 (row n R) d) := by
  obtain ⟨i, rfl⟩ : ∃ i, n = 12 + i := ⟨n - 12, by omega⟩
  have hi : i < 4 := by omega
  refine (acc4x (fun n => (dVal m c n : FVec Ideal S512x1024 .f32) (ix2 R d)) _ (fun n => dVal_rec m c n R d) i hi).trans ?_
  rw [Finset.sum_add_distrib, add_comm, R40, v40_at, v36_at, v39_at]
  refine congrArg₂ (· + ·) (Finset.sum_congr rfl fun e _ => Finset.sum_congr rfl fun k _ => ?_) (Finset.sum_congr rfl fun e _ => Finset.sum_congr rfl fun k _ => ?_)
  all_goals
    have hr : row (4 * e.val + i) R = row (12 + i) R := Fin.ext (by simp only [row]; omega)
    have hs : sh (4 * e.val + i) = e := Fin.ext (by simp only [sh]; omega)
  · exact congrArg₂ (· * ·) ((dUp_eq H _ R k).trans (by rw [hr, hs])) ((b6_at m c _ _ _ d).trans (by rw [hs]))
  · exact congrArg₂ (· * ·) ((dGt_eq H _ R k).trans (by rw [hr, hs])) ((b5_at m c _ _ _ d).trans (by rw [hs]))

theorem o8_at (n : ℕ) (hn : 12 ≤ n) (hn' : n < 16) (R : Fin 512) (d : Fin 1024) :
    (o8 m c n : FVec Ideal S512x1024 .f32) (ix2 R d) = R61 m c (ix2 (row n R) d) := by
  refine (pay8_at _ _ _ _ R d).trans ?_
  have hb : ∀ d, (b2 m c n : FVec Ideal S512x1024 .f32) (ix2 R d) = A1 m c (ix2 (row n R) d) := b2_at m c n (by omega) R
  rw [R61, v61_at, dVal_last H n hn hn', b0_at, b3_at]
  simp only [hb]
  rw [Finset.sum_congr (M := EReal) rfl fun j _ => congrArg₂ (· * ·) (congrArg₂ (· * ·) (dVal_last H n hn hn' R j) (b3_at m c n j)) rfl]
  exact norm_fi _ (fun j => R40 m c (ix2 (row n R) j)) (fun j => A2 m c (ix1 j)) _ d (fun j => H.h1 _) (fun j => fi40 H _ _) (fun j => H.h2 _) (H.h0 _)

theorem nTraj_at (d : Fin 1024) : (nTraj m c 15 : FVec Ideal S1x1024 .f32) (ix2 0 d) = R65 m c (ix2 0 d) := by
  rw [R65, v65_at]
  have h := acc4 (fun n => (nTraj m c n : FVec Ideal S1x1024 .f32) (ix2 0 d)) (fun n => k0_pay9 (F := Ideal) (dVal m c n) (b2 m c n) (ix2 0 d)) (fun n => ?_) 15 rfl
  · have hp : ∀ n, 12 ≤ n → n < 16 → k0_pay9 (F := Ideal) (dVal m c n) (b2 m c n) (ix2 0 d)
        = ∑ R : Fin 512, A1 m c (ix2 (row n R) d) * Ideal.rsqrt (vr (fun j => A1 m c (ix2 (row n R) j))) * R40 m c (ix2 (row n R) d) := fun n h1 h2 => by
      refine (pay9_at _ _ d).trans (Finset.sum_congr rfl fun R _ => ?_)
      have hb : ∀ d, (b2 m c n : FVec Ideal S512x1024 .f32) (ix2 R d) = A1 m c (ix2 (row n R) d) := b2_at m c n (by omega) R
      rw [dVal_last H n h1 h2]
      simp only [hb]
      exact mul_comm _ _
    refine h.trans ?_
    rw [hp (15 - 3) (by decide) (by decide), hp (15 - 2) (by decide) (by decide), hp (15 - 1) (by decide) (by decide), hp 15 (by decide) (by decide)]
    exact sum2048 (fun s => A1 m c (ix2 s d) * Ideal.rsqrt (vr (fun j => A1 m c (ix2 s j))) * R40 m c (ix2 s d)) 15 rfl
  · cases n with
    | zero => exact (zero_add _).symm
    | succ n =>
      show (if (n + 1) % 4 = 0 then k0_pay9 (F := Ideal) (dVal m c (n + 1)) (b2 m c (n + 1)) else k0_pay5 (k0_pay9 (dVal m c (n + 1)) (b2 m c (n + 1))) (nTraj m c n)) (ix2 0 d) = _
      by_cases h : (n + 1) % 4 = 0
      · rw [if_pos h, if_pos h, zero_add]
      · rw [if_neg h, if_neg h]
        exact pay5_at _ _ d
end Cert.KernelIdeal.Hand
-- ==== Proof.Final.lean ====
module

public import proofs.«01_k».proof.Proof.Values
public import proofs.«01_k».proof.Proof.Gen.ReferenceIdeal.Run
public import proofs.«01_k».proof.Proof.Gen.Pre_finite
public import proofs.«01_k».proof.Defs

@[expose] public section

set_option maxRecDepth 16384
noncomputable section
open Idealize.ShloMosaic Idealize.ShloMosaic.TcCoe Idealize.SL.Sem
namespace Cert.KernelIdeal.Hand
open Cert.KernelIdeal Cert.KernelIdeal.Gen Cert.ReferenceIdeal.Read
open Cert.ReferenceIdeal.Hand

/-! # The arrays the call leaves -/

variable {m : (ℓ : Loc nD τ sig) → Buf (Elt Ideal) ℓ} {c : Dev nD}
variable (H : AllFi m c)
include H

theorem o8_pt (n : ℕ) (hn : 12 ≤ n ∧ n < 16) (y : S512x1024.Idx) :
    (o8 m c n : FVec Ideal S512x1024 .f32) y = R61 m c (ix2 (row n (y 0)) (y 1)) := by
  idx_vars y
  exact o8_at H n hn.1 hn.2 _ _
theorem n_pt (n : ℕ) (hn : n = 15) (y : S1x1024.Idx) : (nTraj m c n : FVec Ideal S1x1024 .f32) y = R65 m c (ix2 0 (y 1)) := by
  subst hn
  have e : y = ix2 0 (y 1) := by blk_ext []
  exact (congrArg (nTraj m c 15) e).trans (nTraj_at H (y 1))
theorem o10_pt (n : ℕ) (hn : n % 4 = 3) (y : S2x1x352x1024.Idx) :
    (o10 m c n : FVec Ideal S2x1x352x1024 .bf16) y = R64 m c (ix4 (y 0) (sh n) (y 2) (y 3)) := by
  have e : y = ix4 (y 0) 0 (y 2) (y 3) := by blk_ext []
  exact (congrArg (o10 m c n) e).trans (o10_at H n hn (y 0) (y 2) (y 3))
theorem o11_pt (n : ℕ) (hn : n % 4 = 3) (y : S2x1x352x1024.Idx) :
    (o11 m c n : FVec Ideal S2x1x352x1024 .bf16) y = R63 m c (ix4 (y 0) (sh n) (y 2) (y 3)) := by
  have e : y = ix4 (y 0) 0 (y 2) (y 3) := by blk_ext []
  exact (congrArg (o11 m c n) e).trans (o11_at H n hn (y 0) (y 2) (y 3))
theorem o12_pt (n : ℕ) (hn : n % 4 = 3) (y : S2x1x352x1024.Idx) :
    (o12 m c n : FVec Ideal S2x1x352x1024 .bf16) y = R62 m c (ix4 (y 0) (sh n) (y 2) (y 3)) := by
  have e : y = ix4 (y 0) 0 (y 2) (y 3) := by blk_ext []
  exact (congrArg (o12 m c n) e).trans (o12_at H n hn (y 0) (y 2) (y 3))

theorem final8 : (dats m 0 c).arrAt 8 (cfgs 0).N = R61 m c := by
  refine (dats m 0 c).arrAt_eq_of_covers 8 _ (by decide +kernel) fun t hf y => ?_
  have ht : 12 ≤ t.val ∧ t.val < 16 := (by decide +kernel : ∀ t : Fin cfg0.N, (cfg0.win 8).flush t = true → 12 ≤ t.val ∧ t.val < 16) t hf
  blk_simp
  rw [after0_8]
  refine (o8_pt H t.val ht y).trans ?_
  have hi : win0_8.index t = ![t.val % 4, 0] := by rw [(idxo t).1, if_neg (by omega)]
  blk_ext [hi, row]
theorem final9 : (dats m 0 c).arrAt 9 (cfgs 0).N = R65 m c := by
  refine (dats m 0 c).arrAt_eq_of_covers 9 _ (by decide +kernel) fun t hf y => ?_
  have ht : t.val = 15 := (by decide +kernel : ∀ t : Fin cfg0.N, (cfg0.win 9).flush t = true → t.val = 15) t hf
  blk_simp
  rw [after0_9]
  refine (n_pt H t.val ht y).trans ?_
  blk_ext [idxo t]
theorem final10 : (dats m 0 c).arrAt 10 (cfgs 0).N = R64 m c := by
  refine (dats m 0 c).arrAt_eq_of_covers 10 _ (by decide +kernel) fun t hf y => ?_
  blk_simp
  rw [after0_10]
  refine (o10_pt H t.val ((flush0_10 t).mp hf) y).trans ?_
  blk_ext [idxo t, sh]
theorem final11 : (dats m 0 c).arrAt 11 (cfgs 0).N = R63 m c := by
  refine (dats m 0 c).arrAt_eq_of_covers 11 _ (by decide +kernel) fun t hf y => ?_
  blk_simp
  rw [after0_11]
  refine (o11_pt H t.val ((flush0_11 t).mp hf) y).trans ?_
  blk_ext [idxo t, sh]
theorem final12 : (dats m 0 c).arrAt 12 (cfgs 0).N = R62 m c := by
  refine (dats m 0 c).arrAt_eq_of_covers 12 _ (by decide +kernel) fun t hf y => ?_
  blk_simp
  rw [after0_12]
  refine (o12_pt H t.val ((flush0_12 t).mp hf) y).trans ?_
  blk_ext [idxo t, sh]
omit H

/-! ## The precondition: every argument is finite -/

theorem top_bits : Ideal.ofBits FTy.f32 0x7F800000#32 = ⊤ := by
  simp [Ideal.ofBits, Ideal.ieee]
theorem fi_of_lt (x : EReal) (h : max x (-x) < ⊤) : Fi x := by
  induction x with
  | bot => simp at h
  | coe r => exact ⟨r, rfl⟩
  | top => simp at h
/-- Where the comparison of the absolute value with infinity is one, the entry is finite. -/
theorem fi_of_cmp {s : Shape} {φ : FTy} (x : FVec Ideal s φ) (i : s.Idx)
    (h : Ideal.cmp .olt (max (x i : EReal) (-(x i : EReal))) (Ideal.ofBits FTy.f32 0x7F800000#32) = 1#1) : Fi (x i) := by
  rw [top_bits] at h
  refine fi_of_lt _ ?_
  by_contra hn
  simp [Ideal.cmp, hn] at h

theorem allFi (hP : Pre_KernelIdeal_finite m) (c : Dev nD) : AllFi m c := by
  obtain ⟨h0, h1, h2, h3, h4, h5⟩ := hP c
  exact ⟨fun i => fi_of_cmp (A0 m c) i (congrFun h0 i), fun i => fi_of_cmp (A1 m c) i (congrFun h1 i), fun i => fi_of_cmp (A2 m c) i (congrFun h2 i),
    fun i => fi_of_cmp (A3 m c) i (congrFun h3 i), fun i => fi_of_cmp (A4 m c) i (congrFun h4 i), fun i => fi_of_cmp (A5 m c) i (congrFun h5 i)⟩

end Cert.KernelIdeal.Hand
-- ==== Proof.Agree.lean ====
module

public import proofs.«01_k».proof.Proof.Final
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The two runs end with the same arrays -/

namespace Cert.KernelIdeal.Hand
open Cert.KernelIdeal Cert.KernelIdeal.Gen Cert.ReferenceIdeal.Read

/-- The call's run: the five results, and the arguments unchanged. -/
theorem run_value (m : (ℓ : Loc nD τ sig) → Buf (Elt Ideal) ℓ) (ρ : Dev nD → PrngReg) (hP : Pre_KernelIdeal_finite m) :
    θ_run (defs (F := Ideal)) (onTc (τ := τ) (main (F := Ideal))) ⟨m, fun _ => 0, ρ⟩ (fun r => ∀ c : Dev nD,
      r.2.mem ((c.tc : Thread nD τ).loc main_v27_0) = R61 m c
      ∧ r.2.mem ((c.tc : Thread nD τ).loc main_v27_1) = R65 m c
      ∧ r.2.mem ((c.tc : Thread nD τ).loc main_v27_2) = R64 m c
      ∧ r.2.mem ((c.tc : Thread nD τ).loc main_v27_3) = R63 m c
      ∧ r.2.mem ((c.tc : Thread nD τ).loc main_v27_4) = R62 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 8 |>.trans (final8 (allFi hP c)), (h.1.1 c).1 9 |>.trans (final9 (allFi hP c)),
      (h.1.1 c).1 10 |>.trans (final10 (allFi hP c)), (h.1.1 c).1 11 |>.trans (final11 (allFi hP c)),
      (h.1.1 c).1 12 |>.trans (final12 (allFi hP c)), h.2.1 c⟩)
    (θ_run_and (run_main m ρ) (frame_all m ρ))

end Cert.KernelIdeal.Hand

namespace Cert.Hand
open Cert.KernelIdeal.Hand Cert.ReferenceIdeal.Read

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hP hA
  refine ⟨fun c => R61 m c, fun c => R65 m c, fun c => R64 m c, fun c => R63 m c, fun c => R62 m c, run_value m g hP, ?_⟩
  refine (θ_run Cert.ReferenceIdeal.defs _ _).mono (fun r h c => ?_) (Cert.ReferenceIdeal.Value.run (F := Ideal) m' g')
  obtain ⟨a0, a1, a2, a3, a4, a5⟩ := hA c
  obtain ⟨r0, r1, r2, r3, r4, hargs⟩ := h c
  rw [val_main_v61_eq, a0, a1, a2, a3, a4, a5] at r0
  rw [val_main_v65_eq, a0, a1, a2, a3, a4, a5] at r1
  rw [val_main_v64_eq, a0, a1, a2, a3, a4, a5] at r2
  rw [val_main_v63_eq, a0, a1, a2, a3, a5] at r3
  rw [val_main_v62_eq, a0, a1, a2, a3, a4] at r4
  exact ⟨r0, r1, r2, r3, r4, hargs⟩

end Cert.Hand
-- ==== Proof.FwdTwin.lean ====
module

public import proofs.«01_k».proof.Proof.Gen.Kernel2Ideal.Frame
public import proofs.«01_k».proof.Proof.Gen.Kernel2
public import proofs.«01_k».proof.Defs

@[expose] public section

set_option maxRecDepth 16384

noncomputable section

/-! `Kernel2` and `Kernel2Ideal` are one text: the run of the one is the run of the other. -/

namespace Cert.Kernel2.Hand

open Idealize.ShloMosaic Idealize.ShloMosaic.TcCoe Idealize.SL.Sem

variable {F : FTy → Type} [FloatOps F]

attribute [local instance] Cert.Kernel2.Gen.facts Cert.Kernel2Ideal.Gen.facts

theorem body_eq : @Cert.Kernel2.cc0_ffn_fwd_01 F _ _ = @Cert.Kernel2Ideal.cc0_ffn_fwd_01 F _ _ := rfl

set_option maxHeartbeats 2000000 in
theorem rows_eq : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) =>
    dsimp only
    rw [body_eq]
    rfl

theorem table_eq : Cert.Kernel2.defs (F := F) = Cert.Kernel2Ideal.defs (F := F) := by
  unfold Cert.Kernel2.defs Cert.Kernel2Ideal.defs
  exact congrArg (Pipeline.defs Cert.Kernel2Ideal.pcfgs) rows_eq

set_option maxHeartbeats 4000000 in
theorem main_eq : Cert.Kernel2.main (F := F) = Cert.Kernel2Ideal.main (F := F) := rfl

theorem frame_kernel : Cert.quiescent_Kernel2 (hKernel2 := Cert.Kernel2.Gen.facts) := by
  intro m g _
  rw [table_eq, main_eq]
  exact Cert.Kernel2Ideal.Gen.frame (F := Bits) m g

end Cert.Kernel2.Hand

end
-- ==== Proof.FwdHalf.lean ====
module

public import proofs.«01_k».proof.Proof.Gen.Kernel2Ideal.Skeleton
public import proofs.«01_k».proof.Proof.Ref
public import Idealize.ShloMosaic.Lib.Pipeline.ValueKit

@[expose] public section

set_option maxRecDepth 16384
noncomputable section
open Idealize.ShloMosaic Idealize.ShloMosaic.TcCoe Idealize.SL.Sem
namespace Cert.Kernel2Ideal.Hand
open Cert.Kernel2Ideal Cert.Kernel2Ideal.Gen
open Cert.ReferenceIdeal.Hand (hf vr kc kp)

/-! What one point of the feed-forward sublayer computes, over the extended reals. -/

/-- The sigmoid as the kernel computes it. -/
def sgm (g : EReal) : EReal := Ideal.div 1 (1 + Ideal.exp (0 - g))
theorem sgm_eq (g : EReal) : sgm g = Cert.ReferenceIdeal.Hand.sig g := by rw [sgm, Cert.ReferenceIdeal.Hand.sig, zero_sub]

/-- A row's product with column `k` of a shard of a weight. -/
abbrev pr {n : ℕ} (h : Fin n → Fin 1024 → EReal) (w : FVec Ideal S2x1x352x1024 .bf16) (r : Fin n) (k : Fin 704) : EReal :=
  ∑ j : Fin 1024, h r j * w (ix4 (kc k) 0 (kp k) j)
/-- What one shard adds to row `r`, column `d`. -/
abbrev part {n : ℕ} (h : Fin n → Fin 1024 → EReal) (wg wu wd : FVec Ideal S2x1x352x1024 .bf16) (r : Fin n) (d : Fin 1024) : EReal :=
  ∑ k : Fin 704, pr h wg r k * sgm (pr h wg r k) * pr h wu r k * wd (ix4 (kc k) 0 (kp k) d)

section
variable (h : FVec Ideal S512x1024 .bf16) (wg wu wd : FVec Ideal S2x1x352x1024 .bf16) (o : FVec Ideal S512x1024 .f32)
theorem addA_at (r : Fin 512) (d : Fin 1024) : k0_pay12 (F := Ideal) (k0_pay8 h wu) o (k0_pay11 h wg) wd (ix2 r d)
    = o (ix2 r d) + part (fun r j => h (ix2 r j)) wg wu wd r d := by
  pointwise [k0_pay12, k0_pay8, k0_pay11, k0_pay7, k0_pay6]
  rfl
theorem addB_at (r : Fin 512) (d : Fin 1024) :
    k0_pay1 (F := Ideal) (k0_pay14 h wg) (k0_pay15 h wu) o (k0_pay18 (F := Ideal)) wd (ix2 r d)
    = o (ix2 r d) + part (fun r j => h (ix2 r j)) wg wu wd r d := by
  pointwise [k0_pay1, k0_pay14, k0_pay15, k0_pay18, k0_pay13]
  rfl
theorem gateA_at (r : Fin 512) (k : Fin 704) : k0_pay9 (F := Ideal) h wg (ix4 0 0 r k) = pr (fun r j => h (ix2 r j)) wg r k := by
  pointwise [k0_pay9, k0_pay7, k0_pay6]
  rfl
theorem upA_at (r : Fin 512) (k : Fin 704) : k0_pay10 (F := Ideal) h wu (ix4 0 0 r k) = pr (fun r j => h (ix2 r j)) wu r k := by
  pointwise [k0_pay10, k0_pay8, k0_pay6]
  rfl
theorem gateB_at (r : Fin 512) (k : Fin 704) : k0_pay16 (F := Ideal) h wg (ix4 0 0 r k) = pr (fun r j => h (ix2 r j)) wg r k := by
  pointwise [k0_pay16, k0_pay14, k0_pay13]
  rfl
theorem upB_at (r : Fin 512) (k : Fin 704) : k0_pay17 (F := Ideal) h wu (ix4 0 0 r k) = pr (fun r j => h (ix2 r j)) wu r k := by
  pointwise [k0_pay17, k0_pay15, k0_pay13]
  rfl
end

theorem zero_at (i : S1024x1024.Idx) : k0_pay5 (F := Ideal) i = 0 := by
  pointwise [k0_pay5]
/-- The sublayer's output at one entry, from the input's and the sum over the shards. -/
theorem res_at (x s : FVec Ideal S1024x1024 .f32) (i : S1024x1024.Idx) : k0_pay2 (F := Ideal) x s i = x i + hf * s i := by
  pointwise [k0_pay2]
  rfl
theorem normA_at (x s : FVec Ideal S1024x1024 .f32) (w : FVec Ideal S1x1024 .f32) (R d : Fin 1024) :
    k0_pay3 (F := Ideal) x s w (ix2 R d) = k0_pay2 (F := Ideal) x s (ix2 R d)
      * Ideal.rsqrt (vr fun j => k0_pay2 (F := Ideal) x s (ix2 R j)) * w (ix2 0 d) := by
  rw [k0_pay3]
  generalize k0_pay2 (F := Ideal) x s = y
  pointwise []
  rfl
theorem normB_at (x s : FVec Ideal S1024x1024 .f32) (w : FVec Ideal S1x1024 .f32) (R d : Fin 1024) :
    k0_pay4 (F := Ideal) x s w (ix2 R d) = k0_pay2 (F := Ideal) x s (ix2 R d)
      * Ideal.rsqrt (vr fun j => k0_pay2 (F := Ideal) x s (ix2 R j)) * w (ix2 0 d) := by
  rw [k0_pay4]
  generalize k0_pay2 (F := Ideal) x s = y
  pointwise []
  rfl
end Cert.Kernel2Ideal.Hand
-- ==== Proof.FwdRef.lean ====
module

public import proofs.«01_k».proof.Proof.Gen.Reference2Ideal.Read
public import proofs.«01_k».proof.Proof.Ref
public import Idealize.ShloMosaic.Lib.Pipeline.ValueKit

@[expose] public section

set_option maxRecDepth 16384
noncomputable section
open Idealize.ShloMosaic Idealize.ShloMosaic.TcCoe Idealize.SL.Sem
namespace Cert.Reference2Ideal.Hand
open Cert.Reference2Ideal Cert.Reference2Ideal.Gen Cert.Reference2Ideal.Read
open Cert.ReferenceIdeal.Hand (hf vr kc kp DR_at)

/-! The forward sublayer's reference, stage by stage, over the extended reals. -/

variable (x0 : FVec Ideal S2048x1024 .f32) (x1 x5 x6 : FVec Ideal S1024 .f32) (x2 x3 x4 : FVec Ideal S2x4x352x1024 .bf16)

/-- The normalised input, and its product with a column of a weight. -/
def nrm (s : Fin 2048) (d : Fin 1024) : EReal := x0 (ix2 s d) * Ideal.rsqrt (vr (fun j => x0 (ix2 s j))) * x1 (ix1 d)
def prod (w : FVec Ideal S2x4x352x1024 .bf16) (s : Fin 2048) (c : Fin 2) (e : Fin 4) (p : Fin 352) : EReal :=
  ∑ j : Fin 1024, nrm x0 x1 s j * w (ix4 c e p j)

theorem v15_at (s : Fin 2048) (d : Fin 1024) : val_main_v15 (F := Ideal) x0 x1 (ix2 s d) = nrm x0 x1 s d := by
  pointwise [val_main_v15, val_main_v14, val_main_v13, val_main_v12, val_main_v11, val_main_v10, val_main_v9, val_main_v8,val_main_v7, val_main_v6, val_main_v5, val_main_v4, val_main_v3, val_main_cst, val_main_cst_0, val_main_cst_1]
  rfl
theorem v16_at (s : Fin 2048) (c : Fin 2) (e : Fin 4) (p : Fin 352) : val_main_v16 (F := Ideal) x0 x1 x2 (ix4 s c e p) = prod x0 x1 x2 s c e p := by
  have h : ∀ j, val_main_v15 (F := Ideal) x0 x1 (ix2 s j) = nrm x0 x1 s j := fun j => v15_at x0 x1 s j
  revert h
  rw [val_main_v16]
  generalize val_main_v15 (F := Ideal) x0 x1 = y
  intro h
  pointwise [val_main_v0]
  exact Finset.sum_congr rfl fun j _ => by rw [h j]
theorem v18_at (s : Fin 2048) (c : Fin 2) (e : Fin 4) (p : Fin 352) : val_main_v18 (F := Ideal) x0 x1 x3 (ix4 s c e p) = prod x0 x1 x3 s c e p := by
  have h : ∀ j, val_main_v15 (F := Ideal) x0 x1 (ix2 s j) = nrm x0 x1 s j := fun j => v15_at x0 x1 s j
  revert h
  rw [val_main_v18]
  generalize val_main_v15 (F := Ideal) x0 x1 = y
  intro h
  pointwise [val_main_v1]
  exact Finset.sum_congr rfl fun j _ => by rw [h j]
theorem v19_at (s : Fin 2048) (c : Fin 2) (e : Fin 4) (p : Fin 352) : val_main_v19 (F := Ideal) x0 x1 x2 x3 (ix4 s c e p)
    = prod x0 x1 x2 s c e p * Cert.ReferenceIdeal.Hand.sig (prod x0 x1 x2 s c e p) * prod x0 x1 x3 s c e p := by
  rw [← v16_at, ← v18_at, val_main_v19, val_main_v17]
  generalize val_main_v18 (F := Ideal) x0 x1 x3 = y
  pointwise [val_main_call0_v5, val_main_call0_v4, val_main_call0_v3, val_main_call0_v2, val_main_call0_v1, val_main_call0_v0, val_main_call0_cst, val_main_call0_cst_0]
  rfl
/-- The sublayer's output. -/
def outR (s : Fin 2048) (d : Fin 1024) : EReal := x0 (ix2 s d) + hf * ∑ e : Fin 4, ∑ k : Fin 704,
  prod x0 x1 x2 s (kc k) e (kp k) * Cert.ReferenceIdeal.Hand.sig (prod x0 x1 x2 s (kc k) e (kp k)) * prod x0 x1 x3 s (kc k) e (kp k) * x4 (ix4 (kc k) e (kp k) d)
theorem v20_at (s : Fin 2048) (d : Fin 1024) : val_main_v20 (F := Ideal) x0 x1 x2 x3 x4 (ix2 s d)
    = ∑ e : Fin 4, ∑ k : Fin 704, val_main_v19 (F := Ideal) x0 x1 x2 x3 (ix4 s (kc k) e (kp k)) * x4 (ix4 (kc k) e (kp k) d) := by
  rw [val_main_v20]
  exact DR_at _ _ s d
theorem v23_at (s : Fin 2048) (d : Fin 1024) : val_main_v23 (F := Ideal) x0 x1 x2 x3 x4 (ix2 s d) = outR x0 x1 x2 x3 x4 s d := by
  have h := v20_at x0 x1 x2 x3 x4 s d
  simp only [v19_at] at h
  rw [outR, ← h, val_main_v23, val_main_v22]
  generalize val_main_v20 (F := Ideal) x0 x1 x2 x3 x4 = y
  pointwise [val_main_v21, val_main_cst_2]
  rfl
theorem v74_at (s : Fin 2048) (d : Fin 1024) : val_main_v74 (F := Ideal) x0 x1 x2 x3 x4 x5 (ix2 s d)
    = outR x0 x1 x2 x3 x4 s d * Ideal.rsqrt (vr (fun j => outR x0 x1 x2 x3 x4 s j)) * x5 (ix1 d) := by
  simp only [← v23_at]
  rw [val_main_v74, val_main_v73, val_main_v70, val_main_v69, val_main_v68, val_main_v67, val_main_v65, val_main_v63, val_main_v62, val_main_v61]
  generalize val_main_v23 (F := Ideal) x0 x1 x2 x3 x4 = y
  pointwise [val_main_v72, val_main_v71, val_main_v66, val_main_v64, val_main_cst_9, val_main_cst_10, val_main_cst_11]
  rfl
theorem v88_at (s : Fin 2048) (d : Fin 1024) : val_main_v88 (F := Ideal) x0 x1 x2 x3 x4 x6 (ix2 s d)
    = outR x0 x1 x2 x3 x4 s d * Ideal.rsqrt (vr (fun j => outR x0 x1 x2 x3 x4 s j)) * x6 (ix1 d) := by
  simp only [← v23_at]
  rw [val_main_v88, val_main_v87, val_main_v84, val_main_v83, val_main_v82, val_main_v81, val_main_v79, val_main_v77, val_main_v76, val_main_v75]
  generalize val_main_v23 (F := Ideal) x0 x1 x2 x3 x4 = y
  pointwise [val_main_v86, val_main_v85, val_main_v80, val_main_v78, val_main_cst_12, val_main_cst_13, val_main_cst_14]
  rfl
theorem v36_at (s : Fin 2048) (d : Fin 1024) : val_main_v36 (F := Ideal) x0 x1 (ix2 s d) = nrm x0 x1 s d := by
  pointwise [val_main_v36, val_main_v35, val_main_v34, val_main_v33, val_main_v32, val_main_v31, val_main_v30, val_main_v29,val_main_v28, val_main_v27, val_main_v26, val_main_v25, val_main_v24, val_main_cst_3, val_main_cst_4, val_main_cst_5]
  rfl
theorem v53_at (s : Fin 2048) (d : Fin 1024) : val_main_v53 (F := Ideal) x0 x1 (ix2 s d) = nrm x0 x1 s d := by
  pointwise [val_main_v53, val_main_v52, val_main_v51, val_main_v50, val_main_v49, val_main_v48, val_main_v47, val_main_v46,val_main_v45, val_main_v44, val_main_v43, val_main_v42, val_main_v41, val_main_cst_6, val_main_cst_7, val_main_cst_8]
  rfl
theorem v38_at (s : Fin 2048) (c : Fin 2) (e : Fin 4) (p : Fin 352) : val_main_v38 (F := Ideal) x0 x1 x2 (ix4 c e p s) = prod x0 x1 x2 s c e p := by
  have h : ∀ j, val_main_v36 (F := Ideal) x0 x1 (ix2 s j) = nrm x0 x1 s j := fun j => v36_at x0 x1 s j
  revert h
  rw [val_main_v38]
  generalize val_main_v36 (F := Ideal) x0 x1 = y
  intro h
  pointwise [val_main_v37]
  exact Finset.sum_congr rfl fun j _ => by rw [h j, mul_comm]
theorem v55_at (s : Fin 2048) (c : Fin 2) (e : Fin 4) (p : Fin 352) : val_main_v55 (F := Ideal) x0 x1 x3 (ix4 c e p s) = prod x0 x1 x3 s c e p := by
  have h : ∀ j, val_main_v53 (F := Ideal) x0 x1 (ix2 s j) = nrm x0 x1 s j := fun j => v53_at x0 x1 s j
  revert h
  rw [val_main_v55]
  generalize val_main_v53 (F := Ideal) x0 x1 = y
  intro h
  pointwise [val_main_v54]
  exact Finset.sum_congr rfl fun j _ => by rw [h j, mul_comm]
/-- The two products that the call saves, shard by shard. -/
theorem v89_gate (e : Fin 4) (s : Fin 2048) (k : Fin 704) : val_main_v89 (F := Ideal) x0 x1 x2 x3 (ix4 e 0 s k) = prod x0 x1 x2 s (kc k) e (kp k) := by
  rw [← v38_at, val_main_v89, val_main_v60, val_main_v58, val_main_v40, val_main_v39]
  generalize val_main_v59 (F := Ideal) x0 x1 x3 = z
  generalize val_main_v38 (F := Ideal) x0 x1 x2 = y
  pointwise []
  blk_ext [kc, kp]
theorem v89_up (e : Fin 4) (s : Fin 2048) (k : Fin 704) : val_main_v89 (F := Ideal) x0 x1 x2 x3 (ix4 e 1 s k) = prod x0 x1 x3 s (kc k) e (kp k) := by
  rw [← v55_at, val_main_v89, val_main_v60, val_main_v59, val_main_v57, val_main_v56]
  generalize val_main_v58 (F := Ideal) x0 x1 x2 = z
  generalize val_main_v55 (F := Ideal) x0 x1 x3 = y
  pointwise []
  blk_ext [kc, kp]
end Cert.Reference2Ideal.Hand
-- ==== Proof.FwdBlocks.lean ====
module

public import proofs.«01_k».proof.Proof.Gen.Kernel2Ideal.Frame
public import proofs.«01_k».proof.Proof.FwdHalf
public import proofs.«01_k».proof.Proof.FwdRef
public import Idealize.ShloMosaic.Lib.Pipeline.ValueKit

@[expose] public section

set_option maxRecDepth 16384
noncomputable section
open Idealize.ShloMosaic Idealize.ShloMosaic.TcCoe Idealize.SL.Sem
namespace Cert.Kernel2Ideal.Hand
open Cert.Kernel2Ideal Cert.Kernel2Ideal.Gen Cert.Reference2Ideal.Read
open Cert.ReferenceIdeal.Hand (hf vr kc kp)
open Cert.Reference2Ideal.Hand (nrm prod v15_at)

variable (m : (ℓ : Loc nD τ sig) → Buf (Elt Ideal) ℓ) (c : Dev nD)

/-! The arguments of the program, and the arrays its host lines make of them. -/
abbrev A0 : FVec Ideal S2048x1024 .f32 := m ((c : Thread nD τ).loc main_arg0)
abbrev A1 : FVec Ideal S1024 .f32 := m ((c : Thread nD τ).loc main_arg1)
abbrev A2 : FVec Ideal S2x4x352x1024 .bf16 := m ((c : Thread nD τ).loc main_arg2)
abbrev A3 : FVec Ideal S2x4x352x1024 .bf16 := m ((c : Thread nD τ).loc main_arg3)
abbrev A4 : FVec Ideal S2x4x352x1024 .bf16 := m ((c : Thread nD τ).loc main_arg4)
abbrev A5 : FVec Ideal S1024 .f32 := m ((c : Thread nD τ).loc main_arg5)
abbrev A6 : FVec Ideal S1024 .f32 := m ((c : Thread nD τ).loc main_arg6)

theorem h_at (s : Fin 2048) (d : Fin 1024) : (V m c main_v13 : FVec Ideal S2048x1024 .bf16) (ix2 s d) = nrm (A0 m c) (A1 m c) s d := by
  rw [← v15_at]
  entry_read
  rfl
theorem nw1_at (d : Fin 1024) : (V m c main_v14 : FVec Ideal S1x1024 .f32) (ix2 0 d) = A5 m c (ix1 d) := by
  entry_read
  pointwise []
theorem nw2_at (d : Fin 1024) : (V m c main_v15 : FVec Ideal S1x1024 .f32) (ix2 0 d) = A6 m c (ix1 d) := by
  entry_read
  pointwise []

/-! The blocks of a point, as entries of the arrays. -/
theorem idx : ∀ t : Fin cfg0.N, win0_0.index t = ![t.val / 4, 0] ∧ win0_1.index t = ![t.val / 4, 0]
    ∧ win0_2.index t = ![0, t.val % 4, 0, 0] ∧ win0_3.index t = ![0, t.val % 4, 0, 0] ∧ win0_4.index t = ![0, t.val % 4, 0, 0]
    ∧ win0_5.index t = ![0, 0] ∧ win0_6.index t = ![0, 0] :=
  (by decide +kernel : ∀ t : Fin grid0.N, _)
theorem idxo : ∀ t : Fin cfg0.N, win0_7.index t = ![t.val / 4, 0] ∧ win0_8.index t = ![t.val / 4, 0]
    ∧ win0_9.index t = ![t.val / 4, 0] ∧ win0_10.index t = ![t.val % 4, 0, t.val / 4, 0] :=
  (by decide +kernel : ∀ t : Fin grid0.N, _)

theorem lt8 (t : Fin cfg0.N) : t.val < 8 := t.isLt
/-- The row of the arrays at row `R` of a point's blocks, and the point's shard. -/
def row (t : Fin cfg0.N) (R : Fin 1024) : Fin 2048 := ⟨1024 * (t.val / 4) + R.val, by have := lt8 t; omega⟩
def sh (t : Fin cfg0.N) : Fin 4 := ⟨t.val % 4, by omega⟩

abbrev b0 (t : Fin cfg0.N) : FVec Ideal S1024x1024 .bf16 := iblk m c 0 t
abbrev b1 (t : Fin cfg0.N) : FVec Ideal S1024x1024 .f32 := iblk m c 1 t
abbrev b2 (t : Fin cfg0.N) : FVec Ideal S2x1x352x1024 .bf16 := iblk m c 2 t
abbrev b3 (t : Fin cfg0.N) : FVec Ideal S2x1x352x1024 .bf16 := iblk m c 3 t
abbrev b4 (t : Fin cfg0.N) : FVec Ideal S2x1x352x1024 .bf16 := iblk m c 4 t
abbrev b5 (t : Fin cfg0.N) : FVec Ideal S1x1024 .f32 := iblk m c 5 t
abbrev b6 (t : Fin cfg0.N) : FVec Ideal S1x1024 .f32 := iblk m c 6 t

variable (t : Fin cfg0.N)
theorem b0_at (R d : Fin 1024) : b0 m c t (ix2 R d) = nrm (A0 m c) (A1 m c) (row t R) d := by
  rw [← h_at]
  blk_ext [b0, iblk, idx t, row]
theorem b1_at (R d : Fin 1024) : b1 m c t (ix2 R d) = A0 m c (ix2 (row t R) d) := by
  blk_ext [b1, iblk, V, idx t, row]
theorem b2_at (x : Fin 2) (p : Fin 352) (d : Fin 1024) : b2 m c t (ix4 x 0 p d) = A2 m c (ix4 x (sh t) p d) := by
  blk_ext [b2, iblk, V, idx t, sh]
theorem b3_at (x : Fin 2) (p : Fin 352) (d : Fin 1024) : b3 m c t (ix4 x 0 p d) = A3 m c (ix4 x (sh t) p d) := by
  blk_ext [b3, iblk, V, idx t, sh]
theorem b4_at (x : Fin 2) (p : Fin 352) (d : Fin 1024) : b4 m c t (ix4 x 0 p d) = A4 m c (ix4 x (sh t) p d) := by
  blk_ext [b4, iblk, V, idx t, sh]
theorem b5_at (d : Fin 1024) : b5 m c t (ix2 0 d) = A5 m c (ix1 d) := by
  rw [← nw1_at]
  blk_ext [b5, iblk, idx t]
theorem b6_at (d : Fin 1024) : b6 m c t (ix2 0 d) = A6 m c (ix1 d) := by
  rw [← nw2_at]
  blk_ext [b6, iblk, idx t]
end Cert.Kernel2Ideal.Hand
-- ==== Proof.FwdValue.lean ====
module

public import proofs.«01_k».proof.Proof.FwdBlocks
public import Idealize.ShloMosaic.Lib.Pipeline.CanonAppend
public import Idealize.ShloMosaic.Lib.Pipeline.ReadBack

@[expose] public section

set_option maxRecDepth 16384
noncomputable section
open Idealize.ShloMosaic Idealize.ShloMosaic.TcCoe Idealize.SL.Sem
namespace Cert.Kernel2Ideal.Hand
open Cert.Kernel2Ideal Cert.Kernel2Ideal.Gen Cert.Reference2Ideal.Read
open Cert.ReferenceIdeal.Hand (hf vr kc kp)

/-! # What a point leaves in the sum over the shards and in the results' blocks -/

/-- The two halves of a block's rows. -/
abbrev rA : Rect S1024x1024 := Rect.unit (s := S1024x1024) ![0, 0] ![512, 1024] inb_S1024x1024_S512x1024_0_0
abbrev rB : Rect S1024x1024 := Rect.unit (s := S1024x1024) ![512, 0] ![512, 1024] inb_S1024x1024_S512x1024_512_0
def lo (r : Fin 512) : Fin 1024 := ⟨r.val, by omega⟩
def hi (r : Fin 512) : Fin 1024 := ⟨512 + r.val, by omega⟩

theorem ldA {e : EltTy} (X : Vec Ideal S1024x1024 e) (r : Fin 512) (d : Fin 1024) :
    (View.ld X rA : Vec Ideal S512x1024 e) (ix2 r d) = X (ix2 (lo r) d) := by
  refine View.ld_unit_apply_of X _ _ _ _ _ fun a => ?_
  fin_cases a <;> simp [lo]
theorem ldB {e : EltTy} (X : Vec Ideal S1024x1024 e) (r : Fin 512) (d : Fin 1024) :
    (View.ld X rB : Vec Ideal S512x1024 e) (ix2 r d) = X (ix2 (hi r) d) := by
  refine View.ld_unit_apply_of X _ _ _ _ _ fun a => ?_
  fin_cases a <;> simp [hi]

theorem rA_emb (r : Fin 512) (d : Fin 1024) : rA.emb (ix2 r d : S512x1024.Idx) = ix2 (lo r) d := by
  funext a; apply Fin.ext; refine (Rect.idx_unit_val _ _ _ _ a).trans ?_
  fin_cases a <;> simp [lo]
theorem rB_emb (r : Fin 512) (d : Fin 1024) : rB.emb (ix2 r d : S512x1024.Idx) = ix2 (hi r) d := by
  funext a; apply Fin.ext; refine (Rect.idx_unit_val _ _ _ _ a).trans ?_
  fin_cases a <;> simp [hi]

/-- Stores of the two halves leave one array. -/
theorem canon_halves (G : FVec Ideal S1024x1024 .f32) (p q : FVec Ideal S512x1024 .f32) (L : List (View.Piece (Elt Ideal) S1024x1024 .f32))
    (hp : ∀ r d, p (ix2 r d) = G (ix2 (hi r) d)) (hq : ∀ r d, q (ix2 r d) = G (ix2 (lo r) d)) :
    View.canon ((⟨rB, p⟩ : View.Piece (Elt Ideal) S1024x1024 .f32) :: ⟨rA, q⟩ :: L) = G := by
  funext y
  refine View.canon_append_of_pieces (Val := Elt Ideal) G L [⟨rB, p⟩, ⟨rA, q⟩] (fun z hz x => ?_) y ?_
  · simp only [List.mem_cons, List.not_mem_nil, or_false] at hz
    obtain rfl | rfl := hz
    · obtain ⟨r, d, rfl⟩ : ∃ (r : Fin 512) (d : Fin 1024), x = (ix2 r d : S512x1024.Idx) := ⟨x 0, x 1, by funext a; fin_cases a <;> rfl⟩
      exact (hp r d).trans (congrArg G (rB_emb r d).symm)
    · obtain ⟨r, d, rfl⟩ : ∃ (r : Fin 512) (d : Fin 1024), x = (ix2 r d : S512x1024.Idx) := ⟨x 0, x 1, by funext a; fin_cases a <;> rfl⟩
      exact (hq r d).trans (congrArg G (rA_emb r d).symm)
  · obtain ⟨R, d, rfl⟩ : ∃ (R : Fin 1024) (d : Fin 1024), y = (ix2 R d : S1024x1024.Idx) := ⟨y 0, y 1, by funext a; fin_cases a <;> rfl⟩
    by_cases h : R.val < 512
    · refine ⟨⟨rA, q⟩, by simp, ?_⟩
      rw [show (ix2 R d : S1024x1024.Idx) = rA.emb (ix2 ⟨R.val, h⟩ d : S512x1024.Idx) from
        (congrArg (fun z => (ix2 z d : S1024x1024.Idx)) (Fin.ext rfl : R = lo ⟨R.val, h⟩)).trans (rA_emb _ _).symm]
      exact LoadRect.idx_mem _ _
    · refine ⟨⟨rB, p⟩, by simp, ?_⟩
      rw [show (ix2 R d : S1024x1024.Idx) = rB.emb (ix2 ⟨R.val - 512, by omega⟩ d : S512x1024.Idx) from
        (congrArg (fun z => (ix2 z d : S1024x1024.Idx)) (Fin.ext (by simp only [hi]; omega) : R = hi ⟨R.val - 512, by omega⟩)).trans (rB_emb _ _).symm]
      exact LoadRect.idx_mem _ _

variable (m : (ℓ : Loc nD τ sig) → Buf (Elt Ideal) ℓ) (c : Dev nD)

/-- What a point adds to the sum. -/
def add (t : Fin cfg0.N) (y : S1024x1024.Idx) : EReal :=
  part (fun R j => b0 m c t (ix2 R j)) (b2 m c t) (b3 m c t) (b4 m c t) (y 0) (y 1)

section
variable (X : FVec Ideal S1024x1024 .bf16) (wg wu wd : FVec Ideal S2x1x352x1024 .bf16) (s : FVec Ideal S1024x1024 .f32) (L : List (View.Piece (Elt Ideal) S1024x1024 .f32))
/-- The two halves' stores of a point that finds the sum `s`. -/
theorem step_eq : View.canon ((⟨rB, k0_pay1 (F := Ideal) (k0_pay14 (View.ld X rB) wg) (k0_pay15 (View.ld X rB) wu) (View.ld s rB) (k0_pay18 (F := Ideal)) wd⟩ : View.Piece (Elt Ideal) S1024x1024 .f32)
      :: ⟨rA, k0_pay12 (F := Ideal) (k0_pay8 (View.ld X rA) wu) (View.ld s rA) (k0_pay11 (View.ld X rA) wg) wd⟩ :: L)
    = fun y => s y + part (fun R j => X (ix2 R j)) wg wu wd (y 0) (y 1) := by
  refine canon_halves _ _ _ L (fun r d => ?_) (fun r d => ?_)
  · have e : (fun (r : Fin 512) (j : Fin 1024) => (View.ld X rB : Vec Ideal S512x1024 .bf16) (ix2 r j)) = fun r j => X (ix2 (hi r) j) :=
      funext fun r => funext fun j => ldB (e := .bf16) X r j
    refine (addB_at _ _ _ _ _ r d).trans ?_
    rw [ldB, e]
    rfl
  · have e : (fun (r : Fin 512) (j : Fin 1024) => (View.ld X rA : Vec Ideal S512x1024 .bf16) (ix2 r j)) = fun r j => X (ix2 (lo r) j) :=
      funext fun r => funext fun j => ldA (e := .bf16) X r j
    refine (addA_at _ _ _ _ _ r d).trans ?_
    rw [ldA, e]
    rfl
end

theorem tB (t : Fin cfg0.N) (h0 : ¬t.val % 4 = 0) (h1 : ¬t.val % 4 = 3) :
   (outsAt0 m c t.val t.isLt).2.2.2.2 = fun y => (outsAt0 m c (t.val - 1) (by have := t.isLt; omega)).2.2.2.2 y + add m c t y := by
  rw [outsAt0_B m c t h0 h1]
  frame_out [read_unread_whole]
  exact step_eq (b0 m c t) (b2 m c t) (b3 m c t) (b4 m c t) _ _
theorem tC (t : Fin cfg0.N) (h0 : ¬t.val % 4 = 0) (h1 : t.val % 4 = 3) :
   (outsAt0 m c t.val t.isLt).2.2.2.2 = fun y => (outsAt0 m c (t.val - 1) (by have := t.isLt; omega)).2.2.2.2 y + add m c t y := by
  rw [outsAt0_C m c t h0 h1]
  frame_out [read_unread_whole]
  exact step_eq (b0 m c t) (b2 m c t) (b3 m c t) (b4 m c t) _ _
theorem tA (t : Fin cfg0.N) (h0 : t.val % 4 = 0) (h1 : ¬t.val % 4 = 3) :
   (outsAt0 m c t.val t.isLt).2.2.2.2 = fun y => 0 + add m c t y := by
  rw [outsAt0_A m c t h0 h1]
  frame_out [read_unread_whole]
  rw [View.readCov_skip _ _ _ _ _ (by decide +kernel), View.readCov_fill _ _ _ _ rB (by decide), View.readCov_fill _ _ _ _ rA (by decide)]
  refine (step_eq (b0 m c t) (b2 m c t) (b3 m c t) (b4 m c t) (k0_pay5 (F := Ideal)) _).trans ?_
  funext y
  rw [zero_at]
  rfl
theorem whole_idx {α : Type} (G : S1024x1024.Idx → α) :
    (fun j => G ((Rect.unit (s := S1024x1024) ![0, 0] ![1024, 1024] inb_S1024x1024_S1024x1024_0_0).idx j)) = G := by
  funext j
  refine congrArg G (funext fun a => Fin.ext ((Rect.idx_unit_val _ _ _ _ a).trans ?_))
  fin_cases a <;> simp
theorem t7 (t : Fin cfg0.N) (h0 : ¬t.val % 4 = 0) (h1 : t.val % 4 = 3) :
   (outsAt0 m c t.val t.isLt).1 = k0_pay2 (F := Ideal) (b1 m c t) (outsAt0 m c t.val t.isLt).2.2.2.2 := by
  rw [tC m c t h0 h1, outsAt0_C m c t h0 h1]
  frame_out [read_unread_whole]
  rw [View.readCov_eq_canon', step_eq]
  exact congrArg (k0_pay2 (F := Ideal) (b1 m c t)) (whole_idx (fun y => (outsAt0 m c (t.val - 1) (by have := t.isLt; omega)).2.2.2.2 y + add m c t y))
theorem t8 (t : Fin cfg0.N) (h0 : ¬t.val % 4 = 0) (h1 : t.val % 4 = 3) :
   (outsAt0 m c t.val t.isLt).2.1 = k0_pay3 (F := Ideal) (b1 m c t) (outsAt0 m c t.val t.isLt).2.2.2.2 (b5 m c t) := by
  rw [tC m c t h0 h1, outsAt0_C m c t h0 h1]
  frame_out [read_unread_whole]
  rw [View.readCov_eq_canon', step_eq]
  exact congrArg (fun z => k0_pay3 (F := Ideal) (b1 m c t) z (b5 m c t)) (whole_idx (fun y => (outsAt0 m c (t.val - 1) (by have := t.isLt; omega)).2.2.2.2 y + add m c t y))
theorem t9 (t : Fin cfg0.N) (h0 : ¬t.val % 4 = 0) (h1 : t.val % 4 = 3) :
   (outsAt0 m c t.val t.isLt).2.2.1 = k0_pay4 (F := Ideal) (b1 m c t) (outsAt0 m c t.val t.isLt).2.2.2.2 (b6 m c t) := by
  rw [tC m c t h0 h1, outsAt0_C m c t h0 h1]
  frame_out [read_unread_whole]
  rw [View.readCov_eq_canon', step_eq]
  exact congrArg (fun z => k0_pay4 (F := Ideal) (b1 m c t) z (b6 m c t)) (whole_idx (fun y => (outsAt0 m c (t.val - 1) (by have := t.isLt; omega)).2.2.2.2 y + add m c t y))

/-! ## The four blocks of saved products a point stores -/
/-- The saved products of a point. -/
def gu (X : FVec Ideal S1024x1024 .bf16) (wg wu : FVec Ideal S2x1x352x1024 .bf16) (y : S1x2x1024x704.Idx) : EReal :=
  pr (n := 1024) (fun R j => X (ix2 R j)) (if (y 1).val = 0 then wg else wu) (y 2) (y 3)
abbrev L10 (X : FVec Ideal S1024x1024 .bf16) (wg wu : FVec Ideal S2x1x352x1024 .bf16) : List (View.Piece (Elt Ideal) S1x2x1024x704 .bf16) := [
    ⟨Rect.unit (s := S1x2x1024x704) ![0, 1, 512, 0] ![1, 1, 512, 704] inb_S1x2x1024x704_S1x1x512x704_0_1_512_0, k0_pay17 (F := Ideal) (View.ld X rB) wu⟩,
    ⟨Rect.unit (s := S1x2x1024x704) ![0, 0, 512, 0] ![1, 1, 512, 704] inb_S1x2x1024x704_S1x1x512x704_0_0_512_0, k0_pay16 (F := Ideal) (View.ld X rB) wg⟩,
    ⟨Rect.unit (s := S1x2x1024x704) ![0, 1, 0, 0] ![1, 1, 512, 704] inb_S1x2x1024x704_S1x1x512x704_0_1_0_0, k0_pay10 (F := Ideal) (View.ld X rA) wu⟩,
    ⟨Rect.unit (s := S1x2x1024x704) ![0, 0, 0, 0] ![1, 1, 512, 704] inb_S1x2x1024x704_S1x1x512x704_0_0_0_0, k0_pay9 (F := Ideal) (View.ld X rA) wg⟩]
theorem pr_congr {n n' : ℕ} {h : Fin n → Fin 1024 → EReal} {h' : Fin n' → Fin 1024 → EReal} (w : FVec Ideal S2x1x352x1024 .bf16) {r : Fin n} {r' : Fin n'} {k k' : Fin 704}
    (e : ∀ j, h r j = h' r' j) (ek : k = k') : pr h w r k = pr h' w r' k' := by
  subst ek
  exact Finset.sum_congr rfl fun j _ => by rw [e j]
theorem gu_emb (X : FVec Ideal S1024x1024 .bf16) (wg wu : FVec Ideal S2x1x352x1024 .bf16) (a b : ℕ) (inb) (r : Fin 512) (k : Fin 704) (i : Fin 2) (R : Fin 1024)
    (hi : i.val = a) (hR : R.val = b + r.val) :
    gu X wg wu ((Rect.unit (s := S1x2x1024x704) ![0, a, b, 0] ![1, 1, 512, 704] inb).emb (ix4 0 0 r k : S1x1x512x704.Idx)) = gu X wg wu (ix4 0 i R k) := by
  refine congrArg (gu X wg wu) (funext fun q => Fin.ext ((Rect.idx_unit_val _ _ _ _ q).trans ?_))
  fin_cases q <;> simp [hi, hR]
theorem mem10 (a b : ℕ) (inb) (i : Fin 2) (R : Fin 1024) (k : Fin 704) (hi : i.val = a) (h : b ≤ R.val ∧ R.val < b + 512) :
    (ix4 0 i R k : S1x2x1024x704.Idx) ∈ (Rect.unit (s := S1x2x1024x704) ![0, a, b, 0] ![1, 1, 512, 704] inb).set :=
  Rect.mem_set_unit.mpr fun q => by
    fin_cases q
    · simp
    · simp [hi]
    · exact h
    · exact ⟨Nat.zero_le _, by simpa using k.isLt⟩
theorem L10_eq (X : FVec Ideal S1024x1024 .bf16) (wg wu : FVec Ideal S2x1x352x1024 .bf16) : View.canon (L10 X wg wu) = gu X wg wu := by
  funext y
  refine View.canon_apply_of_pieces (Val := Elt Ideal) (gu X wg wu) (L10 X wg wu) (fun z hz x => ?_) y ?_
  · simp only [L10, List.mem_cons, List.not_mem_nil, or_false] at hz
    obtain rfl | rfl | rfl | rfl := hz
    all_goals obtain ⟨r, k, rfl⟩ : ∃ (r : Fin 512) (k : Fin 704), x = (ix4 0 0 r k : S1x1x512x704.Idx) := ⟨x 2, x 3, by blk_ext []⟩
    · refine (upB_at _ _ r k).trans (Eq.trans ?_ (gu_emb X wg wu 1 512 inb_S1x2x1024x704_S1x1x512x704_0_1_512_0 r k 1 (hi r) rfl rfl).symm)
      exact pr_congr (h := fun r j => (View.ld X rB : Vec Ideal S512x1024 .bf16) (ix2 r j)) (h' := fun R j => X (ix2 R j)) wu (r := r) (r' := hi r)
        (k := k) (k' := k) (fun j => ldB (e := .bf16) X r j) rfl
    · refine (gateB_at _ _ r k).trans (Eq.trans ?_ (gu_emb X wg wu 0 512 inb_S1x2x1024x704_S1x1x512x704_0_0_512_0 r k 0 (hi r) rfl rfl).symm)
      exact pr_congr (h := fun r j => (View.ld X rB : Vec Ideal S512x1024 .bf16) (ix2 r j)) (h' := fun R j => X (ix2 R j)) wg (r := r) (r' := hi r)
        (k := k) (k' := k) (fun j => ldB (e := .bf16) X r j) rfl
    · refine (upA_at _ _ r k).trans (Eq.trans ?_ (gu_emb X wg wu 1 0 inb_S1x2x1024x704_S1x1x512x704_0_1_0_0 r k 1 (lo r) rfl (by simp [lo])).symm)
      exact pr_congr (h := fun r j => (View.ld X rA : Vec Ideal S512x1024 .bf16) (ix2 r j)) (h' := fun R j => X (ix2 R j)) wu (r := r) (r' := lo r)
        (k := k) (k' := k) (fun j => ldA (e := .bf16) X r j) rfl
    · refine (gateA_at _ _ r k).trans (Eq.trans ?_ (gu_emb X wg wu 0 0 inb_S1x2x1024x704_S1x1x512x704_0_0_0_0 r k 0 (lo r) rfl (by simp [lo])).symm)
      exact pr_congr (h := fun r j => (View.ld X rA : Vec Ideal S512x1024 .bf16) (ix2 r j)) (h' := fun R j => X (ix2 R j)) wg (r := r) (r' := lo r)
        (k := k) (k' := k) (fun j => ldA (e := .bf16) X r j) rfl
  · obtain ⟨i, R, k, rfl⟩ : ∃ (i : Fin 2) (R : Fin 1024) (k : Fin 704), y = (ix4 0 i R k : S1x2x1024x704.Idx) := ⟨y 1, y 2, y 3, by blk_ext []⟩
    by_cases h : R.val < 512 <;> fin_cases i
    · exact ⟨_, List.mem_cons_of_mem _ (List.mem_cons_of_mem _ (List.mem_cons_of_mem _ List.mem_cons_self)),
        mem10 0 0 inb_S1x2x1024x704_S1x1x512x704_0_0_0_0 0 R k rfl (by omega)⟩
    · exact ⟨_, List.mem_cons_of_mem _ (List.mem_cons_of_mem _ List.mem_cons_self), mem10 1 0 inb_S1x2x1024x704_S1x1x512x704_0_1_0_0 1 R k rfl (by omega)⟩
    · exact ⟨_, List.mem_cons_of_mem _ List.mem_cons_self, mem10 0 512 inb_S1x2x1024x704_S1x1x512x704_0_0_512_0 0 R k rfl (by omega)⟩
    · exact ⟨_, List.mem_cons_self, mem10 1 512 inb_S1x2x1024x704_S1x1x512x704_0_1_512_0 1 R k rfl (by omega)⟩
theorem t10 (t : Fin cfg0.N) : (outsAt0 m c t.val t.isLt).2.2.2.1 = gu (b0 m c t) (b2 m c t) (b3 m c t) := by
  by_cases h0 : t.val % 4 = 0
  · rw [outsAt0_A m c t h0 (by omega)]
    frame_out
    exact L10_eq (b0 m c t) (b2 m c t) (b3 m c t)
  · by_cases h1 : t.val % 4 = 3
    · rw [outsAt0_C m c t h0 h1]
      frame_out
      exact L10_eq (b0 m c t) (b2 m c t) (b3 m c t)
    · rw [outsAt0_B m c t h0 h1]
      frame_out
      exact L10_eq (b0 m c t) (b2 m c t) (b3 m c t)
end Cert.Kernel2Ideal.Hand
-- ==== Proof.FwdFinal.lean ====
module

public import proofs.«01_k».proof.Proof.FwdValue
public import proofs.«01_k».proof.Proof.Gen.Reference2Ideal.Run
public import proofs.«01_k».proof.Defs
public import Idealize.ShloMosaic.Lib.Claim
public import Idealize.ShloMosaic.Lib.Quiescent

@[expose] public section

set_option maxRecDepth 16384
noncomputable section
open Idealize.ShloMosaic Idealize.ShloMosaic.TcCoe Idealize.SL.Sem
namespace Cert.Kernel2Ideal.Hand
open Cert.Kernel2Ideal Cert.Kernel2Ideal.Gen Cert.Reference2Ideal.Read
open Cert.ReferenceIdeal.Hand (hf vr kc kp)
open Cert.Reference2Ideal.Hand (nrm prod outR v23_at v74_at v88_at v89_gate v89_up)

variable (m : (ℓ : Loc nD τ sig) → Buf (Elt Ideal) ℓ) (c : Dev nD)

/-! # The arrays the call leaves -/

abbrev R23 : FVec Ideal S2048x1024 .f32 := val_main_v23 (F := Ideal) (A0 m c) (A1 m c) (A2 m c) (A3 m c) (A4 m c)
abbrev R74 : FVec Ideal S2048x1024 .bf16 := val_main_v74 (F := Ideal) (A0 m c) (A1 m c) (A2 m c) (A3 m c) (A4 m c) (A5 m c)
abbrev R88 : FVec Ideal S2048x1024 .bf16 := val_main_v88 (F := Ideal) (A0 m c) (A1 m c) (A2 m c) (A3 m c) (A4 m c) (A6 m c)
abbrev R89 : FVec Ideal S4x2x2048x704 .bf16 := val_main_v89 (F := Ideal) (A0 m c) (A1 m c) (A2 m c) (A3 m c)

/-- A point's products, and what it adds, from the arguments. -/
theorem pr_at (t : Fin cfg0.N) (w : FVec Ideal S2x1x352x1024 .bf16) (W : FVec Ideal S2x4x352x1024 .bf16)
    (hw : ∀ x p d, w (ix4 x 0 p d) = W (ix4 x (sh t) p d)) (R : Fin 1024) (k : Fin 704) :
    pr (fun R j => b0 m c t (ix2 R j)) w R k = prod (A0 m c) (A1 m c) W (row t R) (kc k) (sh t) (kp k) :=
  Finset.sum_congr rfl fun j _ => by beta_reduce; rw [b0_at, hw]
theorem add_at (t : Fin cfg0.N) (R d : Fin 1024) : add m c t (ix2 R d) = ∑ k : Fin 704,
    prod (A0 m c) (A1 m c) (A2 m c) (row t R) (kc k) (sh t) (kp k) * Cert.ReferenceIdeal.Hand.sig (prod (A0 m c) (A1 m c) (A2 m c) (row t R) (kc k) (sh t) (kp k))
      * prod (A0 m c) (A1 m c) (A3 m c) (row t R) (kc k) (sh t) (kp k) * A4 m c (ix4 (kc k) (sh t) (kp k) d) := by
  refine Finset.sum_congr rfl fun k _ => ?_
  have g := pr_at m c t (b2 m c t) (A2 m c) (b2_at m c t) R k
  have u := pr_at m c t (b3 m c t) (A3 m c) (b3_at m c t) R k
  have e := b4_at m c t (kc k) (kp k) d
  rw [← g, ← u, ← e, ← sgm_eq]
  rfl

/-- The sum over the shards when a row tile's last shard is done. -/
theorem sum_at (t : Fin cfg0.N) (h : t.val % 4 = 3) (R d : Fin 1024) : (outsAt0 m c t.val t.isLt).2.2.2.2 (ix2 R d)
    = ∑ e : Fin 4, ∑ k : Fin 704, prod (A0 m c) (A1 m c) (A2 m c) (row t R) (kc k) e (kp k)
        * Cert.ReferenceIdeal.Hand.sig (prod (A0 m c) (A1 m c) (A2 m c) (row t R) (kc k) e (kp k))
        * prod (A0 m c) (A1 m c) (A3 m c) (row t R) (kc k) e (kp k) * A4 m c (ix4 (kc k) e (kp k) d) := by
  have hl := lt8 t
  have s3 := congrFun (tC m c t (by omega) h) (ix2 R d)
  have s2 := congrFun (tB m c ⟨t.val - 1, by have := t.isLt; omega⟩ (by show ¬(t.val - 1) % 4 = 0; omega) (by show ¬(t.val - 1) % 4 = 3; omega)) (ix2 R d)
  have s1 := congrFun (tB m c ⟨t.val - 1 - 1, by have := t.isLt; omega⟩ (by show ¬(t.val - 1 - 1) % 4 = 0; omega) (by show ¬(t.val - 1 - 1) % 4 = 3; omega)) (ix2 R d)
  have s0 := congrFun (tA m c ⟨t.val - 1 - 1 - 1, by have := t.isLt; omega⟩ (by show (t.val - 1 - 1 - 1) % 4 = 0; omega) (by show ¬(t.val - 1 - 1 - 1) % 4 = 3; omega)) (ix2 R d)
  have r2 : row ⟨t.val - 1, by have := t.isLt; omega⟩ R = row t R := Fin.ext (by simp only [row]; omega)
  have r1 : row ⟨t.val - 1 - 1, by have := t.isLt; omega⟩ R = row t R := Fin.ext (by simp only [row]; omega)
  have r0 : row ⟨t.val - 1 - 1 - 1, by have := t.isLt; omega⟩ R = row t R := Fin.ext (by simp only [row]; omega)
  have e3 : sh t = 3 := Fin.ext h
  have e2 : sh ⟨t.val - 1, by have := t.isLt; omega⟩ = 2 := Fin.ext (by show (t.val - 1) % 4 = 2; omega)
  have e1 : sh ⟨t.val - 1 - 1, by have := t.isLt; omega⟩ = 1 := Fin.ext (by show (t.val - 1 - 1) % 4 = 1; omega)
  have e0 : sh ⟨t.val - 1 - 1 - 1, by have := t.isLt; omega⟩ = 0 := Fin.ext (by show (t.val - 1 - 1 - 1) % 4 = 0; omega)
  simp only [add_at, r2, r1, r0, e3, e2, e1, e0] at s3 s2 s1 s0
  rw [s3, s2, s1, s0, zero_add, Fin.sum_univ_four]

theorem res7 (t : Fin cfg0.N) (h : t.val % 4 = 3) (R d : Fin 1024) :
    k0_pay2 (F := Ideal) (b1 m c t) (outsAt0 m c t.val t.isLt).2.2.2.2 (ix2 R d) = outR (A0 m c) (A1 m c) (A2 m c) (A3 m c) (A4 m c) (row t R) d := by
  rw [res_at, sum_at m c t h, b1_at]
  rfl
theorem p7 (t : Fin cfg0.N) (h : t.val % 4 = 3) (y : S1024x1024.Idx) : (outsAt0 m c t.val t.isLt).1 y = R23 m c (ix2 (row t (y 0)) (y 1)) := by
  rw [t7 m c t (by omega) h]
  idx_vars y
  exact (res7 m c t h _ _).trans (v23_at _ _ _ _ _ _ _).symm
theorem p8 (t : Fin cfg0.N) (h : t.val % 4 = 3) (y : S1024x1024.Idx) : (outsAt0 m c t.val t.isLt).2.1 y = R74 m c (ix2 (row t (y 0)) (y 1)) := by
  rw [t8 m c t (by omega) h]
  idx_vars y
  refine (normA_at _ _ _ _ _).trans (Eq.trans ?_ (v74_at _ _ _ _ _ _ _ _).symm)
  simp only [res7 m c t h, b5_at]
theorem p9 (t : Fin cfg0.N) (h : t.val % 4 = 3) (y : S1024x1024.Idx) : (outsAt0 m c t.val t.isLt).2.2.1 y = R88 m c (ix2 (row t (y 0)) (y 1)) := by
  rw [t9 m c t (by omega) h]
  idx_vars y
  refine (normB_at _ _ _ _ _).trans (Eq.trans ?_ (v88_at _ _ _ _ _ _ _ _).symm)
  simp only [res7 m c t h, b6_at]
theorem p10 (t : Fin cfg0.N) (y : S1x2x1024x704.Idx) : (outsAt0 m c t.val t.isLt).2.2.2.1 y = R89 m c (ix4 (sh t) (y 1) (row t (y 2)) (y 3)) := by
  rw [t10 m c t]
  obtain ⟨i, R, k, rfl⟩ : ∃ (i : Fin 2) (R : Fin 1024) (k : Fin 704), y = (ix4 0 i R k : S1x2x1024x704.Idx) := ⟨y 1, y 2, y 3, by blk_ext []⟩
  fin_cases i
  · exact (pr_at m c t (b2 m c t) (A2 m c) (b2_at m c t) R k).trans (v89_gate _ _ _ _ _ _ _).symm
  · exact (pr_at m c t (b3 m c t) (A3 m c) (b3_at m c t) R k).trans (v89_up _ _ _ _ _ _ _).symm

theorem final7 : (dats m 0 c).arrAt 7 (cfgs 0).N = R23 m c := by
  refine (dats m 0 c).arrAt_eq_of_covers 7 _ (by decide +kernel) fun t hf y => ?_
  blk_simp
  rw [after0_7]
  refine (p7 m c t ((flush0_7 t).mp hf) y).trans ?_
  blk_ext [idxo t, row]
theorem final8 : (dats m 0 c).arrAt 8 (cfgs 0).N = R74 m c := by
  refine (dats m 0 c).arrAt_eq_of_covers 8 _ (by decide +kernel) fun t hf y => ?_
  blk_simp
  rw [after0_8]
  refine (p8 m c t ((flush0_8 t).mp hf) y).trans ?_
  blk_ext [idxo t, row]
theorem final9 : (dats m 0 c).arrAt 9 (cfgs 0).N = R88 m c := by
  refine (dats m 0 c).arrAt_eq_of_covers 9 _ (by decide +kernel) fun t hf y => ?_
  blk_simp
  rw [after0_9]
  refine (p9 m c t ((flush0_9 t).mp hf) y).trans ?_
  blk_ext [idxo t, row]
theorem final10 : (dats m 0 c).arrAt 10 (cfgs 0).N = R89 m c := by
  refine (dats m 0 c).arrAt_eq_of_covers 10 _ (by decide +kernel) fun t hf y => ?_
  blk_simp
  rw [after0_10]
  refine (p10 m c t y).trans ?_
  blk_ext [idxo t, row, sh]

/-- The call's run: the four results, and the arguments unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16_0) = R23 m c
      ∧ r.2.mem ((c.tc : Thread nD τ).loc main_v16_1) = R74 m c
      ∧ r.2.mem ((c.tc : Thread nD τ).loc main_v16_2) = R88 m c
      ∧ r.2.mem ((c.tc : Thread nD τ).loc main_v16_3) = R89 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7 |>.trans (final7 m c), (h.1 c).1 8 |>.trans (final8 m c),
      (h.1 c).1 9 |>.trans (final9 m c), (h.1 c).1 10 |>.trans (final10 m c), h.2.1 c⟩)
    (θ_run_and (run_main m ρ) (frame m ρ))

end Cert.Kernel2Ideal.Hand

namespace Cert.Hand
open Cert.Kernel2Ideal.Hand Cert.Reference2Ideal.Read

theorem algebraic2 : Cert.algebraic_Kernel2Ideal_Reference2Ideal (hKernel2Ideal := Cert.Kernel2Ideal.Gen.facts)
    (hReference2Ideal := Cert.Reference2Ideal.Gen.facts) := by
  intro m g m' g' hP hA
  refine ⟨fun c => R23 m c, fun c => R74 m c, fun c => R88 m c, fun c => R89 m c, run_value m g, ?_⟩
  refine (θ_run Cert.Reference2Ideal.defs _ _).mono (fun r h c => ?_) (Cert.Reference2Ideal.Value.run (F := Ideal) m' g')
  obtain ⟨a0, a1, a2, a3, a4, a5, a6⟩ := hA c
  obtain ⟨r0, r1, r2, r3, hargs⟩ := h c
  rw [val_main_v23_eq, a0, a1, a2, a3, a4] at r0
  rw [val_main_v74_eq, a0, a1, a2, a3, a4, a5] at r1
  rw [val_main_v88_eq, a0, a1, a2, a3, a4, a6] at r2
  rw [val_main_v89_eq, a0, a1, a2, a3] at r3
  exact ⟨r0, r1, r2, r3, hargs⟩

end Cert.Hand
-- ==== Proof.AttnMath.lean ====
module

public import proofs.«01_k».proof.Proof.Finite

@[expose] public section

set_option maxRecDepth 16384
noncomputable section
open Idealize.ShloMosaic
namespace Cert.Attn
open Cert.ReferenceIdeal.Hand (Fi mul_sum_fi)

/-! # A row of attention with a sink, over the extended reals

The kernel keeps the scores of the previous and of the current block of keys apart, and multiplies by the reciprocal of the
normaliser; the reference has one row of 256 scores, and divides. -/

/-- The two halves of the 256 keys of a query. -/
def lo (x : Fin 128) : Fin 256 := ⟨x.val, by omega⟩
def hi (x : Fin 128) : Fin 256 := ⟨128 + x.val, by omega⟩

theorem lo_or_hi (y : Fin 256) : (∃ x, y = lo x) ∨ ∃ x, y = hi x := by
  by_cases h : y.val < 128
  · exact Or.inl ⟨⟨y.val, h⟩, rfl⟩
  · exact Or.inr ⟨⟨y.val - 128, by omega⟩, Fin.ext (by simp only [hi]; omega)⟩
theorem sum_halves (f : Fin 256 → EReal) : ∑ y, f y = ∑ x, f (lo x) + ∑ x, f (hi x) :=
  (Fin.sum_univ_add (a := 128) (b := 128) f)

/-- The maximum of the scores and of the sink. -/
def mx (a b : Fin 128 → EReal) (s : EReal) : EReal :=
  max (max ((Finset.univ : Finset (Fin 128)).fold max ⊥ a) ((Finset.univ : Finset (Fin 128)).fold max ⊥ b)) s
/-- The normaliser. -/
def zed (a b : Fin 128 → EReal) (s m : EReal) : EReal :=
  ∑ x, Ideal.exp (a x - m) + ∑ x, Ideal.exp (b x - m) + Ideal.exp (s - m)
/-- The kernel's row. -/
def attn (a b : Fin 128 → EReal) (s : EReal) (u w : Fin 128 → EReal) : EReal :=
  ∑ x, Ideal.exp (a x - mx a b s) * Ideal.div 1 (zed a b s (mx a b s)) * u x
    + ∑ x, Ideal.exp (b x - mx a b s) * Ideal.div 1 (zed a b s (mx a b s)) * w x
/-- The reference's maximum and row. -/
def mxR (f : Fin 256 → EReal) (s : EReal) : EReal := max ((Finset.univ : Finset (Fin 256)).fold max ⊥ f) s
def attnR (f : Fin 256 → EReal) (s : EReal) (g : Fin 256 → EReal) : EReal :=
  ∑ y, g y * Ideal.div (Ideal.exp (f y - mxR f s)) (∑ y, Ideal.exp (f y - mxR f s) + Ideal.exp (s - mxR f s))

theorem fold_sup {n : ℕ} (f : Fin n → EReal) : (Finset.univ : Finset (Fin n)).fold max ⊥ f = Finset.univ.sup f := rfl

theorem mx_eq (f : Fin 256 → EReal) (s : EReal) : mxR f s = mx (fun x => f (lo x)) (fun x => f (hi x)) s := by
  unfold mxR mx
  rw [fold_sup, fold_sup, fold_sup]
  congr 1
  refine le_antisymm (Finset.sup_le fun y _ => ?_) (max_le (Finset.sup_le fun x _ => Finset.le_sup (f := f) (Finset.mem_univ _))
    (Finset.sup_le fun x _ => Finset.le_sup (f := f) (Finset.mem_univ _)))
  obtain ⟨x, rfl⟩ | ⟨x, rfl⟩ := lo_or_hi y
  · exact le_max_of_le_left (Finset.le_sup (f := fun x => f (lo x)) (Finset.mem_univ x))
  · exact le_max_of_le_right (Finset.le_sup (f := fun x => f (hi x)) (Finset.mem_univ x))

theorem exp_nonneg (x : EReal) : 0 ≤ Ideal.exp x := by
  induction x with
  | bot => exact le_refl _
  | coe r => exact EReal.coe_nonneg.mpr (Real.exp_pos r).le
  | top => exact le_top

/-- Finite scores (or masked ones) and a finite sink have a finite maximum. -/
theorem mx_fi (a b : Fin 128 → EReal) {s : EReal} (ha : ∀ x, a x ≠ ⊤) (hb : ∀ x, b x ≠ ⊤) (hs : Fi s) : Fi (mx a b s) := by
  obtain ⟨r, rfl⟩ := hs
  have h1 : mx a b r < ⊤ := by
    unfold mx
    rw [fold_sup, fold_sup]
    refine max_lt (max_lt ?_ ?_) (EReal.coe_lt_top r)
    · exact (Finset.sup_lt_iff bot_lt_top).mpr fun x _ => lt_top_iff_ne_top.mpr (ha x)
    · exact (Finset.sup_lt_iff bot_lt_top).mpr fun x _ => lt_top_iff_ne_top.mpr (hb x)
  have h2 : ⊥ < mx a b r := lt_of_lt_of_le (EReal.bot_lt_coe r) (le_max_right _ _)
  generalize mx a b r = z at h1 h2
  induction z with
  | bot => exact absurd h2 (lt_irrefl _)
  | coe r => exact ⟨r, rfl⟩
  | top => exact absurd h1 (lt_irrefl _)

theorem zed_ne (a b : Fin 128 → EReal) {s m : EReal} (hs : Fi s) (hm : Fi m) : zed a b s m ≠ 0 := by
  obtain ⟨r, rfl⟩ := hs
  obtain ⟨q, rfl⟩ := hm
  refine ne_of_gt (lt_of_lt_of_le (b := Ideal.exp ((r : EReal) - q)) ?_ ?_)
  · rw [← EReal.coe_sub]
    exact EReal.coe_pos.mpr (Real.exp_pos _)
  · unfold zed
    exact le_add_of_nonneg_left (add_nonneg (Finset.sum_nonneg fun _ _ => exp_nonneg _) (Finset.sum_nonneg fun _ _ => exp_nonneg _))

theorem div_ne {x z : EReal} (h : z ≠ 0) : Ideal.div x z = x * Ideal.div 1 z := by
  unfold Ideal.div
  rw [if_neg h, if_neg h, one_mul]

/-- The two rows agree. Where a score is masked the value it meets does not matter. -/
theorem attn_eq (a b u w : Fin 128 → EReal) (f g : Fin 256 → EReal) {s : EReal} (ha : ∀ x, a x ≠ ⊤) (hb : ∀ x, b x ≠ ⊤) (hs : Fi s)
    (fa : ∀ x, f (lo x) = a x) (fb : ∀ x, f (hi x) = b x) (gu : ∀ x, g (lo x) = u x ∨ a x = ⊥) (gw : ∀ x, g (hi x) = w x) :
    attn a b s u w = attnR f s g := by
  have hm := mx_fi a b ha hb hs
  have hz := zed_ne a b hs hm
  have hM : mxR f s = mx a b s := by rw [mx_eq, funext fa, funext fb]
  unfold attnR
  rw [hM]
  generalize hmm : mx a b s = M at hm hz ⊢
  have hZ : (∑ y, Ideal.exp (f y - M) + Ideal.exp (s - M)) = zed a b s M := by
    rw [sum_halves]; simp only [fa, fb]; rfl
  rw [hZ, sum_halves]
  unfold attn
  rw [hmm]
  refine congrArg₂ (· + ·) (Finset.sum_congr rfl fun x _ => ?_) (Finset.sum_congr rfl fun x _ => ?_)
  · rw [fa, div_ne (x := Ideal.exp (a x - M)) hz]
    obtain h | h := gu x
    · rw [h, mul_comm]
    · obtain ⟨r, rfl⟩ := hm
      have h0 : Ideal.exp ((⊥ : EReal) - (r : EReal)) = 0 := by rw [EReal.bot_sub]; rfl
      rw [h, h0, zero_mul, zero_mul, mul_zero]
  · rw [fb, gw, div_ne (x := Ideal.exp (b x - M)) hz, mul_comm]

/-! ## Words -/

theorem bot_bits : Ideal.ofBits FTy.f32 0xFF800000#32 = ⊥ := by
  simp [Ideal.ofBits, Ideal.ieee]
theorem eighth : Fi (Ideal.ofBits FTy.f32 0x3E000000#32) := by
  refine ⟨1 / 8, ?_⟩
  simp [Ideal.ofBits, Ideal.ieee, -EReal.coe_mul]; norm_num

theorem and127 : ∀ r : Fin 512, IntOp.andi (BitVec.ofNat 32 r.val) 127#32 = BitVec.ofNat 32 (r.val % 128) := by decide +kernel
theorem sgt128 : ∀ j p : Fin 128, IntOp.cmpi .sgt (BitVec.ofNat 32 j.val) (BitVec.ofNat 32 p.val) = if p.val < j.val then 1#1 else 0#1 := by decide +kernel
theorem sle128 : ∀ j p : Fin 128, IntOp.cmpi .sle (BitVec.ofNat 32 j.val) (BitVec.ofNat 32 p.val) = if j.val ≤ p.val then 1#1 else 0#1 := by decide +kernel
theorem sgt0 : ∀ i : Fin 16, IntOp.cmpi .sgt (BitVec.ofNat 32 i.val) 0#32 = if 0 < i.val then 1#1 else 0#1 := by decide +kernel
theorem sge128 : ∀ j : Fin 256, IntOp.cmpi .sge (BitVec.ofNat 32 j.val) 128#32 = if 128 ≤ j.val then 1#1 else 0#1 := by decide +kernel
theorem band : ∀ (p : Fin 128) (j : Fin 256), IntOp.andi (IntOp.cmpi .sle (BitVec.ofNat 32 j.val) (IntOp.addi (BitVec.ofNat 32 p.val) 128#32))
    (IntOp.cmpi .sgt (BitVec.ofNat 32 j.val) (IntOp.subi (IntOp.addi (BitVec.ofNat 32 p.val) 128#32) 128#32))
    = if j.val ≤ p.val + 128 ∧ p.val < j.val then 1#1 else 0#1 := by decide +kernel

end Cert.Attn
-- ==== Proof.AttnHead.lean ====
module

public import proofs.«01_k».proof.Proof.Gen.Kernel3Ideal.Frame
public import proofs.«01_k».proof.Proof.AttnMath
public import Idealize.ShloMosaic.Lib.Pipeline.ValueKit

@[expose] public section

set_option maxRecDepth 16384
noncomputable section
open Idealize.ShloMosaic Idealize.ShloMosaic.TcCoe Idealize.SL.Sem
namespace Cert.Kernel3Ideal.Hand
open Cert.Kernel3Ideal Cert.Kernel3Ideal.Gen Cert.Attn

/-! What one head of a point of the attention computes, over the extended reals. -/

section
variable (i : grid0.Coords) (q : FVec Ideal S4x128x64 .bf16) (kp kc vp vc : FVec Ideal S1x128x64 .bf16) (sk : FVec Ideal S1x512x1 .f32)

/-- The result of one key head's queries. -/
def head : FVec Ideal S4x128x64 .bf16 :=
  k0_pay11 (F := Ideal) (k0_pay8 i q kp kc sk) (k0_pay9 i q kp kc sk) (k0_pay10 i q kp kc sk) vp vc

theorem head0_eq : k0_pay11 (F := Ideal) (k0_pay8 i q kp kc sk) (k0_pay9 i q kp kc sk) (k0_pay10 i q kp kc sk) vp vc
    = head i q kp kc vp vc sk := rfl
theorem head1_eq : k0_pay25 (F := Ideal)
    (k0_pay23 (BitVec.ofNat 32 (i 0).val) (k0_pay12 q) (k0_pay13 kp) (k0_pay14 kc) (k0_pay15 sk) (constant S512x128 .f32 0x00000000#32) vp)
    (k0_pay24 (BitVec.ofNat 32 (i 0).val) (k0_pay12 q) (k0_pay13 kp) (k0_pay14 kc) (k0_pay15 sk) (constant S512x128 .f32 0x00000000#32)) vc
    = head i q kp kc vp vc sk := rfl
theorem head2_eq : k0_pay32 (F := Ideal) (k0_pay27 sk) (k0_pay29 (BitVec.ofNat 32 (i 0).val) q kp) (k0_pay30 q kc)
    (k0_pay31 (BitVec.ofNat 32 (i 0).val) q kp) vp vc = head i q kp kc vp vc sk := rfl
theorem head3_eq : k0_pay1 (F := Ideal) (k0_pay39 (BitVec.ofNat 32 (i 0).val) (k0_pay33 q) kp kc sk)
    (k0_pay40 (BitVec.ofNat 32 (i 0).val) (k0_pay33 q) kp kc sk) (k0_pay41 (BitVec.ofNat 32 (i 0).val) (k0_pay33 q) kp kc sk)
    (k0_pay42 (F := Ideal)) vp vc = head i q kp kc vp vc sk := rfl

/-- The scores of a query with the keys of the previous block and of its own, without the mask. -/
def dot (k : FVec Ideal S1x128x64 .bf16) (g : Fin 4) (p j : Fin 128) : EReal := ∑ x : Fin 64, q (ix3 g p x) * k (ix3 0 j x)
/-- The row of a query in a head's rows. -/
def rw4 (g : Fin 4) (p : Fin 128) : Fin 512 := ⟨g.val * 128 + p.val, by omega⟩
theorem rw4_div (g : Fin 4) (p : Fin 128) (h) : (⟨(rw4 g p).val / 128, h⟩ : Fin 4) = g := Fin.ext (by simp only [rw4]; omega)
theorem rw4_mod (g : Fin 4) (p : Fin 128) (h) : (⟨(rw4 g p).val % 128, h⟩ : Fin 128) = p := Fin.ext (by simp only [rw4]; omega)
theorem rw4_mod' (g : Fin 4) (p : Fin 128) : (rw4 g p).val % 128 = p.val := by simp only [rw4]; omega

theorem mask_bot : (Named.named κ "mask" 4048155338#32 : Ideal .f32) = (⊥ : EReal) :=
  IdealRules.named_const.ideal_named_scalar _ _ _ _ rfl

theorem m_at (r : Fin 512) : k0_pay7 (F := Ideal) i q kp kc sk (ix2 r 0)
    = mx (fun x => k0_pay5 (F := Ideal) i q kp (ix2 r x)) (fun x => k0_pay6 (F := Ideal) q kc (ix2 r x)) (sk (ix3 0 r 0)) := by
  rw [k0_pay7]
  generalize k0_pay5 (F := Ideal) i q kp = a
  generalize k0_pay6 (F := Ideal) q kc = b
  pointwise [k0_pay3]
  rw [bot_bits]
  rfl
theorem sp_at (g : Fin 4) (p j : Fin 128) : k0_pay5 (F := Ideal) i q kp (ix2 (rw4 g p) j)
    = if p.val < j.val ∧ 0 < (i 0).val then dot q kp g p j else ⊥ := by
  pointwise [k0_pay5, k0_pay2, k0_pay4]
  simp only [rw4_div, rw4_mod]
  rw [and127, rw4_mod', sgt128, mask_bot]
  have h := sgt0 (i 0)
  change Scalar.select (IntOp.andi _ (IntOp.cmpi .sgt (BitVec.ofNat 32 (i 0).val) 0#32)) _ _ = _
  rw [h]
  by_cases h1 : p.val < j.val
  · by_cases h2 : 0 < (i 0).val
    · rw [if_pos h1, if_pos h2, if_pos ⟨h1, h2⟩]; rfl
    · rw [if_pos h1, if_neg h2, if_neg fun h => h2 h.2]; rfl
  · by_cases h2 : 0 < (i 0).val
    · rw [if_neg h1, if_pos h2, if_neg fun h => h1 h.1]; rfl
    · rw [if_neg h1, if_neg h2, if_neg fun h => h1 h.1]; rfl
theorem sc_at (g : Fin 4) (p j : Fin 128) : k0_pay6 (F := Ideal) q kc (ix2 (rw4 g p) j)
    = if j.val ≤ p.val then dot q kc g p j else ⊥ := by
  pointwise [k0_pay6, k0_pay2, k0_pay4]
  simp only [rw4_div, rw4_mod]
  rw [and127, rw4_mod', sle128, mask_bot]
  by_cases h1 : j.val ≤ p.val
  · rw [if_pos h1, if_pos h1]; rfl
  · rw [if_neg h1, if_neg h1]; rfl

/-- A head's result, a row of attention. -/
theorem head_at (g : Fin 4) (p : Fin 128) (d : Fin 64) : head i q kp kc vp vc sk (ix3 g p d)
    = attn (fun j => if p.val < j.val ∧ 0 < (i 0).val then dot q kp g p j else ⊥) (fun j => if j.val ≤ p.val then dot q kc g p j else ⊥)
        (sk (ix3 0 (rw4 g p) 0)) (fun x => vp (ix3 0 x d)) (fun x => vc (ix3 0 x d)) := by
  have hm := m_at i q kp kc sk (rw4 g p)
  have hp : (fun j => k0_pay5 (F := Ideal) i q kp (ix2 (rw4 g p) j)) = _ := funext fun j => sp_at i q kp g p j
  have hc : (fun j => k0_pay6 (F := Ideal) q kc (ix2 (rw4 g p) j)) = _ := funext fun j => sc_at q kc g p j
  rw [← hp, ← hc]
  rw [head, k0_pay8, k0_pay9, k0_pay10]
  generalize k0_pay5 (F := Ideal) i q kp = a at hm ⊢
  generalize k0_pay6 (F := Ideal) q kc = b at hm ⊢
  generalize k0_pay7 (F := Ideal) i q kp kc sk = e at hm ⊢
  unfold attn
  rw [← hm]
  pointwise [k0_pay11, k0_pay3]
  rfl
end
end Cert.Kernel3Ideal.Hand
-- ==== Proof.AttnRef.lean ====
module

public import proofs.«01_k».proof.Proof.Gen.Reference3Ideal.Read
public import proofs.«01_k».proof.Proof.AttnMath
public import Idealize.ShloMosaic.Lib.Pipeline.ValueKit

@[expose] public section

set_option maxRecDepth 16384
noncomputable section
open Idealize.ShloMosaic Idealize.ShloMosaic.TcCoe Idealize.SL.Sem
namespace Cert.Reference3Ideal.Hand
open Cert.Reference3Ideal Cert.Reference3Ideal.Gen Cert.Reference3Ideal.Read Cert.Attn

/-! The attention's reference, stage by stage, over the extended reals. -/

variable (x0 : FVec Ideal S2048x1024 .f32) (x1 x2 : FVec Ideal S2048x256 .bf16) (x3 : FVec Ideal S1x16 .f32)

theorem v5_lo (n : Fin 16) (j : Fin 128) (k : Fin 4) (d : Fin 64) (h : 0 < n.val) :
    val_main_v5 (F := Ideal) x1 (ix4 n (lo j) k d) = x1 (ix2 ⟨(n.val - 1) * 128 + j.val, by omega⟩ ⟨k.val * 64 + d.val, by omega⟩) := by
  pointwise [val_main_v5, val_main_v4, val_main_v3, val_main_v2, val_main_v1, val_main_call0_v0, val_main_c]
  have h1 : (lo j).val < 128 := j.isLt
  have h2 : (1 ≤ n.val ∧ n.val - 1 < 15) ∧ (lo j).val < 128 := ⟨⟨h, by omega⟩, h1⟩
  rw [dif_pos h1, dif_pos h2]
  rfl
theorem v5_hi (n : Fin 16) (j : Fin 128) (k : Fin 4) (d : Fin 64) :
    val_main_v5 (F := Ideal) x1 (ix4 n (hi j) k d) = x1 (ix2 ⟨n.val * 128 + j.val, by omega⟩ ⟨k.val * 64 + d.val, by omega⟩) := by
  pointwise [val_main_v5, val_main_v4, val_main_v3, val_main_v2, val_main_v1, val_main_call0_v0, val_main_c]
  have h1 : ¬(hi j).val < 128 := by simp only [hi]; omega
  rw [dif_neg h1]
  refine congrArg x1 (congrArg₂ ix2 (Fin.ext ?_) rfl)
  simp only [hi]; omega
theorem v10_lo (n : Fin 16) (j : Fin 128) (k : Fin 4) (d : Fin 64) (h : 0 < n.val) :
    val_main_v10 (F := Ideal) x2 (ix4 n (lo j) k d) = x2 (ix2 ⟨(n.val - 1) * 128 + j.val, by omega⟩ ⟨k.val * 64 + d.val, by omega⟩) := v5_lo x2 n j k d h
theorem v10_hi (n : Fin 16) (j : Fin 128) (k : Fin 4) (d : Fin 64) :
    val_main_v10 (F := Ideal) x2 (ix4 n (hi j) k d) = x2 (ix2 ⟨n.val * 128 + j.val, by omega⟩ ⟨k.val * 64 + d.val, by omega⟩) := v5_hi x2 n j k d

/-- An entry of the queries. -/
def qry (n : Fin 16) (k g : Fin 4) (p : Fin 128) (x : Fin 64) : EReal :=
  x0 (ix2 ⟨n.val * 128 + p.val, by omega⟩ ⟨k.val * 256 + g.val * 64 + x.val, by omega⟩)
theorem v14_at (n : Fin 16) (k g : Fin 4) (p : Fin 128) (j : Fin 256) : val_main_v14 (F := Ideal) x0 x1 (ix5 n k g p j)
    = (∑ x, val_main_v5 (F := Ideal) x1 (ix4 n j k x) * qry x0 n k g p x) * Ideal.ofBits FTy.f32 0x3E000000#32 := by
  rw [val_main_v14, val_main_v12, val_main_v11]
  generalize val_main_v5 (F := Ideal) x1 = y
  pointwise [val_main_v0, val_main_v13, val_main_cst]
  rfl
theorem v45_at (n : Fin 16) (k g : Fin 4) (p : Fin 128) (j : Fin 256) : val_main_v45 (F := Ideal) x0 x1 (ix5 n k g p j)
    = if (j.val ≤ p.val + 128 ∧ p.val < j.val) ∧ (0 < n.val ∨ 128 ≤ j.val) then val_main_v14 (F := Ideal) x0 x1 (ix5 n k g p j) else ⊥ := by
  rw [val_main_v45]
  generalize val_main_v14 (F := Ideal) x0 x1 = y
  pointwise [val_main_call2_v2, val_main_call2_v1, val_main_call2_v0, val_main_cst_5, val_main_v44, val_main_v43, val_main_v42, val_main_v41, val_main_v40, val_main_v39, val_main_v38, val_main_v37, val_main_v36, val_main_v35, val_main_v34, val_main_c_4, val_main_v33, val_main_v32, val_main_v31, val_main_c_3, val_main_v30, val_main_v29, val_main_v28, val_main_v27, val_main_v26, val_main_v25, val_main_v24, val_main_c_2, val_main_v23, val_main_v22, val_main_v21, val_main_v20, val_main_v19, val_main_v18, val_main_v17, val_main_c_1, val_main_v16, val_main_v15]
  rw [band, sgt0, sge128]
  have hb : (id (constant S_ FTy.f32 4286578688#32) ix0 : Ideal .f32) = (⊥ : EReal) := bot_bits
  rw [hb]
  by_cases h1 : j.val ≤ p.val + 128 ∧ p.val < j.val
  · by_cases h2 : 0 < n.val
    · by_cases h3 : 128 ≤ j.val
      · rw [if_pos h1, if_pos h2, if_pos h3, if_pos ⟨h1, Or.inl h2⟩]; rfl
      · rw [if_pos h1, if_pos h2, if_neg h3, if_pos ⟨h1, Or.inl h2⟩]; rfl
    · by_cases h3 : 128 ≤ j.val
      · rw [if_pos h1, if_neg h2, if_pos h3, if_pos ⟨h1, Or.inr h3⟩]; rfl
      · rw [if_pos h1, if_neg h2, if_neg h3, if_neg fun h => h.2.elim h2 h3]; rfl
  · have h4 : ¬((j.val ≤ p.val + 128 ∧ p.val < j.val) ∧ (0 < n.val ∨ 128 ≤ j.val)) := fun h => h1 h.1
    rw [if_neg h1, if_neg h4]
    by_cases h2 : 0 < n.val
    · by_cases h3 : 128 ≤ j.val
      · rw [if_pos h2, if_pos h3]; rfl
      · rw [if_pos h2, if_neg h3]; rfl
    · by_cases h3 : 128 ≤ j.val
      · rw [if_neg h2, if_pos h3]; rfl
      · rw [if_neg h2, if_neg h3]; rfl

theorem v48_at (n : Fin 16) (k g : Fin 4) (p : Fin 128) : val_main_v48 (F := Ideal) x0 x1 (ix4 n k g p)
    = (Finset.univ : Finset (Fin 256)).fold max ⊥ (fun x => val_main_v45 (F := Ideal) x0 x1 (ix5 n k g p x)) := by
  rw [val_main_v48]
  generalize val_main_v45 (F := Ideal) x0 x1 = y
  generalize hc : val_main_cst_6 (F := Ideal) = c
  have hb : c (Shape.Idx.first h_S_) = (⊥ : EReal) := by rw [← hc]; exact bot_bits
  rw [← hb]
  clear hc hb
  simp only [pointwise]
theorem v49_at (n : Fin 16) (k g : Fin 4) (p : Fin 128) : val_main_v49 (F := Ideal) x3 (ix4 n k g p) = x3 (ix2 0 ⟨k.val * 4 + g.val, by omega⟩) := by
  pointwise [val_main_v49, val_main_v47, val_main_v46]
theorem v50_at (n : Fin 16) (k g : Fin 4) (p : Fin 128) : val_main_v50 (F := Ideal) x0 x1 x3 (ix4 n k g p)
    = mxR (fun x => val_main_v45 (F := Ideal) x0 x1 (ix5 n k g p x)) (x3 (ix2 0 ⟨k.val * 4 + g.val, by omega⟩)) := by
  rw [val_main_v50_apply, v48_at, v49_at]
  rfl

/-- The head of the keys and the head among its queries, and a row's block and its row there. -/
def hk (h : Fin 16) : Fin 4 := ⟨h.val / 4, by omega⟩
def hg (h : Fin 16) : Fin 4 := ⟨h.val % 4, by omega⟩
def bn (s : Fin 2048) : Fin 16 := ⟨s.val / 128, by omega⟩
def bp (s : Fin 2048) : Fin 128 := ⟨s.val % 128, by omega⟩

theorem v67_at (h : Fin 16) (s : Fin 2048) (d : Fin 64) : val_main_v67 (F := Ideal) x0 x1 x2 x3 (ix3 h s d)
    = attnR (fun y => val_main_v45 (F := Ideal) x0 x1 (ix5 (bn s) (hk h) (hg h) (bp s) y)) (x3 (ix2 0 h))
        (fun y => val_main_v10 (F := Ideal) x2 (ix4 (bn s) y (hk h) d)) := by
  have hm := v50_at x0 x1 x3 (bn s) (hk h) (hg h) (bp s)
  have e : (⟨(hk h).val * 4 + (hg h).val, by omega⟩ : Fin 16) = h := Fin.ext (by simp only [hk, hg]; omega)
  rw [e] at hm
  rw [val_main_v67, val_main_v66, val_main_v65, val_main_v64, val_main_v63, val_main_v62, val_main_v61, val_main_v60, val_main_v59, val_main_v58, val_main_v57, val_main_v55, val_main_v54, val_main_v53, val_main_v52, val_main_v51]
  generalize val_main_v45 (F := Ideal) x0 x1 = a at hm ⊢
  generalize val_main_v50 (F := Ideal) x0 x1 x3 = b at hm ⊢
  generalize val_main_v10 (F := Ideal) x2 = c
  unfold attnR
  rw [← hm]
  pointwise [val_main_v56, val_main_v47, val_main_v46, val_main_cst_7]
  rfl
end Cert.Reference3Ideal.Hand
-- ==== Proof.AttnBlocks.lean ====
module

public import proofs.«01_k».proof.Proof.AttnHead
public import proofs.«01_k».proof.Proof.AttnRef
public import Idealize.ShloMosaic.Lib.Pipeline.ValueKit

@[expose] public section

set_option maxRecDepth 16384
noncomputable section
open Idealize.ShloMosaic Idealize.ShloMosaic.TcCoe Idealize.SL.Sem
namespace Cert.Kernel3Ideal.Hand
open Cert.Kernel3Ideal Cert.Kernel3Ideal.Gen Cert.Attn
open Cert.Reference3Ideal.Hand (hk hg bn bp)

variable (m : (ℓ : Loc nD τ sig) → Buf (Elt Ideal) ℓ) (c : Dev nD)

/-! The arguments of the program, and the arrays its host lines make of them. -/
abbrev A0 : FVec Ideal S2048x1024 .f32 := m ((c : Thread nD τ).loc main_arg0)
abbrev A1 : FVec Ideal S2048x256 .bf16 := m ((c : Thread nD τ).loc main_arg1)
abbrev A2 : FVec Ideal S2048x256 .bf16 := m ((c : Thread nD τ).loc main_arg2)
abbrev A3 : FVec Ideal S1x16 .f32 := m ((c : Thread nD τ).loc main_arg3)

theorem q_at (h : Fin 16) (s : Fin 2048) (d : Fin 64) : (V m c main_v4 : FVec Ideal S16x2048x64 .bf16) (ix3 h s d)
    = A0 m c (ix2 s ⟨h.val * 64 + d.val, by omega⟩) * Ideal.ofBits FTy.f32 0x3E000000#32 := by
  entry_read
  pointwise []
theorem k_at (k : Fin 4) (s : Fin 2048) (d : Fin 64) : (V m c main_v6 : FVec Ideal S4x2048x64 .bf16) (ix3 k s d)
    = A1 m c (ix2 s ⟨k.val * 64 + d.val, by omega⟩) := by
  entry_read
  pointwise []
theorem v_at (k : Fin 4) (s : Fin 2048) (d : Fin 64) : (V m c main_v8 : FVec Ideal S4x2048x64 .bf16) (ix3 k s d)
    = A2 m c (ix2 s ⟨k.val * 64 + d.val, by omega⟩) := by
  entry_read
  pointwise []
theorem s_at (k : Fin 4) (r : Fin 512) : (V m c main_v13 : FVec Ideal S4x512x1 .f32) (ix3 k r 0)
    = A3 m c (ix2 0 ⟨k.val * 4 + r.val / 128, by omega⟩) := by
  entry_read
  pointwise []

/-! The blocks of a point, as entries of the arrays. -/
theorem idx : ∀ t : Fin cfg0.N, win0_0.index t = ![0, t.val, 0] ∧ win0_1.index t = ![0, t.val - 1, 0]
    ∧ win0_2.index t = ![0, t.val, 0] ∧ win0_3.index t = ![0, t.val - 1, 0] ∧ win0_4.index t = ![0, t.val, 0]
    ∧ win0_5.index t = ![0, 0, 0] :=
  (by decide +kernel : ∀ t : Fin grid0.N, _)
theorem idxo : ∀ t : Fin cfg0.N, win0_6.index t = ![0, t.val, 0] :=
  (by decide +kernel : ∀ t : Fin grid0.N, _)
theorem crd : ∀ t : Fin cfg0.N, (grid0.coords t 0).val = t.val :=
  (by decide +kernel : ∀ t : Fin grid0.N, _)

theorem lt16 (t : Fin cfg0.N) : t.val < 16 := t.isLt
/-- The row of the arrays at row `p` of a point's block, and of the block before (the first point's is its own). -/
def row (t : Fin cfg0.N) (p : Fin 128) : Fin 2048 := ⟨t.val * 128 + p.val, by have := lt16 t; omega⟩
def rowp (t : Fin cfg0.N) (p : Fin 128) : Fin 2048 := ⟨(t.val - 1) * 128 + p.val, by have := lt16 t; omega⟩

abbrev b0 (t : Fin cfg0.N) : FVec Ideal S16x128x64 .bf16 := iblk m c 0 t
abbrev b1 (t : Fin cfg0.N) : FVec Ideal S4x128x64 .bf16 := iblk m c 1 t
abbrev b2 (t : Fin cfg0.N) : FVec Ideal S4x128x64 .bf16 := iblk m c 2 t
abbrev b3 (t : Fin cfg0.N) : FVec Ideal S4x128x64 .bf16 := iblk m c 3 t
abbrev b4 (t : Fin cfg0.N) : FVec Ideal S4x128x64 .bf16 := iblk m c 4 t
abbrev b5 (t : Fin cfg0.N) : FVec Ideal S4x512x1 .f32 := iblk m c 5 t

variable (t : Fin cfg0.N)
theorem b0_at (h : Fin 16) (p : Fin 128) (d : Fin 64) : b0 m c t (ix3 h p d)
    = A0 m c (ix2 (row t p) ⟨h.val * 64 + d.val, by omega⟩) * Ideal.ofBits FTy.f32 0x3E000000#32 := by
  rw [← q_at]
  blk_ext [b0, iblk, idx t, row]
theorem b1_at (k : Fin 4) (p : Fin 128) (d : Fin 64) : b1 m c t (ix3 k p d) = A1 m c (ix2 (rowp t p) ⟨k.val * 64 + d.val, by omega⟩) := by
  rw [← k_at]
  blk_ext [b1, iblk, idx t, rowp]
theorem b2_at (k : Fin 4) (p : Fin 128) (d : Fin 64) : b2 m c t (ix3 k p d) = A1 m c (ix2 (row t p) ⟨k.val * 64 + d.val, by omega⟩) := by
  rw [← k_at]
  blk_ext [b2, iblk, idx t, row]
theorem b3_at (k : Fin 4) (p : Fin 128) (d : Fin 64) : b3 m c t (ix3 k p d) = A2 m c (ix2 (rowp t p) ⟨k.val * 64 + d.val, by omega⟩) := by
  rw [← v_at]
  blk_ext [b3, iblk, idx t, rowp]
theorem b4_at (k : Fin 4) (p : Fin 128) (d : Fin 64) : b4 m c t (ix3 k p d) = A2 m c (ix2 (row t p) ⟨k.val * 64 + d.val, by omega⟩) := by
  rw [← v_at]
  blk_ext [b4, iblk, idx t, row]
theorem b5_at (k : Fin 4) (r : Fin 512) : b5 m c t (ix3 k r 0) = A3 m c (ix2 0 ⟨k.val * 4 + r.val / 128, by omega⟩) := by
  rw [← s_at]
  blk_ext [b5, iblk, idx t]
end Cert.Kernel3Ideal.Hand
-- ==== Proof.AttnValue.lean ====
module

public import proofs.«01_k».proof.Proof.AttnBlocks

@[expose] public section

set_option maxRecDepth 16384
noncomputable section
open Idealize.ShloMosaic Idealize.ShloMosaic.TcCoe Idealize.SL.Sem
namespace Cert.Kernel3Ideal.Hand
open Cert.Kernel3Ideal Cert.Kernel3Ideal.Gen Cert.Attn
open Cert.Reference3Ideal.Hand (hk hg bn bp)

/-! # What a point leaves in the result's block: a store for each head of the keys -/

section
variable (i : grid0.Coords) (x0 : FVec Ideal S16x128x64 .bf16) (x1 x2 x3 x4 : FVec Ideal S4x128x64 .bf16) (x5 : FVec Ideal S4x512x1 .f32)

/-- The scores of a query, from the blocks. -/
def dotB (k : FVec Ideal S4x128x64 .bf16) (h : Fin 16) (p j : Fin 128) : EReal := ∑ x : Fin 64, x0 (ix3 h p x) * k (ix3 (hk h) j x)
/-- The result's block, a row of attention at every head and query. -/
def G6 (y : S16x128x64.Idx) : EReal :=
  attn (fun j => if (y 1).val < j.val ∧ 0 < (i 0).val then dotB x0 x1 (y 0) (y 1) j else ⊥)
    (fun j => if j.val ≤ (y 1).val then dotB x0 x2 (y 0) (y 1) j else ⊥)
    (x5 (ix3 (hk (y 0)) (rw4 (hg (y 0)) (y 1)) 0)) (fun x => x3 (ix3 (hk (y 0)) x (y 2))) (fun x => x4 (ix3 (hk (y 0)) x (y 2)))

/-- The queries' head of a keys' head. -/
def h4 (k g : Fin 4) : Fin 16 := ⟨k.val * 4 + g.val, by omega⟩
theorem hk_h4 (k g : Fin 4) : hk (h4 k g) = k := Fin.ext (by simp only [hk, h4]; omega)
theorem hg_h4 (k g : Fin 4) : hg (h4 k g) = g := Fin.ext (by simp only [hg, h4]; omega)

theorem piece (k : Fin 4) (q : FVec Ideal S4x128x64 .bf16) (kp kc vp vc : FVec Ideal S1x128x64 .bf16) (sk : FVec Ideal S1x512x1 .f32)
    (hq : ∀ g p x, q (ix3 g p x) = x0 (ix3 (h4 k g) p x)) (hkp : ∀ j x, kp (ix3 0 j x) = x1 (ix3 k j x))
    (hkc : ∀ j x, kc (ix3 0 j x) = x2 (ix3 k j x)) (hvp : ∀ j x, vp (ix3 0 j x) = x3 (ix3 k j x))
    (hvc : ∀ j x, vc (ix3 0 j x) = x4 (ix3 k j x)) (hsk : ∀ r, sk (ix3 0 r 0) = x5 (ix3 k r 0)) (g : Fin 4) (p : Fin 128) (d : Fin 64) :
    head i q kp kc vp vc sk (ix3 g p d) = G6 i x0 x1 x2 x3 x4 x5 (ix3 (h4 k g) p d) := by
  have d1 : ∀ j, dot q kp g p j = dotB x0 x1 (h4 k g) p j := fun j => Finset.sum_congr rfl fun x _ => by rw [hq, hkp, hk_h4]
  have d2 : ∀ j, dot q kc g p j = dotB x0 x2 (h4 k g) p j := fun j => Finset.sum_congr rfl fun x _ => by rw [hq, hkc, hk_h4]
  rw [head_at]
  simp only [d1, d2, hvp, hvc, hsk]
  show _ = attn _ _ (x5 (ix3 (hk (h4 k g)) (rw4 (hg (h4 k g)) p) 0)) (fun x => x3 (ix3 (hk (h4 k g)) x d)) (fun x => x4 (ix3 (hk (h4 k g)) x d))
  rw [hk_h4, hg_h4]
  rfl

theorem q0 {e : EltTy} (X : Vec Ideal S16x128x64 e) (g : Fin 4) (p : Fin 128) (x : Fin 64) :
    (View.ld X r0_0 : Vec Ideal S4x128x64 e) (ix3 g p x) = X (ix3 (h4 0 g) p x) := by
  refine View.ld_unit_apply_of X _ _ _ _ _ fun a => ?_
  fin_cases a <;> simp [h4]
theorem q1 {e : EltTy} (X : Vec Ideal S16x128x64 e) (g : Fin 4) (p : Fin 128) (x : Fin 64) :
    (View.ld X r0_3 : Vec Ideal S4x128x64 e) (ix3 g p x) = X (ix3 (h4 1 g) p x) := by
  refine View.ld_unit_apply_of X _ _ _ _ _ fun a => ?_
  fin_cases a <;> simp [h4]
theorem q2 {e : EltTy} (X : Vec Ideal S16x128x64 e) (g : Fin 4) (p : Fin 128) (x : Fin 64) :
    (View.ld X r0_6 : Vec Ideal S4x128x64 e) (ix3 g p x) = X (ix3 (h4 2 g) p x) := by
  refine View.ld_unit_apply_of X _ _ _ _ _ fun a => ?_
  fin_cases a <;> simp [h4]
theorem q3 {e : EltTy} (X : Vec Ideal S16x128x64 e) (g : Fin 4) (p : Fin 128) (x : Fin 64) :
    (View.ld X r0_9 : Vec Ideal S4x128x64 e) (ix3 g p x) = X (ix3 (h4 3 g) p x) := by
  refine View.ld_unit_apply_of X _ _ _ _ _ fun a => ?_
  fin_cases a <;> simp [h4]
theorem k0 {e : EltTy} (X : Vec Ideal S4x128x64 e) (j : Fin 128) (x : Fin 64) :
    (View.ld X r0_1 : Vec Ideal S1x128x64 e) (ix3 0 j x) = X (ix3 0 j x) := by
  refine View.ld_unit_apply_of X _ _ _ _ _ fun a => ?_
  fin_cases a <;> simp
theorem k1 {e : EltTy} (X : Vec Ideal S4x128x64 e) (j : Fin 128) (x : Fin 64) :
    (View.ld X r0_4 : Vec Ideal S1x128x64 e) (ix3 0 j x) = X (ix3 1 j x) := by
  refine View.ld_unit_apply_of X _ _ _ _ _ fun a => ?_
  fin_cases a <;> simp
theorem k2 {e : EltTy} (X : Vec Ideal S4x128x64 e) (j : Fin 128) (x : Fin 64) :
    (View.ld X r0_7 : Vec Ideal S1x128x64 e) (ix3 0 j x) = X (ix3 2 j x) := by
  refine View.ld_unit_apply_of X _ _ _ _ _ fun a => ?_
  fin_cases a <;> simp
theorem k3 {e : EltTy} (X : Vec Ideal S4x128x64 e) (j : Fin 128) (x : Fin 64) :
    (View.ld X r0_10 : Vec Ideal S1x128x64 e) (ix3 0 j x) = X (ix3 3 j x) := by
  refine View.ld_unit_apply_of X _ _ _ _ _ fun a => ?_
  fin_cases a <;> simp
theorem s0 {e : EltTy} (X : Vec Ideal S4x512x1 e) (r : Fin 512) :
    (View.ld X r0_2 : Vec Ideal S1x512x1 e) (ix3 0 r 0) = X (ix3 0 r 0) := by
  refine View.ld_unit_apply_of X _ _ _ _ _ fun a => ?_
  fin_cases a <;> simp
theorem s1 {e : EltTy} (X : Vec Ideal S4x512x1 e) (r : Fin 512) :
    (View.ld X r0_5 : Vec Ideal S1x512x1 e) (ix3 0 r 0) = X (ix3 1 r 0) := by
  refine View.ld_unit_apply_of X _ _ _ _ _ fun a => ?_
  fin_cases a <;> simp
theorem s2 {e : EltTy} (X : Vec Ideal S4x512x1 e) (r : Fin 512) :
    (View.ld X r0_8 : Vec Ideal S1x512x1 e) (ix3 0 r 0) = X (ix3 2 r 0) := by
  refine View.ld_unit_apply_of X _ _ _ _ _ fun a => ?_
  fin_cases a <;> simp
theorem s3 {e : EltTy} (X : Vec Ideal S4x512x1 e) (r : Fin 512) :
    (View.ld X r0_11 : Vec Ideal S1x512x1 e) (ix3 0 r 0) = X (ix3 3 r 0) := by
  refine View.ld_unit_apply_of X _ _ _ _ _ fun a => ?_
  fin_cases a <;> simp
theorem e0 (g : Fin 4) (p : Fin 128) (d : Fin 64) : r0_0.emb (ix3 g p d : S4x128x64.Idx) = ix3 (h4 0 g) p d := by
  funext a; apply Fin.ext; refine (Rect.idx_unit_val _ _ _ _ a).trans ?_
  fin_cases a <;> simp [h4]
theorem e1 (g : Fin 4) (p : Fin 128) (d : Fin 64) : r0_3.emb (ix3 g p d : S4x128x64.Idx) = ix3 (h4 1 g) p d := by
  funext a; apply Fin.ext; refine (Rect.idx_unit_val _ _ _ _ a).trans ?_
  fin_cases a <;> simp [h4]
theorem e2 (g : Fin 4) (p : Fin 128) (d : Fin 64) : r0_6.emb (ix3 g p d : S4x128x64.Idx) = ix3 (h4 2 g) p d := by
  funext a; apply Fin.ext; refine (Rect.idx_unit_val _ _ _ _ a).trans ?_
  fin_cases a <;> simp [h4]
theorem e3 (g : Fin 4) (p : Fin 128) (d : Fin 64) : r0_9.emb (ix3 g p d : S4x128x64.Idx) = ix3 (h4 3 g) p d := by
  funext a; apply Fin.ext; refine (Rect.idx_unit_val _ _ _ _ a).trans ?_
  fin_cases a <;> simp [h4]

theorem tri (x : S4x128x64.Idx) : ∃ (g : Fin 4) (p : Fin 128) (d : Fin 64), x = (ix3 g p d : S4x128x64.Idx) :=
  ⟨x 0, x 1, x 2, by funext a; fin_cases a <;> rfl⟩

theorem out6_eq : out0_6 (F := Ideal) i x0 x1 x2 x3 x4 x5 = G6 i x0 x1 x2 x3 x4 x5 := by
  unfold out0_6 k0_pay48 k0_pay47 k0_pay46 k0_pay45 k0_pay44 k0_pay43
  rw [head0_eq, head1_eq, head2_eq, head3_eq]
  funext y
  refine View.canon_apply_of_pieces (Val := Elt Ideal) (e := .bf16) (G6 i x0 x1 x2 x3 x4 x5) _ (fun z hz x => ?_) y (cover0_6 _ _ _ _ y)
  simp only [List.mem_cons, List.not_mem_nil, or_false] at hz
  obtain rfl | rfl | rfl | rfl := hz <;> obtain ⟨g, p, d, rfl⟩ := tri x
  · exact (piece i x0 x1 x2 x3 x4 x5 3 _ _ _ _ _ _ (q3 (e := .bf16) x0) (k3 (e := .bf16) x1) (k3 (e := .bf16) x2) (k3 (e := .bf16) x3) (k3 (e := .bf16) x4) (s3 (e := .f32) x5) g p d).trans (congrArg _ (e3 g p d).symm)
  · exact (piece i x0 x1 x2 x3 x4 x5 2 _ _ _ _ _ _ (q2 (e := .bf16) x0) (k2 (e := .bf16) x1) (k2 (e := .bf16) x2) (k2 (e := .bf16) x3) (k2 (e := .bf16) x4) (s2 (e := .f32) x5) g p d).trans (congrArg _ (e2 g p d).symm)
  · exact (piece i x0 x1 x2 x3 x4 x5 1 _ _ _ _ _ _ (q1 (e := .bf16) x0) (k1 (e := .bf16) x1) (k1 (e := .bf16) x2) (k1 (e := .bf16) x3) (k1 (e := .bf16) x4) (s1 (e := .f32) x5) g p d).trans (congrArg _ (e1 g p d).symm)
  · exact (piece i x0 x1 x2 x3 x4 x5 0 _ _ _ _ _ _ (q0 (e := .bf16) x0) (k0 (e := .bf16) x1) (k0 (e := .bf16) x2) (k0 (e := .bf16) x3) (k0 (e := .bf16) x4) (s0 (e := .f32) x5) g p d).trans (congrArg _ (e0 g p d).symm)
end
end Cert.Kernel3Ideal.Hand
-- ==== Proof.AttnFinal.lean ====
module

public import proofs.«01_k».proof.Proof.AttnValue
public import proofs.«01_k».proof.Proof.Final
public import proofs.«01_k».proof.Proof.Gen.Kernel3Ideal.Value
public import proofs.«01_k».proof.Proof.Gen.Reference3Ideal.Run
public import proofs.«01_k».proof.Proof.Gen.Pre_finite_scores
public import proofs.«01_k».proof.Defs
public import Idealize.ShloMosaic.Lib.Claim
public import Idealize.ShloMosaic.Lib.Quiescent

@[expose] public section

set_option maxRecDepth 16384
noncomputable section
open Idealize.ShloMosaic Idealize.ShloMosaic.TcCoe Idealize.SL.Sem
namespace Cert.Kernel3Ideal.Hand
open Cert.Kernel3Ideal Cert.Kernel3Ideal.Gen Cert.Reference3Ideal.Read Cert.Attn
open Cert.ReferenceIdeal.Hand (Fi mul_sum_fi)
open Cert.Reference3Ideal.Hand (hk hg bn bp qry v67_at v45_at v14_at v5_lo v5_hi v10_lo v10_hi)

variable (m : (ℓ : Loc nD τ sig) → Buf (Elt Ideal) ℓ) (c : Dev nD)

/-! # The array the attention's call leaves -/

abbrev R67 : FVec Ideal S16x2048x64 .bf16 := val_main_v67 (F := Ideal) (A0 m c) (A1 m c) (A2 m c) (A3 m c)

/-- The queries, the keys and the sinks are finite. -/
structure Finite : Prop where
  q : ∀ i, Fi (A0 m c i)
  k : ∀ i, Fi (A1 m c i)
  s : ∀ i, Fi (A3 m c i)

/-- The scale, taken out of a finite sum. -/
theorem scale_out {n : ℕ} {e : EReal} (q k : Fin n → EReal) (he : Fi e) (hq : ∀ x, Fi (q x)) (hk : ∀ x, Fi (k x)) :
    ∑ x, q x * e * k x = (∑ x, k x * q x) * e := by
  rw [mul_comm _ e, mul_sum_fi k q he hk hq]
  exact Finset.sum_congr rfl fun x _ => by rw [mul_comm (q x) e, mul_assoc, mul_assoc, mul_comm (q x)]

variable (t : Fin cfg0.N)
def nn : Fin 16 := ⟨t.val, lt16 t⟩
theorem bn_row (p : Fin 128) : bn (row t p) = nn t := Fin.ext (by simp only [bn, row, nn]; omega)
theorem bp_row (p : Fin 128) : bp (row t p) = p := Fin.ext (by simp only [bp, row]; omega)
theorem qry_at (h : Fin 16) (p : Fin 128) (x : Fin 64) :
    qry (A0 m c) (nn t) (hk h) (hg h) p x = A0 m c (ix2 (row t p) ⟨h.val * 64 + x.val, by omega⟩) := by
  unfold qry
  refine congrArg (A0 m c) (congrArg₂ ix2 rfl (Fin.ext ?_))
  simp only [hk, hg]; omega

variable {m c}
variable (H : Finite m c)
include H

theorem dotB_eq (k : FVec Ideal S4x128x64 .bf16) (r : Fin 128 → Fin 2048)
    (hK : ∀ g j x, k (ix3 g j x) = A1 m c (ix2 (r j) ⟨g.val * 64 + x.val, by omega⟩)) (h : Fin 16) (p j : Fin 128) :
    dotB (b0 m c t) k h p j = (∑ x : Fin 64, A1 m c (ix2 (r j) ⟨(hk h).val * 64 + x.val, by omega⟩) * qry (A0 m c) (nn t) (hk h) (hg h) p x)
      * Ideal.ofBits FTy.f32 0x3E000000#32 := by
  rw [← scale_out _ _ eighth (fun x => by rw [qry_at]; exact H.q _) (fun x => H.k _)]
  exact Finset.sum_congr rfl fun x _ => by rw [b0_at, hK, qry_at]
theorem dotB_fi (k : FVec Ideal S4x128x64 .bf16) (r : Fin 128 → Fin 2048)
    (hK : ∀ g j x, k (ix3 g j x) = A1 m c (ix2 (r j) ⟨g.val * 64 + x.val, by omega⟩)) (h : Fin 16) (p j : Fin 128) :
    Fi (dotB (b0 m c t) k h p j) := by
  rw [dotB_eq t H k r hK]
  exact (Fi.sum _ _ fun x => (H.k _).mul (by rw [qry_at]; exact H.q _)).mul eighth
omit H in
theorem ne_top_of {P : Prop} [Decidable P] {x : EReal} (h : Fi x) : (if P then x else ⊥) ≠ ⊤ := by
  obtain ⟨r, rfl⟩ := h
  by_cases hP : P
  · rw [if_pos hP]; exact EReal.coe_ne_top r
  · rw [if_neg hP]; exact bot_ne_top

theorem pt (h : Fin 16) (p : Fin 128) (d : Fin 64) :
    G6 (grid0.coords t) (b0 m c t) (b1 m c t) (b2 m c t) (b3 m c t) (b4 m c t) (b5 m c t) (ix3 h p d) = R67 m c (ix3 h (row t p) d) := by
  refine Eq.trans ?_ (v67_at _ _ _ _ _ _ _).symm
  rw [bn_row, bp_row]
  show attn (fun j => if p.val < j.val ∧ 0 < (grid0.coords t 0).val then dotB (b0 m c t) (b1 m c t) h p j else ⊥)
    (fun j => if j.val ≤ p.val then dotB (b0 m c t) (b2 m c t) h p j else ⊥)
    (b5 m c t (ix3 (hk h) (rw4 (hg h) p) 0)) (fun x => b3 m c t (ix3 (hk h) x d)) (fun x => b4 m c t (ix3 (hk h) x d)) = _
  have e : (⟨(hk h).val * 4 + (rw4 (hg h) p).val / 128, by omega⟩ : Fin 16) = h := Fin.ext (by simp only [hk, hg, rw4]; omega)
  rw [b5_at, e, crd]
  refine attn_eq _ _ _ _ _ _ (fun j => ne_top_of (dotB_fi t H _ _ (b1_at m c t) h p j)) (fun j => ne_top_of (dotB_fi t H _ _ (b2_at m c t) h p j))
    (H.s _) (fun j => ?_) (fun j => ?_) (fun j => ?_) (fun j => ?_)
  · rw [v45_at]
    have hj : (lo j).val = j.val := rfl
    have hn : (nn t).val = t.val := rfl
    by_cases h1 : p.val < j.val ∧ 0 < t.val
    · rw [if_pos h1, if_pos ⟨⟨by omega, by omega⟩, Or.inl (by omega)⟩, v14_at, dotB_eq t H _ _ (b1_at m c t)]
      simp only [v5_lo _ (nn t) _ _ _ h1.2]
      rfl
    · rw [if_neg h1, if_neg (by omega)]
  · rw [v45_at]
    have hj : (hi j).val = 128 + j.val := rfl
    by_cases h1 : j.val ≤ p.val
    · rw [if_pos h1, if_pos ⟨⟨by omega, by omega⟩, Or.inr (by omega)⟩, v14_at, dotB_eq t H _ _ (b2_at m c t)]
      simp only [v5_hi]
      rfl
    · rw [if_neg h1, if_neg (by omega)]
  · by_cases h1 : 0 < t.val
    · left
      rw [v10_lo _ (nn t) _ _ _ h1, b3_at]
      rfl
    · right
      exact if_neg fun h => h1 h.2
  · rw [v10_hi, b4_at]
    rfl

theorem final6 : (dats m 0 c).arrAt 6 (cfgs 0).N = R67 m c := by
  refine (dats m 0 c).arrAt_eq_of_covers 6 _ (by decide +kernel) fun t hf y => ?_
  blk_simp
  rw [after0_6, out6_eq]
  obtain ⟨h, p, d, rfl⟩ : ∃ (h : Fin 16) (p : Fin 128) (d : Fin 64), y = (ix3 h p d : S16x128x64.Idx) := ⟨y 0, y 1, y 2, by blk_ext []⟩
  refine (pt t H h p d).trans ?_
  blk_ext [idxo t, row]
omit H

theorem finite_of (hP : Pre_Kernel3Ideal_finite_scores m) (c : Dev nD) : Finite m c := by
  obtain ⟨h0, h1, h2⟩ := hP c
  exact ⟨fun i => Cert.KernelIdeal.Hand.fi_of_cmp (A0 m c) i (congrFun h0 i), fun i => Cert.KernelIdeal.Hand.fi_of_cmp (A1 m c) i (congrFun h1 i),
    fun i => Cert.KernelIdeal.Hand.fi_of_cmp (A3 m c) i (congrFun h2 i)⟩

/-- The call's run: the result, and the arguments unchanged. -/
theorem run_value (hP : Pre_Kernel3Ideal_finite_scores m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = R67 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final6 (finite_of hP c)), (h c).2⟩) (Cert.Kernel3Ideal.Value.run_blocks m ρ)

end Cert.Kernel3Ideal.Hand

namespace Cert.Hand
open Cert.Kernel3Ideal.Hand Cert.Reference3Ideal.Read

theorem preserves3 : Cert.preserves_Kernel3_Kernel3Ideal := IdealRules.named_const.statement _ _ _ _ _ rfl

theorem algebraic3 : Cert.algebraic_Kernel3Ideal_Reference3Ideal_pre_finite_scores (hKernel3Ideal := Cert.Kernel3Ideal.Gen.facts)
    (hReference3Ideal := Cert.Reference3Ideal.Gen.facts) (hPre_finite_scores := Cert.Pre_finite_scores.Gen.facts) := by
  intro m g m' g' hP hA
  refine ⟨fun c => R67 m c, run_value hP g, ?_⟩
  refine (θ_run Cert.Reference3Ideal.defs _ _).mono (fun r h c => ?_) (Cert.Reference3Ideal.Value.run (F := Ideal) m' g')
  obtain ⟨a0, a1, a2, a3⟩ := hA c
  obtain ⟨r0, hargs⟩ := h c
  rw [val_main_v67_eq, a0, a1, a2, a3] at r0
  exact ⟨r0, hargs⟩

end Cert.Hand
-- ==== Proof.AdamMath.lean ====
module

public import Idealize.ShloMosaic.PureOps.Ideal
public import Idealize.ShloMosaic.PureOps.IdealRules
public import Idealize.ShloMosaic.Lib.Pipeline.Value

@[expose] public section

noncomputable section
open Idealize.ShloMosaic
namespace Cert.Adam

/-! # The bias corrections of AdamW

The reference divides by its float32 constants for 1 - 0.9^10 and 1 - 0.999^10, the kernel multiplies by their reciprocals. -/

theorem bias1 : Ideal.ofBits FTy.f32 0x3F26BD02#32 = ((5463681 / 8388608 : ℝ) : EReal) := by
  simp [Ideal.ofBits, Ideal.ieee, -EReal.coe_mul]; norm_num
theorem bias2 : Ideal.ofBits FTy.f32 0x3C231ACC#32 = ((2672307 / 268435456 : ℝ) : EReal) := by
  simp [Ideal.ofBits, Ideal.ieee, -EReal.coe_mul]; norm_num

theorem c1_mul (x : EReal) : x * ((8388608 / 5463681 : ℝ) : EReal) = Ideal.div x (Ideal.ofBits FTy.f32 0x3F26BD02#32) := by
  rw [bias1, Ideal.div_coe (by norm_num)]; norm_num
theorem c2_mul (x : EReal) : x * ((268435456 / 2672307 : ℝ) : EReal) = Ideal.div x (Ideal.ofBits FTy.f32 0x3C231ACC#32) := by
  rw [bias2, Ideal.div_coe (by norm_num)]; norm_num

/-- The new first and second moment, and the step, as the reference computes them. -/
def mo (g m : EReal) : EReal := Ideal.ofBits FTy.f32 0x3F666666#32 * m + Ideal.ofBits FTy.f32 0x3DCCCCCD#32 * g
def vo (g v : EReal) : EReal := Ideal.ofBits FTy.f32 0x3F7FBE77#32 * v + Ideal.ofBits FTy.f32 0x3A83126F#32 * (g * g)
def dl (w g m v : EReal) : EReal := Ideal.ofBits FTy.f32 0xBA83126F#32 *
  (Ideal.div (Ideal.div (mo g m) (Ideal.ofBits FTy.f32 0x3F26BD02#32))
      (Ideal.sqrt (Ideal.div (vo g v) (Ideal.ofBits FTy.f32 0x3C231ACC#32)) + Ideal.ofBits FTy.f32 0x322BCC77#32)
    + Ideal.ofBits FTy.f32 0x3C23D70A#32 * w)
/-- The step as the kernel computes it. -/
theorem dl_eq (w g m v : EReal) : Ideal.ofBits FTy.f32 0xBA83126F#32 *
  (Ideal.div (mo g m * ((8388608 / 5463681 : ℝ) : EReal))
      (Ideal.sqrt (vo g v * ((268435456 / 2672307 : ℝ) : EReal)) + Ideal.ofBits FTy.f32 0x322BCC77#32)
    + Ideal.ofBits FTy.f32 0x3C23D70A#32 * w) = dl w g m v := by
  rw [c1_mul, c2_mul, dl]

end Cert.Adam
-- ==== Proof.Adam4.lean ====
module

public import proofs.«01_k».proof.Proof.AdamMath
public import proofs.«01_k».proof.Proof.Gen.Kernel4.Frame
public import proofs.«01_k».proof.Proof.Gen.Kernel4Ideal.Value
public import proofs.«01_k».proof.Proof.Gen.Reference4Ideal.Read
public import proofs.«01_k».proof.Defs

@[expose] public section

set_option maxRecDepth 16384
noncomputable section
open Idealize.ShloMosaic Idealize.ShloMosaic.TcCoe Idealize.SL.Sem
namespace Cert.Kernel4Ideal.Hand
open Cert.Kernel4Ideal Cert.Kernel4Ideal.Gen Cert.Kernel4Ideal.Value Cert.Reference4Ideal.Read Cert.Adam

variable (w g m v : S256x256.Idx → Elt Ideal .f32)

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

theorem delta_eq : G4 (F := Ideal) g m v w = val_main_v23 (F := Ideal) w g m v := by
  funext i
  show FloatOps.mulf _ (FloatOps.addf (FloatOps.divf (FloatOps.mulf _ (Named.named κ "c1" 0x3FC48605#32 : Ideal .f32))
    (FloatOps.addf (FloatOps.sqrt (FloatOps.mulf _ (Named.named κ "c2" 0x42C8E6D3#32 : Ideal .f32))) _)) _) = _
  rw [c1, c2]
  show (_ : EReal) * (Ideal.div (_ * _) (Ideal.sqrt (_ * _) + _) + _) = _
  rw [c1_mul, c2_mul]
  rfl
theorem m_eq : G5 (F := Ideal) g m = val_main_v4 (F := Ideal) g m := rfl
theorem v_eq : G6 (F := Ideal) g v = val_main_v10 (F := Ideal) g v := rfl

end Cert.Kernel4Ideal.Hand

namespace Cert.Hand
open Cert.Kernel4Ideal.Hand Cert.Reference4Ideal.Read

theorem preserves4 : Cert.preserves_Kernel4_Kernel4Ideal :=
  ⟨IdealRules.named_const.statement _ _ _ _ _ rfl, IdealRules.named_const.statement _ _ _ _ _ rfl⟩

theorem algebraic4 : Cert.algebraic_Kernel4Ideal_Reference4Ideal (hKernel4Ideal := Cert.Kernel4Ideal.Gen.facts)
    (hReference4Ideal := Cert.Reference4Ideal.Gen.facts) := by
  intro m g m' g' _ hA
  refine ⟨_, _, _, Cert.Kernel4Ideal.Value.run m g, ?_⟩
  refine (θ_run Cert.Reference4Ideal.defs _ _).mono (fun r h c => ?_) (Cert.Reference4Ideal.Value.run (F := Ideal) m' g')
  obtain ⟨a0, a1, a2, a3⟩ := hA c
  obtain ⟨r0, r1, r2, hargs⟩ := h c
  rw [val_main_v23_eq, a0, a1, a2, a3, ← delta_eq] at r0
  rw [val_main_v4_eq, a1, a2, ← m_eq] at r1
  rw [val_main_v10_eq, a1, a3, ← v_eq] at r2
  exact ⟨r0, r1, r2, hargs⟩

end Cert.Hand
-- ==== Proof.Adam5.lean ====
module

public import proofs.«01_k».proof.Proof.AdamMath
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel5Ideal.Hand
open Cert.Kernel5Ideal Cert.Kernel5Ideal.Gen Cert.Reference5Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S256x1024 .f32) (p : Fin 256) (d : Fin 1024)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S256x1024) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S256x1024) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S256x1024) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S256x1024 .f32 := V m c main_v0
abbrev W1 : Vec Ideal S256x1024 .f32 := V m c main_v1
abbrev W2 : Vec Ideal S256x1024 .f32 := V m c main_v2
abbrev W3 : Vec Ideal S256x1024 .f32 := V m c main_v3

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 1 := t.isLt
/-- The row of the arrays at row `p` of a point's block. -/
def row (t : Fin cfg0.N) (p : Fin 256) : Fin 256 := ⟨t.val * 256 + p.val, by have := points t; omega⟩

variable (t : Fin cfg0.N) (p : Fin 256) (d : Fin 1024)
theorem b0_at : (iblk m c 0 t : Vec Ideal S256x1024 .f32) (ix2 p d) = W0 m c (ix2 (row t p) d) := by
  blk_ext [iblk, idx t, row]
theorem b1_at : (iblk m c 1 t : Vec Ideal S256x1024 .f32) (ix2 p d) = W1 m c (ix2 (row t p) d) := by
  blk_ext [iblk, idx t, row]
theorem b2_at : (iblk m c 2 t : Vec Ideal S256x1024 .f32) (ix2 p d) = W2 m c (ix2 (row t p) d) := by
  blk_ext [iblk, idx t, row]
theorem b3_at : (iblk m c 3 t : Vec Ideal S256x1024 .f32) (ix2 p d) = W3 m c (ix2 (row t p) d) := by
  blk_ext [iblk, idx t, row]

/-! The results, of the arrays that the call gets. -/
def R4 : Vec Ideal S256x1024 .f32 := fun i => dl (W0 m c i) (W1 m c i) (W2 m c i) (W3 m c i)
def R5 : Vec Ideal S256x1024 .f32 := fun i => mo (W1 m c i) (W2 m c i)
def R6 : Vec Ideal S256x1024 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 256) (d : Fin 1024), y = (ix2 p d : S256x1024.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 256) (d : Fin 1024), y = (ix2 p d : S256x1024.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 256) (d : Fin 1024), y = (ix2 p d : S256x1024.Idx) := ⟨y 0, y 1, by blk_ext []⟩
  refine (pt6 m c t p d).trans ?_
  blk_ext [idxo t, row]

/-! The same results, as the reference has them. -/
abbrev A0 : Vec Ideal S1x256x1024 .f32 := m ((c : Thread nD τ).loc main_arg0)
abbrev A1 : Vec Ideal S1x256x1024 .f32 := m ((c : Thread nD τ).loc main_arg1)
abbrev A2 : Vec Ideal S1x256x1024 .f32 := m ((c : Thread nD τ).loc main_arg2)
abbrev A3 : Vec Ideal S1x256x1024 .f32 := m ((c : Thread nD τ).loc main_arg3)

theorem W0_eq : W0 m c = shapeCast S256x1024 (A0 m c) shapeCasts_S1x256x1024_S256x1024 := by funext i; show (V m c main_v0 : Vec Ideal S256x1024 .f32) i = _; entry_read; rfl
theorem W1_eq : W1 m c = shapeCast S256x1024 (A1 m c) shapeCasts_S1x256x1024_S256x1024 := by funext i; show (V m c main_v1 : Vec Ideal S256x1024 .f32) i = _; entry_read; rfl
theorem W2_eq : W2 m c = shapeCast S256x1024 (A2 m c) shapeCasts_S1x256x1024_S256x1024 := by funext i; show (V m c main_v2 : Vec Ideal S256x1024 .f32) i = _; entry_read; rfl
theorem W3_eq : W3 m c = shapeCast S256x1024 (A3 m c) shapeCasts_S1x256x1024_S256x1024 := by funext i; show (V m c main_v3 : Vec Ideal S256x1024 .f32) i = _; entry_read; rfl

theorem R4_eq : R4 m c = val_main_v24 (F := Ideal) (A0 m c) (A1 m c) (A2 m c) (A3 m c) := by
  unfold R4; rw [W0_eq, W1_eq, W2_eq, W3_eq]; rfl
theorem R5_eq : R5 m c = val_main_v25 (F := Ideal) (A1 m c) (A2 m c) := by
  unfold R5; rw [W1_eq, W2_eq]; rfl
theorem R6_eq : R6 m c = val_main_v26 (F := Ideal) (A1 m c) (A3 m c) := by
  unfold R6; rw [W1_eq, W3_eq]; rfl

end Cert.Kernel5Ideal.Hand

namespace Cert.Hand
open Cert.Kernel5Ideal.Hand Cert.Reference5Ideal.Read

theorem preserves5 : Cert.preserves_Kernel5_Kernel5Ideal :=
  ⟨IdealRules.named_const.statement _ _ _ _ _ rfl, IdealRules.named_const.statement _ _ _ _ _ rfl⟩

theorem algebraic5 : Cert.algebraic_Kernel5Ideal_Reference5Ideal (hKernel5Ideal := Cert.Kernel5Ideal.Gen.facts)
    (hReference5Ideal := Cert.Reference5Ideal.Gen.facts) := by
  intro m g m' g' _ hA
  refine ⟨fun c => R4 m c, fun c => R5 m c, fun c => R6 m c, (θ_run Cert.Kernel5Ideal.defs _ _).mono (fun r h c =>
    ⟨(h c).1.trans (final4 m c), (h c).2.1.trans (final5 m c), (h c).2.2.1.trans (final6 m c), (h c).2.2.2⟩)
    (Cert.Kernel5Ideal.Value.run_blocks m g), ?_⟩
  refine (θ_run Cert.Reference5Ideal.defs _ _).mono (fun r h c => ?_) (Cert.Reference5Ideal.Value.run (F := Ideal) m' g')
  obtain ⟨a0, a1, a2, a3⟩ := hA c
  obtain ⟨r0, r1, r2, hargs⟩ := h c
  rw [val_main_v24_eq, a0, a1, a2, a3] at r0
  rw [val_main_v25_eq, a1, a2] at r1
  rw [val_main_v26_eq, a1, a3] at r2
  exact ⟨r0.trans (R4_eq m c).symm, r1.trans (R5_eq m c).symm, r2.trans (R6_eq m c).symm, hargs⟩

end Cert.Hand
-- ==== Proof.Adam6.lean ====
module

public import proofs.«01_k».proof.Proof.AdamMath
public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel6Ideal.Hand
open Cert.Kernel6Ideal Cert.Kernel6Ideal.Gen Cert.Reference6Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S256x1024 .f32) (p : Fin 256) (d : Fin 1024)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S256x1024) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S256x1024) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S256x1024) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S512x1024 .f32 := V m c main_v0
abbrev W1 : Vec Ideal S512x1024 .f32 := V m c main_v1
abbrev W2 : Vec Ideal S512x1024 .f32 := V m c main_v2
abbrev W3 : Vec Ideal S512x1024 .f32 := V m c main_v3

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 2 := t.isLt
/-- The row of the arrays at row `p` of a point's block. -/
def row (t : Fin cfg0.N) (p : Fin 256) : Fin 512 := ⟨t.val * 256 + p.val, by have := points t; omega⟩

variable (t : Fin cfg0.N) (p : Fin 256) (d : Fin 1024)
theorem b0_at : (iblk m c 0 t : Vec Ideal S256x1024 .f32) (ix2 p d) = W0 m c (ix2 (row t p) d) := by
  blk_ext [iblk, idx t, row]
theorem b1_at : (iblk m c 1 t : Vec Ideal S256x1024 .f32) (ix2 p d) = W1 m c (ix2 (row t p) d) := by
  blk_ext [iblk, idx t, row]
theorem b2_at : (iblk m c 2 t : Vec Ideal S256x1024 .f32) (ix2 p d) = W2 m c (ix2 (row t p) d) := by
  blk_ext [iblk, idx t, row]
theorem b3_at : (iblk m c 3 t : Vec Ideal S256x1024 .f32) (ix2 p d) = W3 m c (ix2 (row t p) d) := by
  blk_ext [iblk, idx t, row]

/-! The results, of the arrays that the call gets. -/
def R4 : Vec Ideal S512x1024 .f32 := fun i => dl (W0 m c i) (W1 m c i) (W2 m c i) (W3 m c i)
def R5 : Vec Ideal S512x1024 .f32 := fun i => mo (W1 m c i) (W2 m c i)
def R6 : Vec Ideal S512x1024 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 256) (d : Fin 1024), y = (ix2 p d : S256x1024.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 256) (d : Fin 1024), y = (ix2 p d : S256x1024.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 256) (d : Fin 1024), y = (ix2 p d : S256x1024.Idx) := ⟨y 0, y 1, by blk_ext []⟩
  refine (pt6 m c t p d).trans ?_
  blk_ext [idxo t, row]

/-! The same results, as the reference has them. -/
abbrev A0 : Vec Ideal S1x512x1024 .f32 := m ((c : Thread nD τ).loc main_arg0)
abbrev A1 : Vec Ideal S1x512x1024 .f32 := m ((c : Thread nD τ).loc main_arg1)
abbrev A2 : Vec Ideal S1x512x1024 .f32 := m ((c : Thread nD τ).loc main_arg2)
abbrev A3 : Vec Ideal S1x512x1024 .f32 := m ((c : Thread nD τ).loc main_arg3)

theorem W0_eq : W0 m c = shapeCast S512x1024 (A0 m c) shapeCasts_S1x512x1024_S512x1024 := by funext i; show (V m c main_v0 : Vec Ideal S512x1024 .f32) i = _; entry_read; rfl
theorem W1_eq : W1 m c = shapeCast S512x1024 (A1 m c) shapeCasts_S1x512x1024_S512x1024 := by funext i; show (V m c main_v1 : Vec Ideal S512x1024 .f32) i = _; entry_read; rfl
theorem W2_eq : W2 m c = shapeCast S512x1024 (A2 m c) shapeCasts_S1x512x1024_S512x1024 := by funext i; show (V m c main_v2 : Vec Ideal S512x1024 .f32) i = _; entry_read; rfl
theorem W3_eq : W3 m c = shapeCast S512x1024 (A3 m c) shapeCasts_S1x512x1024_S512x1024 := by funext i; show (V m c main_v3 : Vec Ideal S512x1024 .f32) i = _; entry_read; rfl

theorem R4_eq : R4 m c = val_main_v24 (F := Ideal) (A0 m c) (A1 m c) (A2 m c) (A3 m c) := by
  unfold R4; rw [W0_eq, W1_eq, W2_eq, W3_eq]; rfl
theorem R5_eq : R5 m c = val_main_v25 (F := Ideal) (A1 m c) (A2 m c) := by
  unfold R5; rw [W1_eq, W2_eq]; rfl
theorem R6_eq : R6 m c = val_main_v26 (F := Ideal) (A1 m c) (A3 m c) := by
  unfold R6; rw [W1_eq, W3_eq]; rfl

end Cert.Kernel6Ideal.Hand

namespace Cert.Hand
open Cert.Kernel6Ideal.Hand Cert.Reference6Ideal.Read

theorem preserves6 : Cert.preserves_Kernel6_Kernel6Ideal :=
  ⟨IdealRules.named_const.statement _ _ _ _ _ rfl, IdealRules.named_const.statement _ _ _ _ _ rfl⟩

theorem algebraic6 : Cert.algebraic_Kernel6Ideal_Reference6Ideal (hKernel6Ideal := Cert.Kernel6Ideal.Gen.facts)
    (hReference6Ideal := Cert.Reference6Ideal.Gen.facts) := by
  intro m g m' g' _ hA
  refine ⟨fun c => R4 m c, fun c => R5 m c, fun c => R6 m c, (θ_run Cert.Kernel6Ideal.defs _ _).mono (fun r h c =>
    ⟨(h c).1.trans (final4 m c), (h c).2.1.trans (final5 m c), (h c).2.2.1.trans (final6 m c), (h c).2.2.2⟩)
    (Cert.Kernel6Ideal.Value.run_blocks m g), ?_⟩
  refine (θ_run Cert.Reference6Ideal.defs _ _).mono (fun r h c => ?_) (Cert.Reference6Ideal.Value.run (F := Ideal) m' g')
  obtain ⟨a0, a1, a2, a3⟩ := hA c
  obtain ⟨r0, r1, r2, hargs⟩ := h c
  rw [val_main_v24_eq, a0, a1, a2, a3] at r0
  rw [val_main_v25_eq, a1, a2] at r1
  rw [val_main_v26_eq, a1, a3] at r2
  exact ⟨r0.trans (R4_eq m c).symm, r1.trans (R5_eq m c).symm, r2.trans (R6_eq m c).symm, hargs⟩

end Cert.Hand
-- ==== Proof.Adam7.lean ====
module

public import proofs.«01_k».proof.Proof.AdamMath
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel7Ideal.Hand
open Cert.Kernel7Ideal Cert.Kernel7Ideal.Gen Cert.Reference7Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S184x1024 .f32) (p : Fin 184) (d : Fin 1024)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S184x1024) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S184x1024) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S184x1024) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S1288x1024 .f32 := V m c main_v3
abbrev W1 : Vec Ideal S1288x1024 .f32 := V m c main_v4
abbrev W2 : Vec Ideal S1288x1024 .f32 := V m c main_v5
abbrev W3 : Vec Ideal S1288x1024 .f32 := V m c main_v6

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 7 := t.isLt
/-- The row of the arrays at row `p` of a point's block. -/
def row (t : Fin cfg0.N) (p : Fin 184) : Fin 1288 := ⟨t.val * 184 + p.val, by have := points t; omega⟩

variable (t : Fin cfg0.N) (p : Fin 184) (d : Fin 1024)
theorem b0_at : (iblk m c 0 t : Vec Ideal S184x1024 .f32) (ix2 p d) = W0 m c (ix2 (row t p) d) := by
  blk_ext [iblk, idx t, row]
theorem b1_at : (iblk m c 1 t : Vec Ideal S184x1024 .f32) (ix2 p d) = W1 m c (ix2 (row t p) d) := by
  blk_ext [iblk, idx t, row]
theorem b2_at : (iblk m c 2 t : Vec Ideal S184x1024 .f32) (ix2 p d) = W2 m c (ix2 (row t p) d) := by
  blk_ext [iblk, idx t, row]
theorem b3_at : (iblk m c 3 t : Vec Ideal S184x1024 .f32) (ix2 p d) = W3 m c (ix2 (row t p) d) := by
  blk_ext [iblk, idx t, row]

/-! The results, of the arrays that the call gets. -/
def R4 : Vec Ideal S1288x1024 .f32 := fun i => dl (W0 m c i) (W1 m c i) (W2 m c i) (W3 m c i)
def R5 : Vec Ideal S1288x1024 .f32 := fun i => mo (W1 m c i) (W2 m c i)
def R6 : Vec Ideal S1288x1024 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 184) (d : Fin 1024), y = (ix2 p d : S184x1024.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 184) (d : Fin 1024), y = (ix2 p d : S184x1024.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 184) (d : Fin 1024), y = (ix2 p d : S184x1024.Idx) := ⟨y 0, y 1, by blk_ext []⟩
  refine (pt6 m c t p d).trans ?_
  blk_ext [idxo t, row]

/-! The same results, as the reference has them. -/
abbrev A0 : Vec Ideal S1x1024x1288 .f32 := m ((c : Thread nD τ).loc main_arg0)
abbrev A1 : Vec Ideal S1x1288x1024 .f32 := m ((c : Thread nD τ).loc main_arg1)
abbrev A2 : Vec Ideal S1x1024x1288 .f32 := m ((c : Thread nD τ).loc main_arg2)
abbrev A3 : Vec Ideal S1x1024x1288 .f32 := m ((c : Thread nD τ).loc main_arg3)

theorem W0_eq : W0 m c = shapeCast S1288x1024 (transpose S1x1288x1024 [0, 2, 1] (A0 m c) transposes_S1x1024x1288_S1x1288x1024_0_2_1) shapeCasts_S1x1288x1024_S1288x1024 := by funext i; show (V m c main_v3 : Vec Ideal S1288x1024 .f32) i = _; entry_read; rfl
theorem W1_eq : W1 m c = shapeCast S1288x1024 (A1 m c) shapeCasts_S1x1288x1024_S1288x1024 := by funext i; show (V m c main_v4 : Vec Ideal S1288x1024 .f32) i = _; entry_read; rfl
theorem W2_eq : W2 m c = shapeCast S1288x1024 (transpose S1x1288x1024 [0, 2, 1] (A2 m c) transposes_S1x1024x1288_S1x1288x1024_0_2_1) shapeCasts_S1x1288x1024_S1288x1024 := by funext i; show (V m c main_v5 : Vec Ideal S1288x1024 .f32) i = _; entry_read; rfl
theorem W3_eq : W3 m c = shapeCast S1288x1024 (transpose S1x1288x1024 [0, 2, 1] (A3 m c) transposes_S1x1024x1288_S1x1288x1024_0_2_1) shapeCasts_S1x1288x1024_S1288x1024 := by funext i; show (V m c main_v6 : Vec Ideal S1288x1024 .f32) i = _; entry_read; rfl

/-- Swapping the gradient's axes back gives the gradient. -/
theorem back (x : Vec Ideal S1x1288x1024 .f32) : x = transpose S1x1288x1024 [0, 2, 1] (val_main_v0 (F := Ideal) x) transposes_S1x1024x1288_S1x1288x1024_0_2_1 := by
  funext i
  unfold val_main_v0
  exact congrArg x (funext fun a => by fin_cases a <;> rfl)

theorem R4_eq : R4 m c = val_main_v26 (F := Ideal) (A0 m c) (A1 m c) (A2 m c) (A3 m c) := by
  unfold R4; rw [W0_eq, (W1_eq m c).trans (congrArg (fun x => shapeCast S1288x1024 x _) (back (A1 m c))), W2_eq, W3_eq]; rfl
theorem R5_eq : R5 m c = val_main_v28 (F := Ideal) (A1 m c) (A2 m c) := by
  unfold R5; rw [(W1_eq m c).trans (congrArg (fun x => shapeCast S1288x1024 x _) (back (A1 m c))), W2_eq]; rfl
theorem R6_eq : R6 m c = val_main_v30 (F := Ideal) (A1 m c) (A3 m c) := by
  unfold R6; rw [(W1_eq m c).trans (congrArg (fun x => shapeCast S1288x1024 x _) (back (A1 m c))), W3_eq]; rfl

end Cert.Kernel7Ideal.Hand

namespace Cert.Hand
open Cert.Kernel7Ideal.Hand Cert.Reference7Ideal.Read

theorem preserves7 : Cert.preserves_Kernel7_Kernel7Ideal :=
  ⟨IdealRules.named_const.statement _ _ _ _ _ rfl, IdealRules.named_const.statement _ _ _ _ _ rfl⟩

theorem algebraic7 : Cert.algebraic_Kernel7Ideal_Reference7Ideal (hKernel7Ideal := Cert.Kernel7Ideal.Gen.facts)
    (hReference7Ideal := Cert.Reference7Ideal.Gen.facts) := by
  intro m g m' g' _ hA
  refine ⟨fun c => R4 m c, fun c => R5 m c, fun c => R6 m c, (θ_run Cert.Kernel7Ideal.defs _ _).mono (fun r h c =>
    ⟨(h c).1.trans (final4 m c), (h c).2.1.trans (final5 m c), (h c).2.2.1.trans (final6 m c), (h c).2.2.2⟩)
    (Cert.Kernel7Ideal.Value.run_blocks m g), ?_⟩
  refine (θ_run Cert.Reference7Ideal.defs _ _).mono (fun r h c => ?_) (Cert.Reference7Ideal.Value.run (F := Ideal) m' g')
  obtain ⟨a0, a1, a2, a3⟩ := hA c
  obtain ⟨r0, r1, r2, hargs⟩ := h c
  rw [val_main_v26_eq, a0, a1, a2, a3] at r0
  rw [val_main_v28_eq, a1, a2] at r1
  rw [val_main_v30_eq, a1, a3] at r2
  exact ⟨r0.trans (R4_eq m c).symm, r1.trans (R5_eq m c).symm, r2.trans (R6_eq m c).symm, hargs⟩

end Cert.Hand
-- ==== Proof.Adam8.lean ====
module

public import proofs.«01_k».proof.Proof.AdamMath
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel8Ideal.Hand
open Cert.Kernel8Ideal Cert.Kernel8Ideal.Gen Cert.Reference8Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S256x1024 .f32) (p : Fin 256) (d : Fin 1024)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S256x1024) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S256x1024) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S256x1024) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S2816x1024 .f32 := V m c main_v0
abbrev W1 : Vec Ideal S2816x1024 .f32 := V m c main_v1
abbrev W2 : Vec Ideal S2816x1024 .f32 := V m c main_v2
abbrev W3 : Vec Ideal S2816x1024 .f32 := V m c main_v3

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 11 := t.isLt
/-- The row of the arrays at row `p` of a point's block. -/
def row (t : Fin cfg0.N) (p : Fin 256) : Fin 2816 := ⟨t.val * 256 + p.val, by have := points t; omega⟩

variable (t : Fin cfg0.N) (p : Fin 256) (d : Fin 1024)
theorem b0_at : (iblk m c 0 t : Vec Ideal S256x1024 .f32) (ix2 p d) = W0 m c (ix2 (row t p) d) := by
  blk_ext [iblk, idx t, row]
theorem b1_at : (iblk m c 1 t : Vec Ideal S256x1024 .f32) (ix2 p d) = W1 m c (ix2 (row t p) d) := by
  blk_ext [iblk, idx t, row]
theorem b2_at : (iblk m c 2 t : Vec Ideal S256x1024 .f32) (ix2 p d) = W2 m c (ix2 (row t p) d) := by
  blk_ext [iblk, idx t, row]
theorem b3_at : (iblk m c 3 t : Vec Ideal S256x1024 .f32) (ix2 p d) = W3 m c (ix2 (row t p) d) := by
  blk_ext [iblk, idx t, row]

/-! The results, of the arrays that the call gets. -/
def R4 : Vec Ideal S2816x1024 .f32 := fun i => dl (W0 m c i) (W1 m c i) (W2 m c i) (W3 m c i)
def R5 : Vec Ideal S2816x1024 .f32 := fun i => mo (W1 m c i) (W2 m c i)
def R6 : Vec Ideal S2816x1024 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 256) (d : Fin 1024), y = (ix2 p d : S256x1024.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 256) (d : Fin 1024), y = (ix2 p d : S256x1024.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 256) (d : Fin 1024), y = (ix2 p d : S256x1024.Idx) := ⟨y 0, y 1, by blk_ext []⟩
  refine (pt6 m c t p d).trans ?_
  blk_ext [idxo t, row]

/-! The same results, as the reference has them. -/
abbrev A0 : Vec Ideal S2x2x704x1024 .f32 := m ((c : Thread nD τ).loc main_arg0)
abbrev A1 : Vec Ideal S2x2x704x1024 .f32 := m ((c : Thread nD τ).loc main_arg1)
abbrev A2 : Vec Ideal S2x2x704x1024 .f32 := m ((c : Thread nD τ).loc main_arg2)
abbrev A3 : Vec Ideal S2x2x704x1024 .f32 := m ((c : Thread nD τ).loc main_arg3)

theorem W0_eq : W0 m c = shapeCast S2816x1024 (A0 m c) shapeCasts_S2x2x704x1024_S2816x1024 := by funext i; show (V m c main_v0 : Vec Ideal S2816x1024 .f32) i = _; entry_read; rfl
theorem W1_eq : W1 m c = shapeCast S2816x1024 (A1 m c) shapeCasts_S2x2x704x1024_S2816x1024 := by funext i; show (V m c main_v1 : Vec Ideal S2816x1024 .f32) i = _; entry_read; rfl
theorem W2_eq : W2 m c = shapeCast S2816x1024 (A2 m c) shapeCasts_S2x2x704x1024_S2816x1024 := by funext i; show (V m c main_v2 : Vec Ideal S2816x1024 .f32) i = _; entry_read; rfl
theorem W3_eq : W3 m c = shapeCast S2816x1024 (A3 m c) shapeCasts_S2x2x704x1024_S2816x1024 := by funext i; show (V m c main_v3 : Vec Ideal S2816x1024 .f32) i = _; entry_read; rfl

theorem R4_eq : R4 m c = val_main_v24 (F := Ideal) (A0 m c) (A1 m c) (A2 m c) (A3 m c) := by
  unfold R4; rw [W0_eq, W1_eq, W2_eq, W3_eq]; rfl
theorem R5_eq : R5 m c = val_main_v25 (F := Ideal) (A1 m c) (A2 m c) := by
  unfold R5; rw [W1_eq, W2_eq]; rfl
theorem R6_eq : R6 m c = val_main_v26 (F := Ideal) (A1 m c) (A3 m c) := by
  unfold R6; rw [W1_eq, W3_eq]; rfl

end Cert.Kernel8Ideal.Hand

namespace Cert.Hand
open Cert.Kernel8Ideal.Hand Cert.Reference8Ideal.Read

theorem preserves8 : Cert.preserves_Kernel8_Kernel8Ideal :=
  ⟨IdealRules.named_const.statement _ _ _ _ _ rfl, IdealRules.named_const.statement _ _ _ _ _ rfl⟩

theorem algebraic8 : Cert.algebraic_Kernel8Ideal_Reference8Ideal (hKernel8Ideal := Cert.Kernel8Ideal.Gen.facts)
    (hReference8Ideal := Cert.Reference8Ideal.Gen.facts) := by
  intro m g m' g' _ hA
  refine ⟨fun c => R4 m c, fun c => R5 m c, fun c => R6 m c, (θ_run Cert.Kernel8Ideal.defs _ _).mono (fun r h c =>
    ⟨(h c).1.trans (final4 m c), (h c).2.1.trans (final5 m c), (h c).2.2.1.trans (final6 m c), (h c).2.2.2⟩)
    (Cert.Kernel8Ideal.Value.run_blocks m g), ?_⟩
  refine (θ_run Cert.Reference8Ideal.defs _ _).mono (fun r h c => ?_) (Cert.Reference8Ideal.Value.run (F := Ideal) m' g')
  obtain ⟨a0, a1, a2, a3⟩ := hA c
  obtain ⟨r0, r1, r2, hargs⟩ := h c
  rw [val_main_v24_eq, a0, a1, a2, a3] at r0
  rw [val_main_v25_eq, a1, a2] at r1
  rw [val_main_v26_eq, a1, a3] at r2
  exact ⟨r0.trans (R4_eq m c).symm, r1.trans (R5_eq m c).symm, r2.trans (R6_eq m c).symm, hargs⟩

end Cert.Hand
-- ==== Proof.Adam9.lean ====
module

public import proofs.«01_k».proof.Proof.AdamMath
public import proofs.«01_k».proof.Proof.Gen.Kernel9.Frame
public import proofs.«01_k».proof.Proof.Gen.Kernel9Ideal.Value
public import proofs.«01_k».proof.Proof.Gen.Reference9Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel9Ideal.Hand
open Cert.Kernel9Ideal Cert.Kernel9Ideal.Gen Cert.Reference9Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S256x1024 .f32) (p : Fin 256) (d : Fin 1024)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S256x1024) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S256x1024) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S256x1024) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S2816x1024 .f32 := V m c main_v3
abbrev W1 : Vec Ideal S2816x1024 .f32 := V m c main_v4
abbrev W2 : Vec Ideal S2816x1024 .f32 := V m c main_v5
abbrev W3 : Vec Ideal S2816x1024 .f32 := V m c main_v6

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 11 := t.isLt
/-- The row of the arrays at row `p` of a point's block. -/
def row (t : Fin cfg0.N) (p : Fin 256) : Fin 2816 := ⟨t.val * 256 + p.val, by have := points t; omega⟩

variable (t : Fin cfg0.N) (p : Fin 256) (d : Fin 1024)
theorem b0_at : (iblk m c 0 t : Vec Ideal S256x1024 .f32) (ix2 p d) = W0 m c (ix2 (row t p) d) := by
  blk_ext [iblk, idx t, row]
theorem b1_at : (iblk m c 1 t : Vec Ideal S256x1024 .f32) (ix2 p d) = W1 m c (ix2 (row t p) d) := by
  blk_ext [iblk, idx t, row]
theorem b2_at : (iblk m c 2 t : Vec Ideal S256x1024 .f32) (ix2 p d) = W2 m c (ix2 (row t p) d) := by
  blk_ext [iblk, idx t, row]
theorem b3_at : (iblk m c 3 t : Vec Ideal S256x1024 .f32) (ix2 p d) = W3 m c (ix2 (row t p) d) := by
  blk_ext [iblk, idx t, row]

/-! The results, of the arrays that the call gets. -/
def R4 : Vec Ideal S2816x1024 .f32 := fun i => dl (W0 m c i) (W1 m c i) (W2 m c i) (W3 m c i)
def R5 : Vec Ideal S2816x1024 .f32 := fun i => mo (W1 m c i) (W2 m c i)
def R6 : Vec Ideal S2816x1024 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 256) (d : Fin 1024), y = (ix2 p d : S256x1024.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 256) (d : Fin 1024), y = (ix2 p d : S256x1024.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 256) (d : Fin 1024), y = (ix2 p d : S256x1024.Idx) := ⟨y 0, y 1, by blk_ext []⟩
  refine (pt6 m c t p d).trans ?_
  blk_ext [idxo t, row]

/-! The same results, as the reference has them. -/
abbrev A0 : Vec Ideal S2x2x1024x704 .f32 := m ((c : Thread nD τ).loc main_arg0)
abbrev A1 : Vec Ideal S2x2x704x1024 .f32 := m ((c : Thread nD τ).loc main_arg1)
abbrev A2 : Vec Ideal S2x2x1024x704 .f32 := m ((c : Thread nD τ).loc main_arg2)
abbrev A3 : Vec Ideal S2x2x1024x704 .f32 := m ((c : Thread nD τ).loc main_arg3)

theorem W0_eq : W0 m c = shapeCast S2816x1024 (transpose S2x2x704x1024 [0, 1, 3, 2] (A0 m c) transposes_S2x2x1024x704_S2x2x704x1024_0_1_3_2) shapeCasts_S2x2x704x1024_S2816x1024 := by funext i; show (V m c main_v3 : Vec Ideal S2816x1024 .f32) i = _; entry_read; rfl
theorem W1_eq : W1 m c = shapeCast S2816x1024 (A1 m c) shapeCasts_S2x2x704x1024_S2816x1024 := by funext i; show (V m c main_v4 : Vec Ideal S2816x1024 .f32) i = _; entry_read; rfl
theorem W2_eq : W2 m c = shapeCast S2816x1024 (transpose S2x2x704x1024 [0, 1, 3, 2] (A2 m c) transposes_S2x2x1024x704_S2x2x704x1024_0_1_3_2) shapeCasts_S2x2x704x1024_S2816x1024 := by funext i; show (V m c main_v5 : Vec Ideal S2816x1024 .f32) i = _; entry_read; rfl
theorem W3_eq : W3 m c = shapeCast S2816x1024 (transpose S2x2x704x1024 [0, 1, 3, 2] (A3 m c) transposes_S2x2x1024x704_S2x2x704x1024_0_1_3_2) shapeCasts_S2x2x704x1024_S2816x1024 := by funext i; show (V m c main_v6 : Vec Ideal S2816x1024 .f32) i = _; entry_read; rfl

/-- Swapping the gradient's axes back gives the gradient. -/
theorem back (x : Vec Ideal S2x2x704x1024 .f32) : x = transpose S2x2x704x1024 [0, 1, 3, 2] (val_main_v0 (F := Ideal) x) transposes_S2x2x1024x704_S2x2x704x1024_0_1_3_2 := by
  funext i
  unfold val_main_v0
  exact congrArg x (funext fun a => by fin_cases a <;> rfl)

theorem R4_eq : R4 m c = val_main_v26 (F := Ideal) (A0 m c) (A1 m c) (A2 m c) (A3 m c) := by
  unfold R4; rw [W0_eq, (W1_eq m c).trans (congrArg (fun x => shapeCast S2816x1024 x _) (back (A1 m c))), W2_eq, W3_eq]; rfl
theorem R5_eq : R5 m c = val_main_v28 (F := Ideal) (A1 m c) (A2 m c) := by
  unfold R5; rw [(W1_eq m c).trans (congrArg (fun x => shapeCast S2816x1024 x _) (back (A1 m c))), W2_eq]; rfl
theorem R6_eq : R6 m c = val_main_v30 (F := Ideal) (A1 m c) (A3 m c) := by
  unfold R6; rw [(W1_eq m c).trans (congrArg (fun x => shapeCast S2816x1024 x _) (back (A1 m c))), W3_eq]; rfl

end Cert.Kernel9Ideal.Hand

namespace Cert.Hand
open Cert.Kernel9Ideal.Hand Cert.Reference9Ideal.Read

theorem preserves9 : Cert.preserves_Kernel9_Kernel9Ideal :=
  ⟨IdealRules.named_const.statement _ _ _ _ _ rfl, IdealRules.named_const.statement _ _ _ _ _ rfl⟩

theorem algebraic9 : Cert.algebraic_Kernel9Ideal_Reference9Ideal (hKernel9Ideal := Cert.Kernel9Ideal.Gen.facts)
    (hReference9Ideal := Cert.Reference9Ideal.Gen.facts) := by
  intro m g m' g' _ hA
  refine ⟨fun c => R4 m c, fun c => R5 m c, fun c => R6 m c, (θ_run Cert.Kernel9Ideal.defs _ _).mono (fun r h c =>
    ⟨(h c).1.trans (final4 m c), (h c).2.1.trans (final5 m c), (h c).2.2.1.trans (final6 m c), (h c).2.2.2⟩)
    (Cert.Kernel9Ideal.Value.run_blocks m g), ?_⟩
  refine (θ_run Cert.Reference9Ideal.defs _ _).mono (fun r h c => ?_) (Cert.Reference9Ideal.Value.run (F := Ideal) m' g')
  obtain ⟨a0, a1, a2, a3⟩ := hA c
  obtain ⟨r0, r1, r2, hargs⟩ := h c
  rw [val_main_v26_eq, a0, a1, a2, a3] at r0
  rw [val_main_v28_eq, a1, a2] at r1
  rw [val_main_v30_eq, a1, a3] at r2
  exact ⟨r0.trans (R4_eq m c).symm, r1.trans (R5_eq m c).symm, r2.trans (R6_eq m c).symm, hargs⟩

end Cert.Hand
-- ==== Proof.Adam10Rows.lean ====
module

public import proofs.«01_k».proof.Proof.AdamMath
public import proofs.«01_k».proof.Proof.Gen.Kernel10.Frame
public import proofs.«01_k».proof.Proof.Gen.Kernel10Ideal.Value
public import proofs.«01_k».proof.Proof.Gen.Reference10Ideal.Read
public import Idealize.ShloMosaic.Lib.Pipeline.ValueKit
public import proofs.«01_k».proof.Defs

@[expose] public section

set_option maxRecDepth 16384
noncomputable section
open Idealize.ShloMosaic Idealize.ShloMosaic.TcCoe Idealize.SL.Sem
namespace Cert.Kernel10Ideal.Hand
open Cert.Kernel10Ideal Cert.Kernel10Ideal.Gen Cert.Reference10Ideal.Read Cert.Adam

theorem c1 : (Named.named κ "c1" 0x3FC48605#32 : Ideal .f32) = ((8388608 / 5463681 : ℝ) : EReal) :=
  IdealRules.named_const.ideal_named_scalar _ _ _ _ rfl
theorem c2 : (Named.named κ "c2" 0x42C8E6D3#32 : Ideal .f32) = ((268435456 / 2672307 : ℝ) : EReal) :=
  IdealRules.named_const.ideal_named_scalar _ _ _ _ rfl

/-! What the body leaves in a block, entry by entry. -/
section
variable (x0 x1 x2 x3 : Vec Ideal S88x128 .f32) (p : Fin 88) (d : Fin 128)
theorem hz : (![0, 0] : Fin 2 → Nat) = fun _ => 0 := funext fun a => by fin_cases a <;> rfl
theorem out5_at : out0_5 x0 x1 x2 x3 (ix2 p d) = mo (x1 (ix2 p d)) (x2 (ix2 p d)) := by
  unfold out0_5
  rw [View.canon_unit_zero hz]
  simp only [View.ld_unit_zero (S := S88x128) hz]
  pointwise [k0_pay2, k0_pay1]
  rfl
theorem out6_at : out0_6 x0 x1 x2 x3 (ix2 p d) = vo (x1 (ix2 p d)) (x3 (ix2 p d)) := by
  unfold out0_6
  rw [View.canon_unit_zero hz]
  simp only [View.ld_unit_zero (S := S88x128) hz]
  pointwise [k0_pay3, k0_pay1]
  rfl
theorem out4_at : out0_4 x0 x1 x2 x3 (ix2 p d) = dl (x0 (ix2 p d)) (x1 (ix2 p d)) (x2 (ix2 p d)) (x3 (ix2 p d)) := by
  unfold out0_4
  rw [View.canon_unit_zero hz]
  simp only [View.ld_unit_zero (S := S88x128) hz]
  pointwise [k0_pay4, k0_pay2, k0_pay3, k0_pay1]
  rw [c1, c2, ← dl_eq]
  rfl
end

variable (m : (ℓ : Loc nD τ sig) → Buf (Elt Ideal) ℓ) (c : Dev nD)

/-! The arrays that the call gets. -/
abbrev W0 : Vec Ideal S88x128 .f32 := V m c main_v12
abbrev W1 : Vec Ideal S88x128 .f32 := V m c main_v25
abbrev W2 : Vec Ideal S88x128 .f32 := V m c main_v38
abbrev W3 : Vec Ideal S88x128 .f32 := V m c main_v51

/-! The blocks of a point, as entries of the arrays. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem idxo : ∀ t : Fin cfg0.N, win0_4.index t = ![t.val, 0] ∧ win0_5.index t = ![t.val, 0] ∧ win0_6.index t = ![t.val, 0] :=
  (by decide +kernel : ∀ t : Fin grid0.N, _)
theorem points (t : Fin cfg0.N) : t.val < 1 := t.isLt
/-- The row of the arrays at row `p` of a point's block. -/
def row (t : Fin cfg0.N) (p : Fin 88) : Fin 88 := ⟨t.val * 88 + p.val, by have := points t; omega⟩

variable (t : Fin cfg0.N) (p : Fin 88) (d : Fin 128)
theorem b0_at : (iblk m c 0 t : Vec Ideal S88x128 .f32) (ix2 p d) = W0 m c (ix2 (row t p) d) := by
  blk_ext [iblk, idx t, row]
theorem b1_at : (iblk m c 1 t : Vec Ideal S88x128 .f32) (ix2 p d) = W1 m c (ix2 (row t p) d) := by
  blk_ext [iblk, idx t, row]
theorem b2_at : (iblk m c 2 t : Vec Ideal S88x128 .f32) (ix2 p d) = W2 m c (ix2 (row t p) d) := by
  blk_ext [iblk, idx t, row]
theorem b3_at : (iblk m c 3 t : Vec Ideal S88x128 .f32) (ix2 p d) = W3 m c (ix2 (row t p) d) := by
  blk_ext [iblk, idx t, row]

/-! The results, of the arrays that the call gets. -/
def R4 : Vec Ideal S88x128 .f32 := fun i => dl (W0 m c i) (W1 m c i) (W2 m c i) (W3 m c i)
def R5 : Vec Ideal S88x128 .f32 := fun i => mo (W1 m c i) (W2 m c i)
def R6 : Vec Ideal S88x128 .f32 := fun i => vo (W1 m c i) (W3 m c i)

theorem pt4 : out0_4 (iblk m c 0 t) (iblk m c 1 t) (iblk m c 2 t) (iblk m c 3 t) (ix2 p d) = R4 m c (ix2 (row t p) d) := by
  rw [out4_at, b0_at, b1_at, b2_at, b3_at, R4]
theorem pt5 : out0_5 (iblk m c 0 t) (iblk m c 1 t) (iblk m c 2 t) (iblk m c 3 t) (ix2 p d) = R5 m c (ix2 (row t p) d) := by
  rw [out5_at, b1_at, b2_at, R5]
theorem pt6 : out0_6 (iblk m c 0 t) (iblk m c 1 t) (iblk m c 2 t) (iblk m c 3 t) (ix2 p d) = R6 m c (ix2 (row t p) d) := by
  rw [out6_at, b1_at, b3_at, R6]

theorem final4 : (dats m 0 c).arrAt 4 (cfgs 0).N = R4 m c := by
  refine (dats m 0 c).arrAt_eq_of_covers 4 _ (by decide +kernel) fun t hf y => ?_
  blk_simp
  rw [after0_4]
  obtain ⟨p, d, rfl⟩ : ∃ (p : Fin 88) (d : Fin 128), y = (ix2 p d : S88x128.Idx) := ⟨y 0, y 1, by blk_ext []⟩
  refine (pt4 m c t p d).trans ?_
  blk_ext [idxo t, row]
theorem final5 : (dats m 0 c).arrAt 5 (cfgs 0).N = R5 m c := by
  refine (dats m 0 c).arrAt_eq_of_covers 5 _ (by decide +kernel) fun t hf y => ?_
  blk_simp
  rw [after0_5]
  obtain ⟨p, d, rfl⟩ : ∃ (p : Fin 88) (d : Fin 128), y = (ix2 p d : S88x128.Idx) := ⟨y 0, y 1, by blk_ext []⟩
  refine (pt5 m c t p d).trans ?_
  blk_ext [idxo t, row]
theorem final6 : (dats m 0 c).arrAt 6 (cfgs 0).N = R6 m c := by
  refine (dats m 0 c).arrAt_eq_of_covers 6 _ (by decide +kernel) fun t hf y => ?_
  blk_simp
  rw [after0_6]
  obtain ⟨p, d, rfl⟩ : ∃ (p : Fin 88) (d : Fin 128), y = (ix2 p d : S88x128.Idx) := ⟨y 0, y 1, by blk_ext []⟩
  refine (pt6 m c t p d).trans ?_
  blk_ext [idxo t, row]

/-! The same results, as the reference has them. -/
abbrev A (b : Ref sig .tc) : Buf (Elt Ideal) ((c : Thread nD τ).loc b) := m ((c : Thread nD τ).loc b)

theorem W0_eq : W0 m c = val_main_v12 (F := Ideal)
      (A m c main_arg0) (A m c main_arg1) (A m c main_arg2) (A m c main_arg3) (A m c main_arg4) (A m c main_arg5) (A m c main_arg6)
      (A m c main_arg7) (A m c main_arg8) (A m c main_arg9) (A m c main_arg10) (A m c main_arg11) (A m c main_arg12) (A m c main_arg13) := by
  funext i; show (V m c main_v12 : Vec Ideal S88x128 .f32) i = _; entry_read; rfl
theorem W1_eq : W1 m c = val_main_v25 (F := Ideal)
      (A m c main_arg14) (A m c main_arg15) (A m c main_arg16) (A m c main_arg17) (A m c main_arg18) (A m c main_arg19) (A m c main_arg20)
      (A m c main_arg21) (A m c main_arg22) (A m c main_arg23) (A m c main_arg24) (A m c main_arg25) (A m c main_arg26) (A m c main_arg27) := by
  funext i; show (V m c main_v25 : Vec Ideal S88x128 .f32) i = _; entry_read; rfl
theorem W2_eq : W2 m c = val_main_v38 (F := Ideal)
      (A m c main_arg28) (A m c main_arg29) (A m c main_arg30) (A m c main_arg31) (A m c main_arg32) (A m c main_arg33) (A m c main_arg34)
      (A m c main_arg35) (A m c main_arg36) (A m c main_arg37) (A m c main_arg38) (A m c main_arg39) (A m c main_arg40) (A m c main_arg41) := by
  funext i; show (V m c main_v38 : Vec Ideal S88x128 .f32) i = _; entry_read; rfl
theorem W3_eq : W3 m c = val_main_v51 (F := Ideal)
      (A m c main_arg42) (A m c main_arg43) (A m c main_arg44) (A m c main_arg45) (A m c main_arg46) (A m c main_arg47) (A m c main_arg48)
      (A m c main_arg49) (A m c main_arg50) (A m c main_arg51) (A m c main_arg52) (A m c main_arg53) (A m c main_arg54) (A m c main_arg55) := by
  funext i; show (V m c main_v51 : Vec Ideal S88x128 .f32) i = _; entry_read; rfl

theorem R4_eq : R4 m c = val_main_v75 (F := Ideal)
      (A m c main_arg0) (A m c main_arg1) (A m c main_arg2) (A m c main_arg3) (A m c main_arg4) (A m c main_arg5) (A m c main_arg6)
      (A m c main_arg7) (A m c main_arg8) (A m c main_arg9) (A m c main_arg10) (A m c main_arg11) (A m c main_arg12) (A m c main_arg13)
      (A m c main_arg14) (A m c main_arg15) (A m c main_arg16) (A m c main_arg17) (A m c main_arg18) (A m c main_arg19) (A m c main_arg20)
      (A m c main_arg21) (A m c main_arg22) (A m c main_arg23) (A m c main_arg24) (A m c main_arg25) (A m c main_arg26) (A m c main_arg27)
      (A m c main_arg28) (A m c main_arg29) (A m c main_arg30) (A m c main_arg31) (A m c main_arg32) (A m c main_arg33) (A m c main_arg34)
      (A m c main_arg35) (A m c main_arg36) (A m c main_arg37) (A m c main_arg38) (A m c main_arg39) (A m c main_arg40) (A m c main_arg41)
      (A m c main_arg42) (A m c main_arg43) (A m c main_arg44) (A m c main_arg45) (A m c main_arg46) (A m c main_arg47) (A m c main_arg48)
      (A m c main_arg49) (A m c main_arg50) (A m c main_arg51) (A m c main_arg52) (A m c main_arg53) (A m c main_arg54) (A m c main_arg55) := by
  unfold R4; rw [W0_eq, W1_eq, W2_eq, W3_eq]; rfl
theorem R5_eq : R5 m c = val_main_v56 (F := Ideal)
      (A m c main_arg14) (A m c main_arg15) (A m c main_arg16) (A m c main_arg17) (A m c main_arg18) (A m c main_arg19) (A m c main_arg20)
      (A m c main_arg21) (A m c main_arg22) (A m c main_arg23) (A m c main_arg24) (A m c main_arg25) (A m c main_arg26) (A m c main_arg27)
      (A m c main_arg28) (A m c main_arg29) (A m c main_arg30) (A m c main_arg31) (A m c main_arg32) (A m c main_arg33) (A m c main_arg34)
      (A m c main_arg35) (A m c main_arg36) (A m c main_arg37) (A m c main_arg38) (A m c main_arg39) (A m c main_arg40) (A m c main_arg41) := by
  unfold R5; rw [W1_eq, W2_eq]; rfl
theorem R6_eq : R6 m c = val_main_v62 (F := Ideal)
      (A m c main_arg14) (A m c main_arg15) (A m c main_arg16) (A m c main_arg17) (A m c main_arg18) (A m c main_arg19) (A m c main_arg20)
      (A m c main_arg21) (A m c main_arg22) (A m c main_arg23) (A m c main_arg24) (A m c main_arg25) (A m c main_arg26) (A m c main_arg27)
      (A m c main_arg42) (A m c main_arg43) (A m c main_arg44) (A m c main_arg45) (A m c main_arg46) (A m c main_arg47) (A m c main_arg48)
      (A m c main_arg49) (A m c main_arg50) (A m c main_arg51) (A m c main_arg52) (A m c main_arg53) (A m c main_arg54) (A m c main_arg55) := by
  unfold R6; rw [W1_eq, W3_eq]; rfl

end Cert.Kernel10Ideal.Hand
-- ==== Proof.Adam10.lean ====
module

public import proofs.«01_k».proof.Proof.Adam10Rows

@[expose] public section

set_option maxRecDepth 16384
noncomputable section
open Idealize.ShloMosaic Idealize.ShloMosaic.TcCoe Idealize.SL.Sem
namespace Cert.Hand
open Cert.Kernel10Ideal.Hand Cert.Reference10Ideal.Read

theorem preserves10 : Cert.preserves_Kernel10_Kernel10Ideal :=
  ⟨IdealRules.named_const.statement _ _ _ _ _ rfl, IdealRules.named_const.statement _ _ _ _ _ rfl⟩

theorem algebraic10 : Cert.algebraic_Kernel10Ideal_Reference10Ideal (hKernel10Ideal := Cert.Kernel10Ideal.Gen.facts)
    (hReference10Ideal := Cert.Reference10Ideal.Gen.facts) := by
  intro m g m' g' _ hA
  refine ⟨fun c => R4 m c, fun c => R5 m c, fun c => R6 m c, (θ_run Cert.Kernel10Ideal.defs _ _).mono (fun r h c =>
    ⟨(h c).1.trans (final4 m c), (h c).2.1.trans (final5 m c), (h c).2.2.1.trans (final6 m c), (h c).2.2.2⟩)
    (Cert.Kernel10Ideal.Value.run_blocks m g), ?_⟩
  refine (θ_run Cert.Reference10Ideal.defs _ _).mono (fun r h c => ?_) (Cert.Reference10Ideal.Value.run (F := Ideal) m' g')
  have h4 : Cert.Reference10Ideal.Value.res_main_v75 m' c = R4 m c := by
    rw [val_main_v75_eq, R4_eq]; simp only [hA c]
  have h5 : Cert.Reference10Ideal.Value.res_main_v56 m' c = R5 m c := by
    rw [val_main_v56_eq, R5_eq]; simp only [hA c]
  have h6 : Cert.Reference10Ideal.Value.res_main_v62 m' c = R6 m c := by
    rw [val_main_v62_eq, R6_eq]; simp only [hA c]
  obtain ⟨r0, r1, r2, hargs⟩ := h c
  exact ⟨r0.trans h4, r1.trans h5, r2.trans h6, hargs⟩

end Cert.Hand
-- ==== Proof.lean ====
module

public import proofs.«01_k».proof.Defs
public import proofs.«01_k».proof.Proof.Twin
public import proofs.«01_k».proof.Proof.Agree
public import proofs.«01_k».proof.Proof.FwdTwin
public import proofs.«01_k».proof.Proof.FwdFinal
public import proofs.«01_k».proof.Proof.Gen.Kernel3.Frame
public import proofs.«01_k».proof.Proof.AttnFinal
public import proofs.«01_k».proof.Proof.Adam4
public import proofs.«01_k».proof.Proof.Adam5
public import proofs.«01_k».proof.Proof.Adam6
public import proofs.«01_k».proof.Proof.Adam7
public import proofs.«01_k».proof.Proof.Adam8
public import proofs.«01_k».proof.Proof.Adam9
public import proofs.«01_k».proof.Proof.Adam10
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite_scores.Gen.facts,
  Cert.Kernel.Hand.frame_kernel, fun m ρ _ => Cert.KernelIdeal.Hand.frame_all m ρ,
  fun m ρ _ => Cert.KernelIdeal.Hand.frame_all m ρ,
  fun m ρ _ => (θ_run Cert.ReferenceIdeal.defs _ _).mono
    (fun r h => ⟨fun c => by simp only [h c, true_and], Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => by simp only [h c, true_and], Idealize.ShloMosaic.sem_eq_zero_of_no_sems (by decide) r.2⟩)
    (Cert.ReferenceIdeal.Value.run (F := Ideal) m ρ),
  Cert.Kernel2.Hand.frame_kernel, fun m ρ _ => Cert.Kernel2Ideal.Gen.frame m ρ,
  fun m ρ _ => (θ_run Cert.Reference2Ideal.defs _ _).mono
    (fun r h => ⟨fun c => by simp only [h c, true_and], Idealize.ShloMosaic.sem_eq_zero_of_no_sems (by decide) r.2⟩)
    (Cert.Reference2Ideal.Value.run (F := Ideal) m ρ),
  fun m ρ _ => Cert.Kernel3.Gen.frame m ρ, fun m ρ _ => Cert.Kernel3Ideal.Gen.frame m ρ, fun m ρ _ => Cert.Kernel3Ideal.Gen.frame m ρ,
  fun m ρ _ => (θ_run Cert.Reference3Ideal.defs _ _).mono
    (fun r h => ⟨fun c => by simp only [h c, true_and], Idealize.ShloMosaic.sem_eq_zero_of_no_sems (by decide) r.2⟩)
    (Cert.Reference3Ideal.Value.run (F := Ideal) m ρ),
  fun m ρ _ => (θ_run Cert.Reference3Ideal.defs _ _).mono
    (fun r h => ⟨fun c => by simp only [h c, true_and], Idealize.ShloMosaic.sem_eq_zero_of_no_sems (by decide) r.2⟩)
    (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono
    (fun r h => ⟨fun c => by simp only [h c, true_and], Idealize.ShloMosaic.sem_eq_zero_of_no_sems (by decide) r.2⟩)
    (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono
    (fun r h => ⟨fun c => by simp only [h c, true_and], Idealize.ShloMosaic.sem_eq_zero_of_no_sems (by decide) r.2⟩)
    (Cert.Reference5Ideal.Value.run (F := Ideal) m ρ),
  fun m ρ _ => Cert.Kernel6.Gen.frame m ρ, fun m ρ _ => Cert.Kernel6Ideal.Gen.frame m ρ,
  fun m ρ _ => (θ_run Cert.Reference6Ideal.defs _ _).mono
    (fun r h => ⟨fun c => by simp only [h c, true_and], Idealize.ShloMosaic.sem_eq_zero_of_no_sems (by decide) r.2⟩)
    (Cert.Reference6Ideal.Value.run (F := Ideal) m ρ),
  fun m ρ _ => Cert.Kernel7.Gen.frame m ρ, fun m ρ _ => Cert.Kernel7Ideal.Gen.frame m ρ,
  fun m ρ _ => (θ_run Cert.Reference7Ideal.defs _ _).mono
    (fun r h => ⟨fun c => by simp only [h c, true_and], Idealize.ShloMosaic.sem_eq_zero_of_no_sems (by decide) r.2⟩)
    (Cert.Reference7Ideal.Value.run (F := Ideal) m ρ),
  fun m ρ _ => Cert.Kernel8.Gen.frame m ρ, fun m ρ _ => Cert.Kernel8Ideal.Gen.frame m ρ,
  fun m ρ _ => (θ_run Cert.Reference8Ideal.defs _ _).mono
    (fun r h => ⟨fun c => by simp only [h c, true_and], Idealize.ShloMosaic.sem_eq_zero_of_no_sems (by decide) r.2⟩)
    (Cert.Reference8Ideal.Value.run (F := Ideal) m ρ),
  fun m ρ _ => Cert.Kernel9.Gen.frame m ρ, fun m ρ _ => Cert.Kernel9Ideal.Gen.frame m ρ,
  fun m ρ _ => (θ_run Cert.Reference9Ideal.defs _ _).mono
    (fun r h => ⟨fun c => by simp only [h c, true_and], Idealize.ShloMosaic.sem_eq_zero_of_no_sems (by decide) r.2⟩)
    (Cert.Reference9Ideal.Value.run (F := Ideal) m ρ),
  fun m ρ _ => Cert.Kernel10.Gen.frame m ρ, fun m ρ _ => Cert.Kernel10Ideal.Gen.frame m ρ,
  fun m ρ _ => (θ_run Cert.Reference10Ideal.defs _ _).mono
    (fun r h => ⟨fun c => by simp only [h c, true_and], Idealize.ShloMosaic.sem_eq_zero_of_no_sems (by decide) r.2⟩)
    (Cert.Reference10Ideal.Value.run (F := Ideal) m ρ),
  trivial, Cert.Hand.algebraic, trivial, Cert.Hand.algebraic2, Cert.Hand.preserves3, Cert.Hand.algebraic3,
  Cert.Hand.preserves4, Cert.Hand.algebraic4,
  Cert.Hand.preserves5, Cert.Hand.algebraic5,
  Cert.Hand.preserves6, Cert.Hand.algebraic6,
  Cert.Hand.preserves7, Cert.Hand.algebraic7,
  Cert.Hand.preserves8, Cert.Hand.algebraic8,
  Cert.Hand.preserves9, Cert.Hand.algebraic9,
  Cert.Hand.preserves10, Cert.Hand.algebraic10⟩

end Cert.Proof

end
